-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite [hPre_finite : Cert.Pre_finite.Facts] (m : (ℓ : Loc Cert.FoxIdeal.nD Cert.FoxIdeal.τ Cert.FoxIdeal.sig) → Buf (Elt Ideal) ℓ) : Prop :=
  ∀ c : Dev Cert.FoxIdeal.nD,
    (Cert.Pre_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite [hPre_finite : Cert.Pre_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_SampleFfn (m : (ℓ : Loc Cert.SampleFfn.nD Cert.SampleFfn.τ Cert.SampleFfn.sig) → Buf (Elt Bits) ℓ) : Prop :=
  True

def Pre_SampleFfnIdeal (m : (ℓ : Loc Cert.SampleFfnIdeal.nD Cert.SampleFfnIdeal.τ Cert.SampleFfnIdeal.sig) → Buf (Elt Ideal) ℓ) : Prop :=
  True

def Pre_SampleFfnRefIdeal (m : (ℓ : Loc Cert.SampleFfnRefIdeal.nD Cert.SampleFfnRefIdeal.τ Cert.SampleFfnRefIdeal.sig) → Buf (Elt Ideal) ℓ) : Prop :=
  True

def Pre_SampleProj (m : (ℓ : Loc Cert.SampleProj.nD Cert.SampleProj.τ Cert.SampleProj.sig) → Buf (Elt Bits) ℓ) : Prop :=
  True

def Pre_SampleProjIdeal (m : (ℓ : Loc Cert.SampleProjIdeal.nD Cert.SampleProjIdeal.τ Cert.SampleProjIdeal.sig) → Buf (Elt Ideal) ℓ) : Prop :=
  True

def Pre_SampleProjRefIdeal (m : (ℓ : Loc Cert.SampleProjRefIdeal.nD Cert.SampleProjRefIdeal.τ Cert.SampleProjRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def Pre_MobaIdeal_finite_moba [hPre_finite_moba : Cert.Pre_finite_moba.Facts] (m : (ℓ : Loc Cert.MobaIdeal.nD Cert.MobaIdeal.τ Cert.MobaIdeal.sig) → Buf (Elt Ideal) ℓ) : Prop :=
  ∀ c : Dev Cert.MobaIdeal.nD,
    (Cert.Pre_finite_moba.fn (F := Ideal) (m ((c.tc : Thread Cert.MobaIdeal.nD Cert.MobaIdeal.τ).loc Cert.MobaIdeal.main_arg0)) (m ((c.tc : Thread Cert.MobaIdeal.nD Cert.MobaIdeal.τ).loc Cert.MobaIdeal.main_arg1)) (m ((c.tc : Thread Cert.MobaIdeal.nD Cert.MobaIdeal.τ).loc Cert.MobaIdeal.main_arg2))) = (fun _ => 1#1)

def Pre_MobaRefIdeal (m : (ℓ : Loc Cert.MobaRefIdeal.nD Cert.MobaRefIdeal.τ Cert.MobaRefIdeal.sig) → Buf (Elt Ideal) ℓ) : Prop :=
  True

def Pre_MobaRefIdeal_finite_moba [hPre_finite_moba : Cert.Pre_finite_moba.Facts] (m : (ℓ : Loc Cert.MobaRefIdeal.nD Cert.MobaRefIdeal.τ Cert.MobaRefIdeal.sig) → Buf (Elt Ideal) ℓ) : Prop :=
  ∀ c : Dev Cert.MobaRefIdeal.nD,
    (Cert.Pre_finite_moba.fn (F := Ideal) (m ((c.tc : Thread Cert.MobaRefIdeal.nD Cert.MobaRefIdeal.τ).loc Cert.MobaRefIdeal.main_arg0)) (m ((c.tc : Thread Cert.MobaRefIdeal.nD Cert.MobaRefIdeal.τ).loc Cert.MobaRefIdeal.main_arg1)) (m ((c.tc : Thread Cert.MobaRefIdeal.nD Cert.MobaRefIdeal.τ).loc Cert.MobaRefIdeal.main_arg2))) = (fun _ => 1#1)

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_pool [hPre_finite_pool : Cert.Pre_finite_pool.Facts] (m : (ℓ : Loc Cert.PoolIdeal.nD Cert.PoolIdeal.τ Cert.PoolIdeal.sig) → Buf (Elt Ideal) ℓ) : Prop :=
  ∀ c : Dev Cert.PoolIdeal.nD,
    (Cert.Pre_finite_pool.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_pool [hPre_finite_pool : Cert.Pre_finite_pool.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_pool.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2))) = (fun _ => 1#1)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite [hFoxIdeal : Cert.FoxIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite [hFoxRefIdeal : Cert.FoxRefIdeal.Facts] [hPre_finite : Cert.Pre_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8))
      ∧ r.2.sem = fun _ => 0)

def quiescent_SampleFfn [hSampleFfn : Cert.SampleFfn.Facts] : Prop :=
  ∀ (m : (ℓ : Loc Cert.SampleFfn.nD Cert.SampleFfn.τ Cert.SampleFfn.sig) → Buf (Elt Bits) ℓ) (g : Dev Cert.SampleFfn.nD → PrngReg), Pre_SampleFfn m →
    θ_run (Cert.SampleFfn.defs (F := Bits)) (onTc (τ := Cert.SampleFfn.τ) (Cert.SampleFfn.main (F := Bits))) ⟨m, fun _ => 0, g⟩ (fun r => (∀ c : Dev Cert.SampleFfn.nD,
      r.2.mem ((c.tc : Thread Cert.SampleFfn.nD Cert.SampleFfn.τ).loc Cert.SampleFfn.main_arg0) = m ((c.tc : Thread Cert.SampleFfn.nD Cert.SampleFfn.τ).loc Cert.SampleFfn.main_arg0)
      ∧ r.2.mem ((c.tc : Thread Cert.SampleFfn.nD Cert.SampleFfn.τ).loc Cert.SampleFfn.main_arg1) = m ((c.tc : Thread Cert.SampleFfn.nD Cert.SampleFfn.τ).loc Cert.SampleFfn.main_arg1)
      ∧ r.2.mem ((c.tc : Thread Cert.SampleFfn.nD Cert.SampleFfn.τ).loc Cert.SampleFfn.main_arg2) = m ((c.tc : Thread Cert.SampleFfn.nD Cert.SampleFfn.τ).loc Cert.SampleFfn.main_arg2)
      ∧ r.2.mem ((c.tc : Thread Cert.SampleFfn.nD Cert.SampleFfn.τ).loc Cert.SampleFfn.main_arg3) = m ((c.tc : Thread Cert.SampleFfn.nD Cert.SampleFfn.τ).loc Cert.SampleFfn.main_arg3)
      ∧ r.2.mem ((c.tc : Thread Cert.SampleFfn.nD Cert.SampleFfn.τ).loc Cert.SampleFfn.main_arg4) = m ((c.tc : Thread Cert.SampleFfn.nD Cert.SampleFfn.τ).loc Cert.SampleFfn.main_arg4))
      ∧ r.2.sem = fun _ => 0)

def quiescent_SampleFfnIdeal [hSampleFfnIdeal : Cert.SampleFfnIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg), Pre_SampleFfnIdeal m →
    θ_run (Cert.SampleFfnIdeal.defs (F := Ideal)) (onTc (τ := Cert.SampleFfnIdeal.τ) (Cert.SampleFfnIdeal.main (F := Ideal))) ⟨m, fun _ => 0, g⟩ (fun r => (∀ c : Dev Cert.SampleFfnIdeal.nD,
      r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
      ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
      ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
      ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
      ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4))
      ∧ r.2.sem = fun _ => 0)

def quiescent_SampleFfnRefIdeal [hSampleFfnRefIdeal : Cert.SampleFfnRefIdeal.Facts] : Prop :=
  ∀ (m : (ℓ : Loc Cert.SampleFfnRefIdeal.nD Cert.SampleFfnRefIdeal.τ Cert.SampleFfnRefIdeal.sig) → Buf (Elt Ideal) ℓ) (g : Dev Cert.SampleFfnRefIdeal.nD → PrngReg), Pre_SampleFfnRefIdeal m →
    θ_run (Cert.SampleFfnRefIdeal.defs (F := Ideal)) (onTc (τ := Cert.SampleFfnRefIdeal.τ) (Cert.SampleFfnRefIdeal.main (F := Ideal))) ⟨m, fun _ => 0, g⟩ (fun r => (∀ c : Dev Cert.SampleFfnRefIdeal.nD,
      r.2.mem ((c.tc : Thread Cert.SampleFfnRefIdeal.nD Cert.SampleFfnRefIdeal.τ).loc Cert.SampleFfnRefIdeal.main_arg0) = m ((c.tc : Thread Cert.SampleFfnRefIdeal.nD Cert.SampleFfnRefIdeal.τ).loc Cert.SampleFfnRefIdeal.main_arg0)
      ∧ r.2.mem ((c.tc : Thread Cert.SampleFfnRefIdeal.nD Cert.SampleFfnRefIdeal.τ).loc Cert.SampleFfnRefIdeal.main_arg1) = m ((c.tc : Thread Cert.SampleFfnRefIdeal.nD Cert.SampleFfnRefIdeal.τ).loc Cert.SampleFfnRefIdeal.main_arg1)
      ∧ r.2.mem ((c.tc : Thread Cert.SampleFfnRefIdeal.nD Cert.SampleFfnRefIdeal.τ).loc Cert.SampleFfnRefIdeal.main_arg2) = m ((c.tc : Thread Cert.SampleFfnRefIdeal.nD Cert.SampleFfnRefIdeal.τ).loc Cert.SampleFfnRefIdeal.main_arg2)
      ∧ r.2.mem ((c.tc : Thread Cert.SampleFfnRefIdeal.nD Cert.SampleFfnRefIdeal.τ).loc Cert.SampleFfnRefIdeal.main_arg3) = m ((c.tc : Thread Cert.SampleFfnRefIdeal.nD Cert.SampleFfnRefIdeal.τ).loc Cert.SampleFfnRefIdeal.main_arg3)
      ∧ r.2.mem ((c.tc : Thread Cert.SampleFfnRefIdeal.nD Cert.SampleFfnRefIdeal.τ).loc Cert.SampleFfnRefIdeal.main_arg4) = m ((c.tc : Thread Cert.SampleFfnRefIdeal.nD Cert.SampleFfnRefIdeal.τ).loc Cert.SampleFfnRefIdeal.main_arg4))
      ∧ r.2.sem = fun _ => 0)

def quiescent_SampleProj [hSampleProj : Cert.SampleProj.Facts] : Prop :=
  ∀ (m : (ℓ : Loc Cert.SampleProj.nD Cert.SampleProj.τ Cert.SampleProj.sig) → Buf (Elt Bits) ℓ) (g : Dev Cert.SampleProj.nD → PrngReg), Pre_SampleProj m →
    θ_run (Cert.SampleProj.defs (F := Bits)) (onTc (τ := Cert.SampleProj.τ) (Cert.SampleProj.main (F := Bits))) ⟨m, fun _ => 0, g⟩ (fun r => (∀ c : Dev Cert.SampleProj.nD,
      r.2.mem ((c.tc : Thread Cert.SampleProj.nD Cert.SampleProj.τ).loc Cert.SampleProj.main_arg0) = m ((c.tc : Thread Cert.SampleProj.nD Cert.SampleProj.τ).loc Cert.SampleProj.main_arg0)
      ∧ r.2.mem ((c.tc : Thread Cert.SampleProj.nD Cert.SampleProj.τ).loc Cert.SampleProj.main_arg1) = m ((c.tc : Thread Cert.SampleProj.nD Cert.SampleProj.τ).loc Cert.SampleProj.main_arg1)
      ∧ r.2.mem ((c.tc : Thread Cert.SampleProj.nD Cert.SampleProj.τ).loc Cert.SampleProj.main_arg2) = m ((c.tc : Thread Cert.SampleProj.nD Cert.SampleProj.τ).loc Cert.SampleProj.main_arg2)
      ∧ r.2.mem ((c.tc : Thread Cert.SampleProj.nD Cert.SampleProj.τ).loc Cert.SampleProj.main_arg3) = m ((c.tc : Thread Cert.SampleProj.nD Cert.SampleProj.τ).loc Cert.SampleProj.main_arg3)
      ∧ r.2.mem ((c.tc : Thread Cert.SampleProj.nD Cert.SampleProj.τ).loc Cert.SampleProj.main_arg4) = m ((c.tc : Thread Cert.SampleProj.nD Cert.SampleProj.τ).loc Cert.SampleProj.main_arg4)
      ∧ r.2.mem ((c.tc : Thread Cert.SampleProj.nD Cert.SampleProj.τ).loc Cert.SampleProj.main_arg5) = m ((c.tc : Thread Cert.SampleProj.nD Cert.SampleProj.τ).loc Cert.SampleProj.main_arg5)
      ∧ r.2.mem ((c.tc : Thread Cert.SampleProj.nD Cert.SampleProj.τ).loc Cert.SampleProj.main_arg6) = m ((c.tc : Thread Cert.SampleProj.nD Cert.SampleProj.τ).loc Cert.SampleProj.main_arg6)
      ∧ r.2.mem ((c.tc : Thread Cert.SampleProj.nD Cert.SampleProj.τ).loc Cert.SampleProj.main_arg7) = m ((c.tc : Thread Cert.SampleProj.nD Cert.SampleProj.τ).loc Cert.SampleProj.main_arg7)
      ∧ r.2.mem ((c.tc : Thread Cert.SampleProj.nD Cert.SampleProj.τ).loc Cert.SampleProj.main_arg8) = m ((c.tc : Thread Cert.SampleProj.nD Cert.SampleProj.τ).loc Cert.SampleProj.main_arg8))
      ∧ r.2.sem = fun _ => 0)

def quiescent_SampleProjIdeal [hSampleProjIdeal : Cert.SampleProjIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg), Pre_SampleProjIdeal m →
    θ_run (Cert.SampleProjIdeal.defs (F := Ideal)) (onTc (τ := Cert.SampleProjIdeal.τ) (Cert.SampleProjIdeal.main (F := Ideal))) ⟨m, fun _ => 0, g⟩ (fun r => (∀ c : Dev Cert.SampleProjIdeal.nD,
      r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
      ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1)
      ∧ r.2.mem ((c.tc : Thread Cert.SampleProjIdeal.nD Cert.SampleProjIdeal.τ).loc Cert.SampleProjIdeal.main_arg2) = m ((c.tc : Thread Cert.SampleProjIdeal.nD Cert.SampleProjIdeal.τ).loc Cert.SampleProjIdeal.main_arg2)
      ∧ r.2.mem ((c.tc : Thread Cert.SampleProjIdeal.nD Cert.SampleProjIdeal.τ).loc Cert.SampleProjIdeal.main_arg3) = m ((c.tc : Thread Cert.SampleProjIdeal.nD Cert.SampleProjIdeal.τ).loc Cert.SampleProjIdeal.main_arg3)
      ∧ r.2.mem ((c.tc : Thread Cert.SampleProjIdeal.nD Cert.SampleProjIdeal.τ).loc Cert.SampleProjIdeal.main_arg4) = m ((c.tc : Thread Cert.SampleProjIdeal.nD Cert.SampleProjIdeal.τ).loc Cert.SampleProjIdeal.main_arg4)
      ∧ r.2.mem ((c.tc : Thread Cert.SampleProjIdeal.nD Cert.SampleProjIdeal.τ).loc Cert.SampleProjIdeal.main_arg5) = m ((c.tc : Thread Cert.SampleProjIdeal.nD Cert.SampleProjIdeal.τ).loc Cert.SampleProjIdeal.main_arg5)
      ∧ r.2.mem ((c.tc : Thread Cert.SampleProjIdeal.nD Cert.SampleProjIdeal.τ).loc Cert.SampleProjIdeal.main_arg6) = m ((c.tc : Thread Cert.SampleProjIdeal.nD Cert.SampleProjIdeal.τ).loc Cert.SampleProjIdeal.main_arg6)
      ∧ r.2.mem ((c.tc : Thread Cert.SampleProjIdeal.nD Cert.SampleProjIdeal.τ).loc Cert.SampleProjIdeal.main_arg7) = m ((c.tc : Thread Cert.SampleProjIdeal.nD Cert.SampleProjIdeal.τ).loc Cert.SampleProjIdeal.main_arg7)
      ∧ r.2.mem ((c.tc : Thread Cert.SampleProjIdeal.nD Cert.SampleProjIdeal.τ).loc Cert.SampleProjIdeal.main_arg8) = m ((c.tc : Thread Cert.SampleProjIdeal.nD Cert.SampleProjIdeal.τ).loc Cert.SampleProjIdeal.main_arg8))
      ∧ r.2.sem = fun _ => 0)

def quiescent_SampleProjRefIdeal [hSampleProjRefIdeal : Cert.SampleProjRefIdeal.Facts] : Prop :=
  ∀ (m : (ℓ : Loc Cert.SampleProjRefIdeal.nD Cert.SampleProjRefIdeal.τ Cert.SampleProjRefIdeal.sig) → Buf (Elt Ideal) ℓ) (g : Dev Cert.SampleProjRefIdeal.nD → PrngReg), Pre_SampleProjRefIdeal m →
    θ_run (Cert.SampleProjRefIdeal.defs (F := Ideal)) (onTc (τ := Cert.SampleProjRefIdeal.τ) (Cert.SampleProjRefIdeal.main (F := Ideal))) ⟨m, fun _ => 0, g⟩ (fun r => (∀ c : Dev Cert.SampleProjRefIdeal.nD,
      r.2.mem ((c.tc : Thread Cert.SampleProjRefIdeal.nD Cert.SampleProjRefIdeal.τ).loc Cert.SampleProjRefIdeal.main_arg0) = m ((c.tc : Thread Cert.SampleProjRefIdeal.nD Cert.SampleProjRefIdeal.τ).loc Cert.SampleProjRefIdeal.main_arg0)
      ∧ r.2.mem ((c.tc : Thread Cert.SampleProjRefIdeal.nD Cert.SampleProjRefIdeal.τ).loc Cert.SampleProjRefIdeal.main_arg1) = m ((c.tc : Thread Cert.SampleProjRefIdeal.nD Cert.SampleProjRefIdeal.τ).loc Cert.SampleProjRefIdeal.main_arg1)
      ∧ r.2.mem ((c.tc : Thread Cert.SampleProjRefIdeal.nD Cert.SampleProjRefIdeal.τ).loc Cert.SampleProjRefIdeal.main_arg2) = m ((c.tc : Thread Cert.SampleProjRefIdeal.nD Cert.SampleProjRefIdeal.τ).loc Cert.SampleProjRefIdeal.main_arg2)
      ∧ r.2.mem ((c.tc : Thread Cert.SampleProjRefIdeal.nD Cert.SampleProjRefIdeal.τ).loc Cert.SampleProjRefIdeal.main_arg3) = m ((c.tc : Thread Cert.SampleProjRefIdeal.nD Cert.SampleProjRefIdeal.τ).loc Cert.SampleProjRefIdeal.main_arg3)
      ∧ r.2.mem ((c.tc : Thread Cert.SampleProjRefIdeal.nD Cert.SampleProjRefIdeal.τ).loc Cert.SampleProjRefIdeal.main_arg4) = m ((c.tc : Thread Cert.SampleProjRefIdeal.nD Cert.SampleProjRefIdeal.τ).loc Cert.SampleProjRefIdeal.main_arg4)
      ∧ r.2.mem ((c.tc : Thread Cert.SampleProjRefIdeal.nD Cert.SampleProjRefIdeal.τ).loc Cert.SampleProjRefIdeal.main_arg5) = m ((c.tc : Thread Cert.SampleProjRefIdeal.nD Cert.SampleProjRefIdeal.τ).loc Cert.SampleProjRefIdeal.main_arg5)
      ∧ r.2.mem ((c.tc : Thread Cert.SampleProjRefIdeal.nD Cert.SampleProjRefIdeal.τ).loc Cert.SampleProjRefIdeal.main_arg6) = m ((c.tc : Thread Cert.SampleProjRefIdeal.nD Cert.SampleProjRefIdeal.τ).loc Cert.SampleProjRefIdeal.main_arg6)
      ∧ r.2.mem ((c.tc : Thread Cert.SampleProjRefIdeal.nD Cert.SampleProjRefIdeal.τ).loc Cert.SampleProjRefIdeal.main_arg7) = m ((c.tc : Thread Cert.SampleProjRefIdeal.nD Cert.SampleProjRefIdeal.τ).loc Cert.SampleProjRefIdeal.main_arg7)
      ∧ r.2.mem ((c.tc : Thread Cert.SampleProjRefIdeal.nD Cert.SampleProjRefIdeal.τ).loc Cert.SampleProjRefIdeal.main_arg8) = m ((c.tc : Thread Cert.SampleProjRefIdeal.nD Cert.SampleProjRefIdeal.τ).loc Cert.SampleProjRefIdeal.main_arg8))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaIdeal_pre_finite_moba [hMobaIdeal : Cert.MobaIdeal.Facts] [hPre_finite_moba : Cert.Pre_finite_moba.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal_finite_moba m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ r.2.sem = fun _ => 0)

def quiescent_MobaRefIdeal [hMobaRefIdeal : Cert.MobaRefIdeal.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def quiescent_MobaRefIdeal_pre_finite_moba [hMobaRefIdeal : Cert.MobaRefIdeal.Facts] [hPre_finite_moba : Cert.Pre_finite_moba.Facts] : Prop :=
  ∀ (m : (ℓ : Loc Cert.MobaRefIdeal.nD Cert.MobaRefIdeal.τ Cert.MobaRefIdeal.sig) → Buf (Elt Ideal) ℓ) (g : Dev Cert.MobaRefIdeal.nD → PrngReg), Pre_MobaRefIdeal_finite_moba m →
    θ_run (Cert.MobaRefIdeal.defs (F := Ideal)) (onTc (τ := Cert.MobaRefIdeal.τ) (Cert.MobaRefIdeal.main (F := Ideal))) ⟨m, fun _ => 0, g⟩ (fun r => (∀ c : Dev Cert.MobaRefIdeal.nD,
      r.2.mem ((c.tc : Thread Cert.MobaRefIdeal.nD Cert.MobaRefIdeal.τ).loc Cert.MobaRefIdeal.main_arg0) = m ((c.tc : Thread Cert.MobaRefIdeal.nD Cert.MobaRefIdeal.τ).loc Cert.MobaRefIdeal.main_arg0)
      ∧ r.2.mem ((c.tc : Thread Cert.MobaRefIdeal.nD Cert.MobaRefIdeal.τ).loc Cert.MobaRefIdeal.main_arg1) = m ((c.tc : Thread Cert.MobaRefIdeal.nD Cert.MobaRefIdeal.τ).loc Cert.MobaRefIdeal.main_arg1)
      ∧ r.2.mem ((c.tc : Thread Cert.MobaRefIdeal.nD Cert.MobaRefIdeal.τ).loc Cert.MobaRefIdeal.main_arg2) = m ((c.tc : Thread Cert.MobaRefIdeal.nD Cert.MobaRefIdeal.τ).loc Cert.MobaRefIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolIdeal_pre_finite_pool [hPoolIdeal : Cert.PoolIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_pool m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_PoolRefIdeal_pre_finite_pool [hPoolRefIdeal : Cert.PoolRefIdeal.Facts] [hPre_finite_pool : Cert.Pre_finite_pool.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_pool m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite [hFoxIdeal : Cert.FoxIdeal.Facts] [hFoxRefIdeal : Cert.FoxRefIdeal.Facts] [hPre_finite : Cert.Pre_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v1)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v1) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v43) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)) →
    ∃ (v0 : (c : Dev Cert.MergeIdeal.nD) → Buf (Elt Ideal) ((c.tc : Thread Cert.MergeIdeal.nD Cert.MergeIdeal.τ).loc Cert.MergeIdeal.main_v7)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v7) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v40) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)) →
    ∃ (v0 : (c : Dev Cert.ProjIdeal.nD) → Buf (Elt Ideal) ((c.tc : Thread Cert.ProjIdeal.nD Cert.ProjIdeal.τ).loc Cert.ProjIdeal.main_v6_0)) (v1 : (c : Dev Cert.ProjIdeal.nD) → Buf (Elt Ideal) ((c.tc : Thread Cert.ProjIdeal.nD Cert.ProjIdeal.τ).loc Cert.ProjIdeal.main_v6_3)) (v2 : (c : Dev Cert.ProjIdeal.nD) → Buf (Elt Ideal) ((c.tc : Thread Cert.ProjIdeal.nD Cert.ProjIdeal.τ).loc Cert.ProjIdeal.main_v6_4)) (v3 : (c : Dev Cert.ProjIdeal.nD) → Buf (Elt Ideal) ((c.tc : Thread Cert.ProjIdeal.nD Cert.ProjIdeal.τ).loc Cert.ProjIdeal.main_v6_1)) (v4 : (c : Dev Cert.ProjIdeal.nD) → Buf (Elt Ideal) ((c.tc : Thread Cert.ProjIdeal.nD Cert.ProjIdeal.τ).loc Cert.ProjIdeal.main_v6_2)) (v5 : (c : Dev Cert.ProjIdeal.nD) → Buf (Elt Ideal) ((c.tc : Thread Cert.ProjIdeal.nD Cert.ProjIdeal.τ).loc Cert.ProjIdeal.main_v6_5)) (v6 : (c : Dev Cert.ProjIdeal.nD) → Buf (Elt Ideal) ((c.tc : Thread Cert.ProjIdeal.nD Cert.ProjIdeal.τ).loc Cert.ProjIdeal.main_v6_6)) (v7 : (c : Dev Cert.ProjIdeal.nD) → Buf (Elt Ideal) ((c.tc : Thread Cert.ProjIdeal.nD Cert.ProjIdeal.τ).loc Cert.ProjIdeal.main_v6_7)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6_0) = v0 c
          ∧ r.2.mem ((c.tc : Thread Cert.ProjIdeal.nD Cert.ProjIdeal.τ).loc Cert.ProjIdeal.main_v6_3) = v1 c
          ∧ r.2.mem ((c.tc : Thread Cert.ProjIdeal.nD Cert.ProjIdeal.τ).loc Cert.ProjIdeal.main_v6_4) = v2 c
          ∧ r.2.mem ((c.tc : Thread Cert.ProjIdeal.nD Cert.ProjIdeal.τ).loc Cert.ProjIdeal.main_v6_1) = v3 c
          ∧ r.2.mem ((c.tc : Thread Cert.ProjIdeal.nD Cert.ProjIdeal.τ).loc Cert.ProjIdeal.main_v6_2) = v4 c
          ∧ r.2.mem ((c.tc : Thread Cert.ProjIdeal.nD Cert.ProjIdeal.τ).loc Cert.ProjIdeal.main_v6_5) = v5 c
          ∧ r.2.mem ((c.tc : Thread Cert.ProjIdeal.nD Cert.ProjIdeal.τ).loc Cert.ProjIdeal.main_v6_6) = v6 c
          ∧ r.2.mem ((c.tc : Thread Cert.ProjIdeal.nD Cert.ProjIdeal.τ).loc Cert.ProjIdeal.main_v6_7) = v7 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_v17) = v1 c
          ∧ r.2.mem ((c.tc : Thread Cert.ProjRefIdeal.nD Cert.ProjRefIdeal.τ).loc Cert.ProjRefIdeal.main_v18) = v2 c
          ∧ r.2.mem ((c.tc : Thread Cert.ProjRefIdeal.nD Cert.ProjRefIdeal.τ).loc Cert.ProjRefIdeal.main_v29) = v3 c
          ∧ r.2.mem ((c.tc : Thread Cert.ProjRefIdeal.nD Cert.ProjRefIdeal.τ).loc Cert.ProjRefIdeal.main_v32) = v4 c
          ∧ r.2.mem ((c.tc : Thread Cert.ProjRefIdeal.nD Cert.ProjRefIdeal.τ).loc Cert.ProjRefIdeal.main_v35) = v5 c
          ∧ r.2.mem ((c.tc : Thread Cert.ProjRefIdeal.nD Cert.ProjRefIdeal.τ).loc Cert.ProjRefIdeal.main_v38) = v6 c
          ∧ r.2.mem ((c.tc : Thread Cert.ProjRefIdeal.nD Cert.ProjRefIdeal.τ).loc Cert.ProjRefIdeal.main_v41) = v7 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8))

def preserves_SampleFfn_SampleFfnIdeal : Prop :=
  True

def algebraic_SampleFfnIdeal_SampleFfnRefIdeal [hSampleFfnIdeal : Cert.SampleFfnIdeal.Facts] [hSampleFfnRefIdeal : Cert.SampleFfnRefIdeal.Facts] : Prop :=
  ∀ (m : (ℓ : Loc Cert.SampleFfnIdeal.nD Cert.SampleFfnIdeal.τ Cert.SampleFfnIdeal.sig) → Buf (Elt Ideal) ℓ) (g : Dev Cert.SampleFfnIdeal.nD → PrngReg)
    (m' : (ℓ : Loc Cert.SampleFfnRefIdeal.nD Cert.SampleFfnRefIdeal.τ Cert.SampleFfnRefIdeal.sig) → Buf (Elt Ideal) ℓ) (g' : Dev Cert.SampleFfnRefIdeal.nD → PrngReg), Pre_SampleFfnIdeal m →
    (∀ c : Dev Cert.SampleFfnIdeal.nD,
      m' ((c.tc : Thread Cert.SampleFfnRefIdeal.nD Cert.SampleFfnRefIdeal.τ).loc Cert.SampleFfnRefIdeal.main_arg0) = m ((c.tc : Thread Cert.SampleFfnIdeal.nD Cert.SampleFfnIdeal.τ).loc Cert.SampleFfnIdeal.main_arg0)
      ∧ m' ((c.tc : Thread Cert.SampleFfnRefIdeal.nD Cert.SampleFfnRefIdeal.τ).loc Cert.SampleFfnRefIdeal.main_arg1) = m ((c.tc : Thread Cert.SampleFfnIdeal.nD Cert.SampleFfnIdeal.τ).loc Cert.SampleFfnIdeal.main_arg1)
      ∧ m' ((c.tc : Thread Cert.SampleFfnRefIdeal.nD Cert.SampleFfnRefIdeal.τ).loc Cert.SampleFfnRefIdeal.main_arg2) = m ((c.tc : Thread Cert.SampleFfnIdeal.nD Cert.SampleFfnIdeal.τ).loc Cert.SampleFfnIdeal.main_arg2)
      ∧ m' ((c.tc : Thread Cert.SampleFfnRefIdeal.nD Cert.SampleFfnRefIdeal.τ).loc Cert.SampleFfnRefIdeal.main_arg3) = m ((c.tc : Thread Cert.SampleFfnIdeal.nD Cert.SampleFfnIdeal.τ).loc Cert.SampleFfnIdeal.main_arg3)
      ∧ m' ((c.tc : Thread Cert.SampleFfnRefIdeal.nD Cert.SampleFfnRefIdeal.τ).loc Cert.SampleFfnRefIdeal.main_arg4) = m ((c.tc : Thread Cert.SampleFfnIdeal.nD Cert.SampleFfnIdeal.τ).loc Cert.SampleFfnIdeal.main_arg4)) →
    ∃ (v0 : (c : Dev Cert.SampleFfnIdeal.nD) → Buf (Elt Ideal) ((c.tc : Thread Cert.SampleFfnIdeal.nD Cert.SampleFfnIdeal.τ).loc Cert.SampleFfnIdeal.main_v4)),
      θ_run (Cert.SampleFfnIdeal.defs (F := Ideal)) (onTc (τ := Cert.SampleFfnIdeal.τ) (Cert.SampleFfnIdeal.main (F := Ideal))) ⟨m, fun _ => 0, g⟩ (fun r => ∀ c : Dev Cert.SampleFfnIdeal.nD,
          r.2.mem ((c.tc : Thread Cert.SampleFfnIdeal.nD Cert.SampleFfnIdeal.τ).loc Cert.SampleFfnIdeal.main_v4) = v0 c
          ∧ r.2.mem ((c.tc : Thread Cert.SampleFfnIdeal.nD Cert.SampleFfnIdeal.τ).loc Cert.SampleFfnIdeal.main_arg0) = m ((c.tc : Thread Cert.SampleFfnIdeal.nD Cert.SampleFfnIdeal.τ).loc Cert.SampleFfnIdeal.main_arg0)
          ∧ r.2.mem ((c.tc : Thread Cert.SampleFfnIdeal.nD Cert.SampleFfnIdeal.τ).loc Cert.SampleFfnIdeal.main_arg1) = m ((c.tc : Thread Cert.SampleFfnIdeal.nD Cert.SampleFfnIdeal.τ).loc Cert.SampleFfnIdeal.main_arg1)
          ∧ r.2.mem ((c.tc : Thread Cert.SampleFfnIdeal.nD Cert.SampleFfnIdeal.τ).loc Cert.SampleFfnIdeal.main_arg2) = m ((c.tc : Thread Cert.SampleFfnIdeal.nD Cert.SampleFfnIdeal.τ).loc Cert.SampleFfnIdeal.main_arg2)
          ∧ r.2.mem ((c.tc : Thread Cert.SampleFfnIdeal.nD Cert.SampleFfnIdeal.τ).loc Cert.SampleFfnIdeal.main_arg3) = m ((c.tc : Thread Cert.SampleFfnIdeal.nD Cert.SampleFfnIdeal.τ).loc Cert.SampleFfnIdeal.main_arg3)
          ∧ r.2.mem ((c.tc : Thread Cert.SampleFfnIdeal.nD Cert.SampleFfnIdeal.τ).loc Cert.SampleFfnIdeal.main_arg4) = m ((c.tc : Thread Cert.SampleFfnIdeal.nD Cert.SampleFfnIdeal.τ).loc Cert.SampleFfnIdeal.main_arg4))
      ∧ θ_run (Cert.SampleFfnRefIdeal.defs (F := Ideal)) (onTc (τ := Cert.SampleFfnRefIdeal.τ) (Cert.SampleFfnRefIdeal.main (F := Ideal))) ⟨m', fun _ => 0, g'⟩ (fun r => ∀ c : Dev Cert.SampleFfnRefIdeal.nD,
          r.2.mem ((c.tc : Thread Cert.SampleFfnRefIdeal.nD Cert.SampleFfnRefIdeal.τ).loc Cert.SampleFfnRefIdeal.main_v32) = v0 c
          ∧ r.2.mem ((c.tc : Thread Cert.SampleFfnRefIdeal.nD Cert.SampleFfnRefIdeal.τ).loc Cert.SampleFfnRefIdeal.main_arg0) = m' ((c.tc : Thread Cert.SampleFfnRefIdeal.nD Cert.SampleFfnRefIdeal.τ).loc Cert.SampleFfnRefIdeal.main_arg0)
          ∧ r.2.mem ((c.tc : Thread Cert.SampleFfnRefIdeal.nD Cert.SampleFfnRefIdeal.τ).loc Cert.SampleFfnRefIdeal.main_arg1) = m' ((c.tc : Thread Cert.SampleFfnRefIdeal.nD Cert.SampleFfnRefIdeal.τ).loc Cert.SampleFfnRefIdeal.main_arg1)
          ∧ r.2.mem ((c.tc : Thread Cert.SampleFfnRefIdeal.nD Cert.SampleFfnRefIdeal.τ).loc Cert.SampleFfnRefIdeal.main_arg2) = m' ((c.tc : Thread Cert.SampleFfnRefIdeal.nD Cert.SampleFfnRefIdeal.τ).loc Cert.SampleFfnRefIdeal.main_arg2)
          ∧ r.2.mem ((c.tc : Thread Cert.SampleFfnRefIdeal.nD Cert.SampleFfnRefIdeal.τ).loc Cert.SampleFfnRefIdeal.main_arg3) = m' ((c.tc : Thread Cert.SampleFfnRefIdeal.nD Cert.SampleFfnRefIdeal.τ).loc Cert.SampleFfnRefIdeal.main_arg3)
          ∧ r.2.mem ((c.tc : Thread Cert.SampleFfnRefIdeal.nD Cert.SampleFfnRefIdeal.τ).loc Cert.SampleFfnRefIdeal.main_arg4) = m' ((c.tc : Thread Cert.SampleFfnRefIdeal.nD Cert.SampleFfnRefIdeal.τ).loc Cert.SampleFfnRefIdeal.main_arg4))

def preserves_SampleProj_SampleProjIdeal : Prop :=
  True

def algebraic_SampleProjIdeal_SampleProjRefIdeal [hSampleProjIdeal : Cert.SampleProjIdeal.Facts] [hSampleProjRefIdeal : Cert.SampleProjRefIdeal.Facts] : Prop :=
  ∀ (m : (ℓ : Loc Cert.SampleProjIdeal.nD Cert.SampleProjIdeal.τ Cert.SampleProjIdeal.sig) → Buf (Elt Ideal) ℓ) (g : Dev Cert.SampleProjIdeal.nD → PrngReg)
    (m' : (ℓ : Loc Cert.SampleProjRefIdeal.nD Cert.SampleProjRefIdeal.τ Cert.SampleProjRefIdeal.sig) → Buf (Elt Ideal) ℓ) (g' : Dev Cert.SampleProjRefIdeal.nD → PrngReg), Pre_SampleProjIdeal m →
    (∀ c : Dev Cert.SampleProjIdeal.nD,
      m' ((c.tc : Thread Cert.SampleProjRefIdeal.nD Cert.SampleProjRefIdeal.τ).loc Cert.SampleProjRefIdeal.main_arg0) = m ((c.tc : Thread Cert.SampleProjIdeal.nD Cert.SampleProjIdeal.τ).loc Cert.SampleProjIdeal.main_arg0)
      ∧ m' ((c.tc : Thread Cert.SampleProjRefIdeal.nD Cert.SampleProjRefIdeal.τ).loc Cert.SampleProjRefIdeal.main_arg1) = m ((c.tc : Thread Cert.SampleProjIdeal.nD Cert.SampleProjIdeal.τ).loc Cert.SampleProjIdeal.main_arg1)
      ∧ m' ((c.tc : Thread Cert.SampleProjRefIdeal.nD Cert.SampleProjRefIdeal.τ).loc Cert.SampleProjRefIdeal.main_arg2) = m ((c.tc : Thread Cert.SampleProjIdeal.nD Cert.SampleProjIdeal.τ).loc Cert.SampleProjIdeal.main_arg2)
      ∧ m' ((c.tc : Thread Cert.SampleProjRefIdeal.nD Cert.SampleProjRefIdeal.τ).loc Cert.SampleProjRefIdeal.main_arg3) = m ((c.tc : Thread Cert.SampleProjIdeal.nD Cert.SampleProjIdeal.τ).loc Cert.SampleProjIdeal.main_arg3)
      ∧ m' ((c.tc : Thread Cert.SampleProjRefIdeal.nD Cert.SampleProjRefIdeal.τ).loc Cert.SampleProjRefIdeal.main_arg4) = m ((c.tc : Thread Cert.SampleProjIdeal.nD Cert.SampleProjIdeal.τ).loc Cert.SampleProjIdeal.main_arg4)
      ∧ m' ((c.tc : Thread Cert.SampleProjRefIdeal.nD Cert.SampleProjRefIdeal.τ).loc Cert.SampleProjRefIdeal.main_arg5) = m ((c.tc : Thread Cert.SampleProjIdeal.nD Cert.SampleProjIdeal.τ).loc Cert.SampleProjIdeal.main_arg5)
      ∧ m' ((c.tc : Thread Cert.SampleProjRefIdeal.nD Cert.SampleProjRefIdeal.τ).loc Cert.SampleProjRefIdeal.main_arg6) = m ((c.tc : Thread Cert.SampleProjIdeal.nD Cert.SampleProjIdeal.τ).loc Cert.SampleProjIdeal.main_arg6)
      ∧ m' ((c.tc : Thread Cert.SampleProjRefIdeal.nD Cert.SampleProjRefIdeal.τ).loc Cert.SampleProjRefIdeal.main_arg7) = m ((c.tc : Thread Cert.SampleProjIdeal.nD Cert.SampleProjIdeal.τ).loc Cert.SampleProjIdeal.main_arg7)
      ∧ m' ((c.tc : Thread Cert.SampleProjRefIdeal.nD Cert.SampleProjRefIdeal.τ).loc Cert.SampleProjRefIdeal.main_arg8) = m ((c.tc : Thread Cert.SampleProjIdeal.nD Cert.SampleProjIdeal.τ).loc Cert.SampleProjIdeal.main_arg8)) →
    ∃ (v0 : (c : Dev Cert.SampleProjIdeal.nD) → Buf (Elt Ideal) ((c.tc : Thread Cert.SampleProjIdeal.nD Cert.SampleProjIdeal.τ).loc Cert.SampleProjIdeal.main_v6_0)) (v1 : (c : Dev Cert.SampleProjIdeal.nD) → Buf (Elt Ideal) ((c.tc : Thread Cert.SampleProjIdeal.nD Cert.SampleProjIdeal.τ).loc Cert.SampleProjIdeal.main_v6_3)) (v2 : (c : Dev Cert.SampleProjIdeal.nD) → Buf (Elt Ideal) ((c.tc : Thread Cert.SampleProjIdeal.nD Cert.SampleProjIdeal.τ).loc Cert.SampleProjIdeal.main_v6_4)) (v3 : (c : Dev Cert.SampleProjIdeal.nD) → Buf (Elt Ideal) ((c.tc : Thread Cert.SampleProjIdeal.nD Cert.SampleProjIdeal.τ).loc Cert.SampleProjIdeal.main_v6_1)) (v4 : (c : Dev Cert.SampleProjIdeal.nD) → Buf (Elt Ideal) ((c.tc : Thread Cert.SampleProjIdeal.nD Cert.SampleProjIdeal.τ).loc Cert.SampleProjIdeal.main_v6_2)) (v5 : (c : Dev Cert.SampleProjIdeal.nD) → Buf (Elt Ideal) ((c.tc : Thread Cert.SampleProjIdeal.nD Cert.SampleProjIdeal.τ).loc Cert.SampleProjIdeal.main_v6_5)) (v6 : (c : Dev Cert.SampleProjIdeal.nD) → Buf (Elt Ideal) ((c.tc : Thread Cert.SampleProjIdeal.nD Cert.SampleProjIdeal.τ).loc Cert.SampleProjIdeal.main_v6_6)) (v7 : (c : Dev Cert.SampleProjIdeal.nD) → Buf (Elt Ideal) ((c.tc : Thread Cert.SampleProjIdeal.nD Cert.SampleProjIdeal.τ).loc Cert.SampleProjIdeal.main_v6_7)),
      θ_run (Cert.SampleProjIdeal.defs (F := Ideal)) (onTc (τ := Cert.SampleProjIdeal.τ) (Cert.SampleProjIdeal.main (F := Ideal))) ⟨m, fun _ => 0, g⟩ (fun r => ∀ c : Dev Cert.SampleProjIdeal.nD,
          r.2.mem ((c.tc : Thread Cert.SampleProjIdeal.nD Cert.SampleProjIdeal.τ).loc Cert.SampleProjIdeal.main_v6_0) = v0 c
          ∧ r.2.mem ((c.tc : Thread Cert.SampleProjIdeal.nD Cert.SampleProjIdeal.τ).loc Cert.SampleProjIdeal.main_v6_3) = v1 c
          ∧ r.2.mem ((c.tc : Thread Cert.SampleProjIdeal.nD Cert.SampleProjIdeal.τ).loc Cert.SampleProjIdeal.main_v6_4) = v2 c
          ∧ r.2.mem ((c.tc : Thread Cert.SampleProjIdeal.nD Cert.SampleProjIdeal.τ).loc Cert.SampleProjIdeal.main_v6_1) = v3 c
          ∧ r.2.mem ((c.tc : Thread Cert.SampleProjIdeal.nD Cert.SampleProjIdeal.τ).loc Cert.SampleProjIdeal.main_v6_2) = v4 c
          ∧ r.2.mem ((c.tc : Thread Cert.SampleProjIdeal.nD Cert.SampleProjIdeal.τ).loc Cert.SampleProjIdeal.main_v6_5) = v5 c
          ∧ r.2.mem ((c.tc : Thread Cert.SampleProjIdeal.nD Cert.SampleProjIdeal.τ).loc Cert.SampleProjIdeal.main_v6_6) = v6 c
          ∧ r.2.mem ((c.tc : Thread Cert.SampleProjIdeal.nD Cert.SampleProjIdeal.τ).loc Cert.SampleProjIdeal.main_v6_7) = v7 c
          ∧ r.2.mem ((c.tc : Thread Cert.SampleProjIdeal.nD Cert.SampleProjIdeal.τ).loc Cert.SampleProjIdeal.main_arg0) = m ((c.tc : Thread Cert.SampleProjIdeal.nD Cert.SampleProjIdeal.τ).loc Cert.SampleProjIdeal.main_arg0)
          ∧ r.2.mem ((c.tc : Thread Cert.SampleProjIdeal.nD Cert.SampleProjIdeal.τ).loc Cert.SampleProjIdeal.main_arg1) = m ((c.tc : Thread Cert.SampleProjIdeal.nD Cert.SampleProjIdeal.τ).loc Cert.SampleProjIdeal.main_arg1)
          ∧ r.2.mem ((c.tc : Thread Cert.SampleProjIdeal.nD Cert.SampleProjIdeal.τ).loc Cert.SampleProjIdeal.main_arg2) = m ((c.tc : Thread Cert.SampleProjIdeal.nD Cert.SampleProjIdeal.τ).loc Cert.SampleProjIdeal.main_arg2)
          ∧ r.2.mem ((c.tc : Thread Cert.SampleProjIdeal.nD Cert.SampleProjIdeal.τ).loc Cert.SampleProjIdeal.main_arg3) = m ((c.tc : Thread Cert.SampleProjIdeal.nD Cert.SampleProjIdeal.τ).loc Cert.SampleProjIdeal.main_arg3)
          ∧ r.2.mem ((c.tc : Thread Cert.SampleProjIdeal.nD Cert.SampleProjIdeal.τ).loc Cert.SampleProjIdeal.main_arg4) = m ((c.tc : Thread Cert.SampleProjIdeal.nD Cert.SampleProjIdeal.τ).loc Cert.SampleProjIdeal.main_arg4)
          ∧ r.2.mem ((c.tc : Thread Cert.SampleProjIdeal.nD Cert.SampleProjIdeal.τ).loc Cert.SampleProjIdeal.main_arg5) = m ((c.tc : Thread Cert.SampleProjIdeal.nD Cert.SampleProjIdeal.τ).loc Cert.SampleProjIdeal.main_arg5)
          ∧ r.2.mem ((c.tc : Thread Cert.SampleProjIdeal.nD Cert.SampleProjIdeal.τ).loc Cert.SampleProjIdeal.main_arg6) = m ((c.tc : Thread Cert.SampleProjIdeal.nD Cert.SampleProjIdeal.τ).loc Cert.SampleProjIdeal.main_arg6)
          ∧ r.2.mem ((c.tc : Thread Cert.SampleProjIdeal.nD Cert.SampleProjIdeal.τ).loc Cert.SampleProjIdeal.main_arg7) = m ((c.tc : Thread Cert.SampleProjIdeal.nD Cert.SampleProjIdeal.τ).loc Cert.SampleProjIdeal.main_arg7)
          ∧ r.2.mem ((c.tc : Thread Cert.SampleProjIdeal.nD Cert.SampleProjIdeal.τ).loc Cert.SampleProjIdeal.main_arg8) = m ((c.tc : Thread Cert.SampleProjIdeal.nD Cert.SampleProjIdeal.τ).loc Cert.SampleProjIdeal.main_arg8))
      ∧ θ_run (Cert.SampleProjRefIdeal.defs (F := Ideal)) (onTc (τ := Cert.SampleProjRefIdeal.τ) (Cert.SampleProjRefIdeal.main (F := Ideal))) ⟨m', fun _ => 0, g'⟩ (fun r => ∀ c : Dev Cert.SampleProjRefIdeal.nD,
          r.2.mem ((c.tc : Thread Cert.SampleProjRefIdeal.nD Cert.SampleProjRefIdeal.τ).loc Cert.SampleProjRefIdeal.main_v14) = v0 c
          ∧ r.2.mem ((c.tc : Thread Cert.SampleProjRefIdeal.nD Cert.SampleProjRefIdeal.τ).loc Cert.SampleProjRefIdeal.main_v17) = v1 c
          ∧ r.2.mem ((c.tc : Thread Cert.SampleProjRefIdeal.nD Cert.SampleProjRefIdeal.τ).loc Cert.SampleProjRefIdeal.main_v18) = v2 c
          ∧ r.2.mem ((c.tc : Thread Cert.SampleProjRefIdeal.nD Cert.SampleProjRefIdeal.τ).loc Cert.SampleProjRefIdeal.main_v29) = v3 c
          ∧ r.2.mem ((c.tc : Thread Cert.SampleProjRefIdeal.nD Cert.SampleProjRefIdeal.τ).loc Cert.SampleProjRefIdeal.main_v32) = v4 c
          ∧ r.2.mem ((c.tc : Thread Cert.SampleProjRefIdeal.nD Cert.SampleProjRefIdeal.τ).loc Cert.SampleProjRefIdeal.main_v35) = v5 c
          ∧ r.2.mem ((c.tc : Thread Cert.SampleProjRefIdeal.nD Cert.SampleProjRefIdeal.τ).loc Cert.SampleProjRefIdeal.main_v38) = v6 c
          ∧ r.2.mem ((c.tc : Thread Cert.SampleProjRefIdeal.nD Cert.SampleProjRefIdeal.τ).loc Cert.SampleProjRefIdeal.main_v41) = v7 c
          ∧ r.2.mem ((c.tc : Thread Cert.SampleProjRefIdeal.nD Cert.SampleProjRefIdeal.τ).loc Cert.SampleProjRefIdeal.main_arg0) = m' ((c.tc : Thread Cert.SampleProjRefIdeal.nD Cert.SampleProjRefIdeal.τ).loc Cert.SampleProjRefIdeal.main_arg0)
          ∧ r.2.mem ((c.tc : Thread Cert.SampleProjRefIdeal.nD Cert.SampleProjRefIdeal.τ).loc Cert.SampleProjRefIdeal.main_arg1) = m' ((c.tc : Thread Cert.SampleProjRefIdeal.nD Cert.SampleProjRefIdeal.τ).loc Cert.SampleProjRefIdeal.main_arg1)
          ∧ r.2.mem ((c.tc : Thread Cert.SampleProjRefIdeal.nD Cert.SampleProjRefIdeal.τ).loc Cert.SampleProjRefIdeal.main_arg2) = m' ((c.tc : Thread Cert.SampleProjRefIdeal.nD Cert.SampleProjRefIdeal.τ).loc Cert.SampleProjRefIdeal.main_arg2)
          ∧ r.2.mem ((c.tc : Thread Cert.SampleProjRefIdeal.nD Cert.SampleProjRefIdeal.τ).loc Cert.SampleProjRefIdeal.main_arg3) = m' ((c.tc : Thread Cert.SampleProjRefIdeal.nD Cert.SampleProjRefIdeal.τ).loc Cert.SampleProjRefIdeal.main_arg3)
          ∧ r.2.mem ((c.tc : Thread Cert.SampleProjRefIdeal.nD Cert.SampleProjRefIdeal.τ).loc Cert.SampleProjRefIdeal.main_arg4) = m' ((c.tc : Thread Cert.SampleProjRefIdeal.nD Cert.SampleProjRefIdeal.τ).loc Cert.SampleProjRefIdeal.main_arg4)
          ∧ r.2.mem ((c.tc : Thread Cert.SampleProjRefIdeal.nD Cert.SampleProjRefIdeal.τ).loc Cert.SampleProjRefIdeal.main_arg5) = m' ((c.tc : Thread Cert.SampleProjRefIdeal.nD Cert.SampleProjRefIdeal.τ).loc Cert.SampleProjRefIdeal.main_arg5)
          ∧ r.2.mem ((c.tc : Thread Cert.SampleProjRefIdeal.nD Cert.SampleProjRefIdeal.τ).loc Cert.SampleProjRefIdeal.main_arg6) = m' ((c.tc : Thread Cert.SampleProjRefIdeal.nD Cert.SampleProjRefIdeal.τ).loc Cert.SampleProjRefIdeal.main_arg6)
          ∧ r.2.mem ((c.tc : Thread Cert.SampleProjRefIdeal.nD Cert.SampleProjRefIdeal.τ).loc Cert.SampleProjRefIdeal.main_arg7) = m' ((c.tc : Thread Cert.SampleProjRefIdeal.nD Cert.SampleProjRefIdeal.τ).loc Cert.SampleProjRefIdeal.main_arg7)
          ∧ r.2.mem ((c.tc : Thread Cert.SampleProjRefIdeal.nD Cert.SampleProjRefIdeal.τ).loc Cert.SampleProjRefIdeal.main_arg8) = m' ((c.tc : Thread Cert.SampleProjRefIdeal.nD Cert.SampleProjRefIdeal.τ).loc Cert.SampleProjRefIdeal.main_arg8))

def preserves_Moba_MobaIdeal : Prop :=
  IdealRules.named_const.Statement Cert.MobaIdeal.κ "mask" .f32 0xF149F2CA#32 ⊥

def algebraic_MobaIdeal_MobaRefIdeal_pre_finite_moba [hMobaIdeal : Cert.MobaIdeal.Facts] [hMobaRefIdeal : Cert.MobaRefIdeal.Facts] [hPre_finite_moba : Cert.Pre_finite_moba.Facts] : Prop :=
  ∀ (m : (ℓ : Loc Cert.MobaIdeal.nD Cert.MobaIdeal.τ Cert.MobaIdeal.sig) → Buf (Elt Ideal) ℓ) (g : Dev Cert.MobaIdeal.nD → PrngReg)
    (m' : (ℓ : Loc Cert.MobaRefIdeal.nD Cert.MobaRefIdeal.τ Cert.MobaRefIdeal.sig) → Buf (Elt Ideal) ℓ) (g' : Dev Cert.MobaRefIdeal.nD → PrngReg), Pre_MobaIdeal_finite_moba m →
    (∀ c : Dev Cert.MobaIdeal.nD,
      m' ((c.tc : Thread Cert.MobaRefIdeal.nD Cert.MobaRefIdeal.τ).loc Cert.MobaRefIdeal.main_arg0) = m ((c.tc : Thread Cert.MobaIdeal.nD Cert.MobaIdeal.τ).loc Cert.MobaIdeal.main_arg0)
      ∧ m' ((c.tc : Thread Cert.MobaRefIdeal.nD Cert.MobaRefIdeal.τ).loc Cert.MobaRefIdeal.main_arg1) = m ((c.tc : Thread Cert.MobaIdeal.nD Cert.MobaIdeal.τ).loc Cert.MobaIdeal.main_arg1)
      ∧ m' ((c.tc : Thread Cert.MobaRefIdeal.nD Cert.MobaRefIdeal.τ).loc Cert.MobaRefIdeal.main_arg2) = m ((c.tc : Thread Cert.MobaIdeal.nD Cert.MobaIdeal.τ).loc Cert.MobaIdeal.main_arg2)) →
    ∃ (v0 : (c : Dev Cert.MobaIdeal.nD) → Buf (Elt Ideal) ((c.tc : Thread Cert.MobaIdeal.nD Cert.MobaIdeal.τ).loc Cert.MobaIdeal.main_v1)),
      θ_run (Cert.MobaIdeal.defs (F := Ideal)) (onTc (τ := Cert.MobaIdeal.τ) (Cert.MobaIdeal.main (F := Ideal))) ⟨m, fun _ => 0, g⟩ (fun r => ∀ c : Dev Cert.MobaIdeal.nD,
          r.2.mem ((c.tc : Thread Cert.MobaIdeal.nD Cert.MobaIdeal.τ).loc Cert.MobaIdeal.main_v1) = v0 c
          ∧ r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
          ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
          ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2))
      ∧ θ_run (Cert.MobaRefIdeal.defs (F := Ideal)) (onTc (τ := Cert.MobaRefIdeal.τ) (Cert.MobaRefIdeal.main (F := Ideal))) ⟨m', fun _ => 0, g'⟩ (fun r => ∀ c : Dev Cert.MobaRefIdeal.nD,
          r.2.mem ((c.tc : Thread Cert.MobaRefIdeal.nD Cert.MobaRefIdeal.τ).loc Cert.MobaRefIdeal.main_v70) = v0 c
          ∧ r.2.mem ((c.tc : Thread Cert.MobaRefIdeal.nD Cert.MobaRefIdeal.τ).loc Cert.MobaRefIdeal.main_arg0) = m' ((c.tc : Thread Cert.MobaRefIdeal.nD Cert.MobaRefIdeal.τ).loc Cert.MobaRefIdeal.main_arg0)
          ∧ r.2.mem ((c.tc : Thread Cert.MobaRefIdeal.nD Cert.MobaRefIdeal.τ).loc Cert.MobaRefIdeal.main_arg1) = m' ((c.tc : Thread Cert.MobaRefIdeal.nD Cert.MobaRefIdeal.τ).loc Cert.MobaRefIdeal.main_arg1)
          ∧ r.2.mem ((c.tc : Thread Cert.MobaRefIdeal.nD Cert.MobaRefIdeal.τ).loc Cert.MobaRefIdeal.main_arg2) = m' ((c.tc : Thread Cert.MobaRefIdeal.nD Cert.MobaRefIdeal.τ).loc Cert.MobaRefIdeal.main_arg2))

def preserves_Pool_PoolIdeal : Prop :=
  True

def algebraic_PoolIdeal_PoolRefIdeal_pre_finite_pool [hPoolIdeal : Cert.PoolIdeal.Facts] [hPoolRefIdeal : Cert.PoolRefIdeal.Facts] [hPre_finite_pool : Cert.Pre_finite_pool.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_pool m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v74) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def Claim : Prop :=
  ∃ (hFox : Cert.Fox.Facts) (hFoxIdeal : Cert.FoxIdeal.Facts) (hFoxRefIdeal : Cert.FoxRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hSampleFfn : Cert.SampleFfn.Facts) (hSampleFfnIdeal : Cert.SampleFfnIdeal.Facts) (hSampleFfnRefIdeal : Cert.SampleFfnRefIdeal.Facts) (hSampleProj : Cert.SampleProj.Facts) (hSampleProjIdeal : Cert.SampleProjIdeal.Facts) (hSampleProjRefIdeal : Cert.SampleProjRefIdeal.Facts) (hMoba : Cert.Moba.Facts) (hMobaIdeal : Cert.MobaIdeal.Facts) (hMobaRefIdeal : Cert.MobaRefIdeal.Facts) (hPool : Cert.Pool.Facts) (hPoolIdeal : Cert.PoolIdeal.Facts) (hPoolRefIdeal : Cert.PoolRefIdeal.Facts) (hPre_finite : Cert.Pre_finite.Facts) (hPre_finite_moba : Cert.Pre_finite_moba.Facts) (hPre_finite_pool : Cert.Pre_finite_pool.Facts),
    quiescent_Fox (hFox := hFox)
    ∧ quiescent_FoxIdeal (hFoxIdeal := hFoxIdeal)
    ∧ quiescent_FoxIdeal_pre_finite (hFoxIdeal := hFoxIdeal) (hPre_finite := hPre_finite)
    ∧ quiescent_FoxRefIdeal (hFoxRefIdeal := hFoxRefIdeal)
    ∧ quiescent_FoxRefIdeal_pre_finite (hFoxRefIdeal := hFoxRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_SampleFfn (hSampleFfn := hSampleFfn)
    ∧ quiescent_SampleFfnIdeal (hSampleFfnIdeal := hSampleFfnIdeal)
    ∧ quiescent_SampleFfnRefIdeal (hSampleFfnRefIdeal := hSampleFfnRefIdeal)
    ∧ quiescent_SampleProj (hSampleProj := hSampleProj)
    ∧ quiescent_SampleProjIdeal (hSampleProjIdeal := hSampleProjIdeal)
    ∧ quiescent_SampleProjRefIdeal (hSampleProjRefIdeal := hSampleProjRefIdeal)
    ∧ quiescent_Moba (hMoba := hMoba)
    ∧ quiescent_MobaIdeal (hMobaIdeal := hMobaIdeal)
    ∧ quiescent_MobaIdeal_pre_finite_moba (hMobaIdeal := hMobaIdeal) (hPre_finite_moba := hPre_finite_moba)
    ∧ quiescent_MobaRefIdeal (hMobaRefIdeal := hMobaRefIdeal)
    ∧ quiescent_MobaRefIdeal_pre_finite_moba (hMobaRefIdeal := hMobaRefIdeal) (hPre_finite_moba := hPre_finite_moba)
    ∧ quiescent_Pool (hPool := hPool)
    ∧ quiescent_PoolIdeal (hPoolIdeal := hPoolIdeal)
    ∧ quiescent_PoolIdeal_pre_finite_pool (hPoolIdeal := hPoolIdeal) (hPre_finite_pool := hPre_finite_pool)
    ∧ quiescent_PoolRefIdeal (hPoolRefIdeal := hPoolRefIdeal)
    ∧ quiescent_PoolRefIdeal_pre_finite_pool (hPoolRefIdeal := hPoolRefIdeal) (hPre_finite_pool := hPre_finite_pool)
    ∧ preserves_Fox_FoxIdeal
    ∧ algebraic_FoxIdeal_FoxRefIdeal_pre_finite (hFoxIdeal := hFoxIdeal) (hFoxRefIdeal := hFoxRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_SampleFfn_SampleFfnIdeal
    ∧ algebraic_SampleFfnIdeal_SampleFfnRefIdeal (hSampleFfnIdeal := hSampleFfnIdeal) (hSampleFfnRefIdeal := hSampleFfnRefIdeal)
    ∧ preserves_SampleProj_SampleProjIdeal
    ∧ algebraic_SampleProjIdeal_SampleProjRefIdeal (hSampleProjIdeal := hSampleProjIdeal) (hSampleProjRefIdeal := hSampleProjRefIdeal)
    ∧ preserves_Moba_MobaIdeal
    ∧ algebraic_MobaIdeal_MobaRefIdeal_pre_finite_moba (hMobaIdeal := hMobaIdeal) (hMobaRefIdeal := hMobaRefIdeal) (hPre_finite_moba := hPre_finite_moba)
    ∧ preserves_Pool_PoolIdeal
    ∧ algebraic_PoolIdeal_PoolRefIdeal_pre_finite_pool (hPoolIdeal := hPoolIdeal) (hPoolRefIdeal := hPoolRefIdeal) (hPre_finite_pool := hPre_finite_pool)
-- ==== Pre_finite.lean ====
abbrev S8x2048x512 : Shape := ⟨3, ![8, 2048, 512]⟩
abbrev S4x8x2048x512 : Shape := ⟨4, ![4, 8, 2048, 512]⟩
abbrev S4x8x2048x8 : Shape := ⟨4, ![4, 8, 2048, 8]⟩
abbrev S_ : Shape := ⟨0, ![]⟩
abbrev S1x8x2048x512 : Shape := ⟨4, ![1, 8, 2048, 512]⟩
abbrev S1x8x2048x8 : Shape := ⟨4, ![1, 8, 2048, 8]⟩
abbrev S8x2048x8 : Shape := ⟨3, ![8, 2048, 8]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  slices_S4x8x2048x512_S1x8x2048x512_3_0_0_0 : S4x8x2048x512.Slices ![3, 0, 0, 0] S1x8x2048x512
  shapeCasts_S1x8x2048x512_S8x2048x512 : S1x8x2048x512.ShapeCasts S8x2048x512
  slices_S4x8x2048x8_S1x8x2048x8_3_0_0_0 : S4x8x2048x8.Slices ![3, 0, 0, 0] S1x8x2048x8
  shapeCasts_S1x8x2048x8_S8x2048x8 : S1x8x2048x8.ShapeCasts S8x2048x8
  bcast_S_S8x2048x8 : S_.BroadcastsInDim S8x2048x8 (![] : Fin 0 → Fin S8x2048x8.rank)
  reducesTo_S8x2048x8_S_d0_1_2 : S8x2048x8.ReducesTo [0, 1, 2] S_

variable [Facts]

def fn {F : FTy → Type} [FloatOps F] (main_arg0 : FVec F S8x2048x512 .f32) (main_arg1 : FVec F S4x8x2048x512 .f32) (main_arg2 : FVec F S4x8x2048x512 .f32) (main_arg3 : FVec F S4x8x2048x8 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S1x8x2048x512 .f32 := (extractStridedSlice S1x8x2048x512 ![3, 0, 0, 0] · slices_S4x8x2048x512_S1x8x2048x512_3_0_0_0) main_arg1
  let main_v5 : FVec F S8x2048x512 .f32 := shapeCast S8x2048x512 main_v4 shapeCasts_S1x8x2048x512_S8x2048x512
  let main_v6 : FVec F S8x2048x512 .f32 := Host.absf main_v5
  let main_cst_0 : FVec F S_ .f32 := constant S_ .f32 0x7F800000#32
  let main_v7 : FVec F S8x2048x512 .f32 := broadcastInDim S8x2048x512 ![] bcast_S_S8x2048x512 main_cst_0
  let main_v8 : IVec S8x2048x512 1 := cmpf .olt main_v6 main_v7
  let main_c_1 : IVec S_ 1 := constantI S_ 1 1#1
  let main_v9 : IVec S_ 1 := (fun x v => Host.reduce IntOp.andi x v reducesTo_S8x2048x512_S_d0_1_2 h_S_) main_v8 main_c_1
  let main_v10 : IVec S_ 1 := andi main_v3 main_v9
  let main_v11 : FVec F S1x8x2048x8 .f32 := (extractStridedSlice S1x8x2048x8 ![3, 0, 0, 0] · slices_S4x8x2048x8_S1x8x2048x8_3_0_0_0) main_arg3
  let main_v12 : FVec F S8x2048x8 .f32 := shapeCast S8x2048x8 main_v11 shapeCasts_S1x8x2048x8_S8x2048x8
  let main_v13 : FVec F S8x2048x8 .f32 := Host.absf main_v12
  let main_cst_2 : FVec F S_ .f32 := constant S_ .f32 0x7F800000#32
  let main_v14 : FVec F S8x2048x8 .f32 := broadcastInDim S8x2048x8 ![] bcast_S_S8x2048x8 main_cst_2
  let main_v15 : IVec S8x2048x8 1 := cmpf .olt main_v13 main_v14
  let main_c_3 : IVec S_ 1 := constantI S_ 1 1#1
  let main_v16 : IVec S_ 1 := (fun x v => Host.reduce IntOp.andi x v reducesTo_S8x2048x8_S_d0_1_2 h_S_) main_v15 main_c_3
  let main_v17 : IVec S_ 1 := andi main_v10 main_v16
  main_v17
-- ==== Pre_finite_moba.lean ====
abbrev S8x2048x512 : Shape := ⟨3, ![8, 2048, 512]⟩
abbrev S4x8x2048x512 : Shape := ⟨4, ![4, 8, 2048, 512]⟩
abbrev S_ : Shape := ⟨0, ![]⟩
abbrev S1x8x2048x512 : Shape := ⟨4, ![1, 8, 2048, 512]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  slices_S4x8x2048x512_S1x8x2048x512_3_0_0_0 : S4x8x2048x512.Slices ![3, 0, 0, 0] S1x8x2048x512
  shapeCasts_S1x8x2048x512_S8x2048x512 : S1x8x2048x512.ShapeCasts S8x2048x512

variable [Facts]

def fn {F : FTy → Type} [FloatOps F] (main_arg0 : FVec F S8x2048x512 .f32) (main_arg1 : FVec F S4x8x2048x512 .f32) (main_arg2 : FVec F S4x8x2048x512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S1x8x2048x512 .f32 := (extractStridedSlice S1x8x2048x512 ![3, 0, 0, 0] · slices_S4x8x2048x512_S1x8x2048x512_3_0_0_0) main_arg1
  let main_v5 : FVec F S8x2048x512 .f32 := shapeCast S8x2048x512 main_v4 shapeCasts_S1x8x2048x512_S8x2048x512
  let main_v6 : FVec F S8x2048x512 .f32 := Host.absf main_v5
  let main_cst_0 : FVec F S_ .f32 := constant S_ .f32 0x7F800000#32
  let main_v7 : FVec F S8x2048x512 .f32 := broadcastInDim S8x2048x512 ![] bcast_S_S8x2048x512 main_cst_0
  let main_v8 : IVec S8x2048x512 1 := cmpf .olt main_v6 main_v7
  let main_c_1 : IVec S_ 1 := constantI S_ 1 1#1
  let main_v9 : IVec S_ 1 := (fun x v => Host.reduce IntOp.andi x v reducesTo_S8x2048x512_S_d0_1_2 h_S_) main_v8 main_c_1
  let main_v10 : IVec S_ 1 := andi main_v3 main_v9
  main_v10
-- ==== Pre_finite_pool.lean ====
abbrev S8x2048x512 : Shape := ⟨3, ![8, 2048, 512]⟩
abbrev S4x128x128 : Shape := ⟨3, ![4, 128, 128]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel

variable [Facts]

def fn {F : FTy → Type} [FloatOps F] (main_arg0 : FVec F S8x2048x512 .f32) (main_arg1 : FVec F S4x128x128 .f32) (main_arg2 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  main_v3
-- ==== Fox.lean ====
abbrev S8x2048x512 : Shape := ⟨3, ![8, 2048, 512]⟩
abbrev S4x8x2048x512 : Shape := ⟨4, ![4, 8, 2048, 512]⟩
abbrev S4x8x2048x8 : Shape := ⟨4, ![4, 8, 2048, 8]⟩
abbrev S8x4x2048x128 : Shape := ⟨4, ![8, 4, 2048, 128]⟩
abbrev S1x1x2048x8 : Shape := ⟨4, ![1, 1, 2048, 8]⟩
abbrev S1x4x2048x128 : Shape := ⟨4, ![1, 4, 2048, 128]⟩
abbrev S256x256 : Shape := ⟨2, ![256, 256]⟩
abbrev S1x8 : Shape := ⟨2, ![1, 8]⟩
abbrev S1x1x256x8 : Shape := ⟨4, ![1, 1, 256, 8]⟩
abbrev S256x8 : Shape := ⟨2, ![256, 8]⟩
abbrev S2048x8 : Shape := ⟨2, ![2048, 8]⟩
abbrev S8x512 : Shape := ⟨2, ![8, 512]⟩
abbrev S2048x512 : Shape := ⟨2, ![2048, 512]⟩
abbrev S2048x128 : Shape := ⟨2, ![2048, 128]⟩
abbrev S1x1x2048x128 : Shape := ⟨4, ![1, 1, 2048, 128]⟩
abbrev S1x2048x128 : Shape := ⟨3, ![1, 2048, 128]⟩
abbrev S8x512x256 : Shape := ⟨3, ![8, 512, 256]⟩
abbrev S2048x256 : Shape := ⟨2, ![2048, 256]⟩
abbrev S256x128 : Shape := ⟨2, ![256, 128]⟩
abbrev S1x256x128 : Shape := ⟨3, ![1, 256, 128]⟩
abbrev S512x256 : Shape := ⟨2, ![512, 256]⟩
abbrev S1x512x256 : Shape := ⟨3, ![1, 512, 256]⟩
abbrev S512 : Shape := ⟨1, ![512]⟩
abbrev S512x1 : Shape := ⟨2, ![512, 1]⟩
abbrev S512x128 : Shape := ⟨2, ![512, 128]⟩
abbrev S512x512 : Shape := ⟨2, ![512, 512]⟩
abbrev S768x256 : Shape := ⟨2, ![768, 256]⟩
abbrev S512x768 : Shape := ⟨2, ![512, 768]⟩
abbrev S768x128 : Shape := ⟨2, ![768, 128]⟩
abbrev S1024x256 : Shape := ⟨2, ![1024, 256]⟩
abbrev S512x1024 : Shape := ⟨2, ![512, 1024]⟩
abbrev S1024x128 : Shape := ⟨2, ![1024, 128]⟩
abbrev S1280x256 : Shape := ⟨2, ![1280, 256]⟩
abbrev S512x1280 : Shape := ⟨2, ![512, 1280]⟩
abbrev S1280x128 : Shape := ⟨2, ![1280, 128]⟩
abbrev S1536x256 : Shape := ⟨2, ![1536, 256]⟩
abbrev S512x1536 : Shape := ⟨2, ![512, 1536]⟩
abbrev S1536x128 : Shape := ⟨2, ![1536, 128]⟩
abbrev S1792x256 : Shape := ⟨2, ![1792, 256]⟩
abbrev S512x1792 : Shape := ⟨2, ![512, 1792]⟩
abbrev S1792x128 : Shape := ⟨2, ![1792, 128]⟩

abbrev nBuf : Space → Nat
  | .hbm => 6
  | .vmem => 17
  | .smem => 0
  | _ => 0

abbrev bufTy : (tb : Table) → Fin (tcTables nBuf tb) → BufTy
  | .hbm, ⟨0, _⟩ => ⟨S8x2048x512, .f32⟩
  | .hbm, ⟨1, _⟩ => ⟨S4x8x2048x512, .f32⟩
  | .hbm, ⟨2, _⟩ => ⟨S4x8x2048x512, .f32⟩
  | .hbm, ⟨3, _⟩ => ⟨S4x8x2048x8, .f32⟩
  | .hbm, ⟨4, _⟩ => ⟨S8x4x2048x128, .bf16⟩
  | .hbm, ⟨5, _⟩ => ⟨S8x2048x512, .bf16⟩
  | .local _ .vmem, ⟨0, _⟩ => ⟨S1x1x2048x8, .f32⟩
  | .local _ .vmem, ⟨1, _⟩ => ⟨S1x1x2048x8, .f32⟩
  | .local _ .vmem, ⟨2, _⟩ => ⟨S1x4x2048x128, .bf16⟩
  | .local _ .vmem, ⟨3, _⟩ => ⟨S1x4x2048x128, .bf16⟩
  | .local _ .vmem, ⟨4, _⟩ => ⟨S1x2048x128, .f32⟩
  | .local _ .vmem, ⟨5, _⟩ => ⟨S1x2048x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S1x1x2048x128, .f32⟩
  | .local _ .vmem, ⟨9, _⟩ => ⟨S1x1x2048x128, .f32⟩
  | .local _ .vmem, ⟨10, _⟩ => ⟨S1x1x2048x128, .bf16⟩
  | .local _ .vmem, ⟨11, _⟩ => ⟨S1x1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S8x512x256, .bf16⟩
  | .local _ .vmem, ⟨15, _⟩ => ⟨S2048x256, .bf16⟩
  | .local _ .vmem, ⟨16, _⟩ => ⟨S2048x128, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x2048x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc1_transform_2 (i : grid1.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== FoxIdeal.lean ====
variable {F : FTy → Type} [FloatOps F] [Named F]
def κ : String → Option EReal := fun
  | "mask" => some ⊥
  | _ => none
-- ==== FoxRefIdeal.lean ====
abbrev S8x2048x512 : Shape := ⟨3, ![8, 2048, 512]⟩
abbrev S4x8x2048x512 : Shape := ⟨4, ![4, 8, 2048, 512]⟩
abbrev S4x8x2048x8 : Shape := ⟨4, ![4, 8, 2048, 8]⟩
abbrev S8x2048x8x64 : Shape := ⟨4, ![8, 2048, 8, 64]⟩
abbrev S1x8x2048x512 : Shape := ⟨4, ![1, 8, 2048, 512]⟩
abbrev S1x8x2048x8 : Shape := ⟨4, ![1, 8, 2048, 8]⟩
abbrev S8x2048x8 : Shape := ⟨3, ![8, 2048, 8]⟩
abbrev S_ : Shape := ⟨0, ![]⟩
abbrev S2048 : Shape := ⟨1, ![2048]⟩
abbrev S8x8x2048x2048 : Shape := ⟨4, ![8, 8, 2048, 2048]⟩
abbrev S8x8x2048 : Shape := ⟨3, ![8, 8, 2048]⟩
abbrev S8x8x2048x1 : Shape := ⟨4, ![8, 8, 2048, 1]⟩
abbrev S8x8x1x2048 : Shape := ⟨4, ![8, 8, 1, 2048]⟩
abbrev S1x2048 : Shape := ⟨2, ![1, 2048]⟩
abbrev S2048x1 : Shape := ⟨2, ![2048, 1]⟩
abbrev S2048x2048 : Shape := ⟨2, ![2048, 2048]⟩
abbrev S8x8x64x2048 : Shape := ⟨4, ![8, 8, 64, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S4x8x2048x512, .f32⟩
  | .hbm, ⟨2, _⟩ => ⟨S4x8x2048x512, .f32⟩
  | .hbm, ⟨3, _⟩ => ⟨S4x8x2048x8, .f32⟩
  | .hbm, ⟨4, _⟩ => ⟨S8x2048x8x64, .f32⟩
  | .hbm, ⟨5, _⟩ => ⟨S1x8x2048x512, .f32⟩
  | .hbm, ⟨6, _⟩ => ⟨S8x2048x512, .f32⟩
  | .hbm, ⟨7, _⟩ => ⟨S8x2048x8x64, .f32⟩
  | .hbm, ⟨8, _⟩ => ⟨S1x8x2048x512, .f32⟩
  | .hbm, ⟨9, _⟩ => ⟨S8x2048x512, .f32⟩
  | .hbm, ⟨10, _⟩ => ⟨S8x2048x8x64, .f32⟩
  | .hbm, ⟨11, _⟩ => ⟨S1x8x2048x8, .f32⟩
  | .hbm, ⟨12, _⟩ => ⟨S8x2048x8, .f32⟩
  | .hbm, ⟨13, _⟩ => ⟨S_, .f32⟩
  | .hbm, ⟨14, _⟩ => ⟨S_, .f32⟩
  | .hbm, ⟨15, _⟩ => ⟨S8x2048x8, .f32⟩
  | .hbm, ⟨16, _⟩ => ⟨S8x2048x8, .f32⟩
  | .hbm, ⟨17, _⟩ => ⟨S2048, .i32⟩
  | .hbm, ⟨18, _⟩ => ⟨S8x8x2048x2048, .f32⟩
  | .hbm, ⟨19, _⟩ => ⟨S_, .f32⟩
  | .hbm, ⟨20, _⟩ => ⟨S8x8x2048x2048, .f32⟩
  | .hbm, ⟨21, _⟩ => ⟨S8x8x2048x2048, .f32⟩
  | .hbm, ⟨22, _⟩ => ⟨S8x8x2048, .f32⟩
  | .hbm, ⟨23, _⟩ => ⟨S8x8x2048x1, .f32⟩
  | .hbm, ⟨24, _⟩ => ⟨S8x8x2048x2048, .f32⟩
  | .hbm, ⟨25, _⟩ => ⟨S8x8x2048x2048, .f32⟩
  | .hbm, ⟨26, _⟩ => ⟨S8x8x2048, .f32⟩
  | .hbm, ⟨27, _⟩ => ⟨S8x8x1x2048, .f32⟩
  | .hbm, ⟨28, _⟩ => ⟨S8x8x2048x2048, .f32⟩
  | .hbm, ⟨29, _⟩ => ⟨S8x8x2048x2048, .f32⟩
  | .hbm, ⟨30, _⟩ => ⟨S1x2048, .i32⟩
  | .hbm, ⟨31, _⟩ => ⟨S2048x1, .i32⟩
  | .hbm, ⟨32, _⟩ => ⟨S2048x2048, .i32⟩
  | .hbm, ⟨33, _⟩ => ⟨S2048x2048, .i32⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S8x8x2048x2048, .i1⟩
  | .hbm, ⟨38, _⟩ => ⟨S8x8x2048x2048, .f32⟩
  | .hbm, ⟨39, _⟩ => ⟨S8x8x2048x2048, .f32⟩
  | .hbm, ⟨40, _⟩ => ⟨S_, .f32⟩
  | .hbm, ⟨41, _⟩ => ⟨S8x8x2048, .f32⟩
  | .hbm, ⟨42, _⟩ => ⟨S_, .f32⟩
  | .hbm, ⟨43, _⟩ => ⟨S8x8x2048, .f32⟩
  | .hbm, ⟨44, _⟩ => ⟨S8x8x2048, .f32⟩
  | .hbm, ⟨45, _⟩ => ⟨S8x8x2048x1, .f32⟩
  | .hbm, ⟨46, _⟩ => ⟨S8x8x2048x2048, .f32⟩
  | .hbm, ⟨47, _⟩ => ⟨S8x8x2048x2048, .f32⟩
  | .hbm, ⟨48, _⟩ => ⟨S8x8x2048x2048, .f32⟩
  | .hbm, ⟨49, _⟩ => ⟨S_, .f32⟩
  | .hbm, ⟨50, _⟩ => ⟨S8x8x2048, .f32⟩
  | .hbm, ⟨51, _⟩ => ⟨S8x8x2048x1, .f32⟩
  | .hbm, ⟨52, _⟩ => ⟨S8x8x2048x2048, .f32⟩
  | .hbm, ⟨53, _⟩ => ⟨S8x8x2048x2048, .f32⟩
  | .hbm, ⟨54, _⟩ => ⟨S8x8x64x2048, .f32⟩
  | .hbm, ⟨55, _⟩ => ⟨S8x2048x8x64, .f32⟩
  | .hbm, ⟨56, _⟩ => ⟨S8x2048x512, .f32⟩
  | .hbm, ⟨57, _⟩ => ⟨S8x2048x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_call0_cst : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_3 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S16384x2816, .f32⟩
  | .hbm, ⟨26, _⟩ => ⟨S_, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== Merge.lean ====
abbrev S16384x1024 : Shape := ⟨2, ![16384, 1024]⟩
abbrev S1024 : Shape := ⟨1, ![1024]⟩
abbrev S16384x512 : Shape := ⟨2, ![16384, 512]⟩
abbrev S1024x6664 : Shape := ⟨2, ![1024, 6664]⟩
abbrev S512x1024 : Shape := ⟨2, ![512, 1024]⟩
abbrev S1024x1024 : Shape := ⟨2, ![1024, 1024]⟩
abbrev S1x1024 : Shape := ⟨2, ![1, 1024]⟩
abbrev S1024x3072 : Shape := ⟨2, ![1024, 3072]⟩
abbrev S512x512 : Shape := ⟨2, ![512, 512]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1024x6664, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S1x1024, .f32⟩
  | .hbm, ⟨11, _⟩ => ⟨S1024x3072, .f32⟩
  | .hbm, ⟨12, _⟩ => ⟨S1024x3072, .bf16⟩
  | .hbm, ⟨13, _⟩ => ⟨S512x1024, .bf16⟩
  | .hbm, ⟨14, _⟩ => ⟨S512x1024, .bf16⟩
  | .hbm, ⟨15, _⟩ => ⟨S512x1024, .bf16⟩
  | .hbm, ⟨16, _⟩ => ⟨S1024x1024, .bf16⟩
  | .hbm, ⟨17, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S1024x3072, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MergeRefIdeal.lean ====
abbrev S16384x1024 : Shape := ⟨2, ![16384, 1024]⟩
abbrev S1024 : Shape := ⟨1, ![1024]⟩
abbrev S16384x512 : Shape := ⟨2, ![16384, 512]⟩
abbrev S1024x6664 : Shape := ⟨2, ![1024, 6664]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6664 : Shape := ⟨2, ![16384, 6664]⟩
abbrev S16384x3072 : Shape := ⟨2, ![16384, 3072]⟩
abbrev S16384x3x1024 : Shape := ⟨3, ![16384, 3, 1024]⟩
abbrev S16384x1x1024 : Shape := ⟨3, ![16384, 1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1024x6664, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S16384x1024, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x1024, .f32⟩
  | .hbm, ⟨22, _⟩ => ⟨S16384x1024, .f32⟩
  | .hbm, ⟨23, _⟩ => ⟨S1x1024, .f32⟩
  | .hbm, ⟨24, _⟩ => ⟨S16384x1024, .f32⟩
  | .hbm, ⟨25, _⟩ => ⟨S16384x1024, .f32⟩
  | .hbm, ⟨26, _⟩ => ⟨S16384x6664, .f32⟩
  | .hbm, ⟨27, _⟩ => ⟨S16384x3072, .f32⟩
  | .hbm, ⟨28, _⟩ => ⟨S16384x3072, .f32⟩
  | .hbm, ⟨29, _⟩ => ⟨S16384x3072, .f32⟩
  | .hbm, ⟨30, _⟩ => ⟨S_, .f32⟩
  | .hbm, ⟨31, _⟩ => ⟨S16384x3072, .f32⟩
  | .hbm, ⟨32, _⟩ => ⟨S16384x3072, .f32⟩
  | .hbm, ⟨33, _⟩ => ⟨S_, .f32⟩
  | .hbm, ⟨34, _⟩ => ⟨S16384x3072, .f32⟩
  | .hbm, ⟨35, _⟩ => ⟨S16384x3072, .f32⟩
  | .hbm, ⟨36, _⟩ => ⟨S16384x3x1024, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x1x1024, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x6664 : Shape := ⟨2, ![1024, 6664]⟩
abbrev S8 : Shape := ⟨1, ![8]⟩
abbrev S4x16384x512 : Shape := ⟨3, ![4, 16384, 512]⟩
abbrev S4x16384x8 : Shape := ⟨3, ![4, 16384, 8]⟩
abbrev S1x1024 : Shape := ⟨2, ![1, 1024]⟩
abbrev S1024x3584 : Shape := ⟨2, ![1024, 3584]⟩
abbrev S1024x8 : Shape := ⟨2, ![1024, 8]⟩
abbrev S1x8 : Shape := ⟨2, ![1, 8]⟩
abbrev S16384x512 : Shape := ⟨2, ![16384, 512]⟩
abbrev S512x1024 : Shape := ⟨2, ![512, 1024]⟩
abbrev S512x512 : Shape := ⟨2, ![512, 512]⟩
abbrev S1x512x512 : Shape := ⟨3, ![1, 512, 512]⟩
abbrev S1x512x8 : Shape := ⟨3, ![1, 512, 8]⟩
abbrev S512 : Shape := ⟨1, ![512]⟩
abbrev S512x1 : Shape := ⟨2, ![512, 1]⟩
abbrev S1024x512 : Shape := ⟨2, ![1024, 512]⟩
abbrev S512x8 : Shape := ⟨2, ![512, 8]⟩

abbrev nBuf : Space → Nat
  | .hbm => 23
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6664, .f32⟩
  | .hbm, ⟨3, _⟩ => ⟨S8, .f32⟩
  | .hbm, ⟨4, _⟩ => ⟨S4x16384x512, .f32⟩
  | .hbm, ⟨5, _⟩ => ⟨S4x16384x512, .f32⟩
  | .hbm, ⟨6, _⟩ => ⟨S4x16384x512, .f32⟩
  | .hbm, ⟨7, _⟩ => ⟨S4x16384x512, .f32⟩
  | .hbm, ⟨8, _⟩ => ⟨S4x16384x8, .f32⟩
  | .hbm, ⟨9, _⟩ => ⟨S1x1024, .f32⟩
  | .hbm, ⟨10, _⟩ => ⟨S1024x3584, .f32⟩
  | .hbm, ⟨11, _⟩ => ⟨S1024x3584, .bf16⟩
  | .hbm, ⟨12, _⟩ => ⟨S1024x8, .f32⟩
  | .hbm, ⟨13, _⟩ => ⟨S1024x8, .bf16⟩
  | .hbm, ⟨14, _⟩ => ⟨S1x8, .f32⟩
  | .hbm, ⟨15, _⟩ => ⟨S16384x512, .f32⟩
  | .hbm, ⟨16, _⟩ => ⟨S4x16384x512, .f32⟩
  | .hbm, ⟨17, _⟩ => ⟨S4x16384x512, .f32⟩
  | .hbm, ⟨18, _⟩ => ⟨S16384x512, .f32⟩
  | .hbm, ⟨19, _⟩ => ⟨S16384x512, .f32⟩
  | .hbm, ⟨20, _⟩ => ⟨S4x16384x512, .f32⟩
  | .hbm, ⟨21, _⟩ => ⟨S4x16384x512, .f32⟩
  | .hbm, ⟨22, _⟩ => ⟨S4x16384x8, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3584, .bf16⟩
  | .local _ .vmem, ⟨4, _⟩ => ⟨S1024x8, .bf16⟩
  | .local _ .vmem, ⟨5, _⟩ => ⟨S1x8, .f32⟩
  | .local _ .vmem, ⟨6, _⟩ => ⟨S512x512, .f32⟩
  | .local _ .vmem, ⟨7, _⟩ => ⟨S512x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x8, .f32⟩
  | .local _ .vmem, ⟨21, _⟩ => ⟨S1x512x8, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v6_7 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_16 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_17 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x8 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjRefIdeal.lean ====
abbrev S16384x1024 : Shape := ⟨2, ![16384, 1024]⟩
abbrev S1024 : Shape := ⟨1, ![1024]⟩
abbrev S1024x6664 : Shape := ⟨2, ![1024, 6664]⟩
abbrev S8 : Shape := ⟨1, ![8]⟩
abbrev S4x16384x512 : Shape := ⟨3, ![4, 16384, 512]⟩
abbrev S4x16384x8 : Shape := ⟨3, ![4, 16384, 8]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x6664 : Shape := ⟨2, ![16384, 6664]⟩
abbrev S16384x512 : Shape := ⟨2, ![16384, 512]⟩
abbrev S16384x8 : Shape := ⟨2, ![16384, 8]⟩
abbrev S16384x3072 : Shape := ⟨2, ![16384, 3072]⟩
abbrev S1x8 : Shape := ⟨2, ![1, 8]⟩
abbrev S3x16384x512 : Shape := ⟨3, ![3, 16384, 512]⟩
abbrev S1x16384x512 : Shape := ⟨3, ![1, 16384, 512]⟩
abbrev S3x16384x8 : Shape := ⟨3, ![3, 16384, 8]⟩
abbrev S1x16384x8 : Shape := ⟨3, ![1, 16384, 8]⟩

abbrev nBuf : Space → Nat
  | .hbm => 69
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x6664, .f32⟩
  | .hbm, ⟨3, _⟩ => ⟨S8, .f32⟩
  | .hbm, ⟨4, _⟩ => ⟨S4x16384x512, .f32⟩
  | .hbm, ⟨5, _⟩ => ⟨S4x16384x512, .f32⟩
  | .hbm, ⟨6, _⟩ => ⟨S4x16384x512, .f32⟩
  | .hbm, ⟨7, _⟩ => ⟨S4x16384x512, .f32⟩
  | .hbm, ⟨8, _⟩ => ⟨S4x16384x8, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x6664, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S16384x512, .f32⟩
  | .hbm, ⟨32, _⟩ => ⟨S16384x512, .f32⟩
  | .hbm, ⟨33, _⟩ => ⟨S16384x8, .f32⟩
  | .hbm, ⟨34, _⟩ => ⟨S16384x3072, .f32⟩
  | .hbm, ⟨35, _⟩ => ⟨S1x8, .f32⟩
  | .hbm, ⟨36, _⟩ => ⟨S16384x8, .f32⟩
  | .hbm, ⟨37, _⟩ => ⟨S16384x8, .f32⟩
  | .hbm, ⟨38, _⟩ => ⟨S16384x8, .f32⟩
  | .hbm, ⟨39, _⟩ => ⟨S_, .f32⟩
  | .hbm, ⟨40, _⟩ => ⟨S16384x8, .f32⟩
  | .hbm, ⟨41, _⟩ => ⟨S16384x8, .f32⟩
  | .hbm, ⟨42, _⟩ => ⟨S16384x8, .f32⟩
  | .hbm, ⟨43, _⟩ => ⟨S16384x8, .f32⟩
  | .hbm, ⟨44, _⟩ => ⟨S16384x8, .i1⟩
  | .hbm, ⟨45, _⟩ => ⟨S16384x8, .f32⟩
  | .hbm, ⟨46, _⟩ => ⟨S16384x8, .f32⟩
  | .hbm, ⟨47, _⟩ => ⟨S16384x8, .f32⟩
  | .hbm, ⟨48, _⟩ => ⟨S16384x8, .f32⟩
  | .hbm, ⟨49, _⟩ => ⟨S16384x8, .f32⟩
  | .hbm, ⟨50, _⟩ => ⟨S16384x8, .f32⟩
  | .hbm, ⟨51, _⟩ => ⟨S16384x8, .f32⟩
  | .hbm, ⟨52, _⟩ => ⟨S16384x8, .f32⟩
  | .hbm, ⟨53, _⟩ => ⟨S16384x8, .f32⟩
  | .hbm, ⟨54, _⟩ => ⟨S3x16384x512, .f32⟩
  | .hbm, ⟨55, _⟩ => ⟨S1x16384x512, .f32⟩
  | .hbm, ⟨56, _⟩ => ⟨S4x16384x512, .f32⟩
  | .hbm, ⟨57, _⟩ => ⟨S3x16384x512, .f32⟩
  | .hbm, ⟨58, _⟩ => ⟨S1x16384x512, .f32⟩
  | .hbm, ⟨59, _⟩ => ⟨S4x16384x512, .f32⟩
  | .hbm, ⟨60, _⟩ => ⟨S3x16384x512, .f32⟩
  | .hbm, ⟨61, _⟩ => ⟨S1x16384x512, .f32⟩
  | .hbm, ⟨62, _⟩ => ⟨S4x16384x512, .f32⟩
  | .hbm, ⟨63, _⟩ => ⟨S3x16384x512, .f32⟩
  | .hbm, ⟨64, _⟩ => ⟨S1x16384x512, .f32⟩
  | .hbm, ⟨65, _⟩ => ⟨S4x16384x512, .f32⟩
  | .hbm, ⟨66, _⟩ => ⟨S3x16384x8, .f32⟩
  | .hbm, ⟨67, _⟩ => ⟨S1x16384x8, .f32⟩
  | .hbm, ⟨68, _⟩ => ⟨S4x16384x8, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_v1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== SampleFfn.lean ====
abbrev S256x1024 : Shape := ⟨2, ![256, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 10
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S256x1024, .f32⟩
  | .local _ .vmem, ⟨0, _⟩ => ⟨S256x1024, .f32⟩
  | .local _ .vmem, ⟨1, _⟩ => ⟨S1x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== SampleFfnRefIdeal.lean ====
abbrev S256x1024 : Shape := ⟨2, ![256, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x5632 : Shape := ⟨2, ![256, 5632]⟩
abbrev S256x2816 : Shape := ⟨2, ![256, 2816]⟩

abbrev nBuf : Space → Nat
  | .hbm => 52
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x5632, .f32⟩
  | .hbm, ⟨22, _⟩ => ⟨S256x2816, .f32⟩
  | .hbm, ⟨23, _⟩ => ⟨S256x2816, .f32⟩
  | .hbm, ⟨24, _⟩ => ⟨S256x2816, .f32⟩
  | .hbm, ⟨25, _⟩ => ⟨S256x2816, .f32⟩
  | .hbm, ⟨26, _⟩ => ⟨S_, .f32⟩
  | .hbm, ⟨27, _⟩ => ⟨S256x2816, .f32⟩
  | .hbm, ⟨28, _⟩ => ⟨S256x2816, .f32⟩
  | .hbm, ⟨29, _⟩ => ⟨S_, .f32⟩
  | .hbm, ⟨30, _⟩ => ⟨S256x2816, .f32⟩
  | .hbm, ⟨31, _⟩ => ⟨S256x2816, .f32⟩
  | .hbm, ⟨32, _⟩ => ⟨S256x2816, .f32⟩
  | .hbm, ⟨33, _⟩ => ⟨S256x2816, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256, .f32⟩
  | .hbm, ⟨39, _⟩ => ⟨S256x1, .f32⟩
  | .hbm, ⟨40, _⟩ => ⟨S_, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x1, .f32⟩
  | .hbm, ⟨47, _⟩ => ⟨S256x1024, .f32⟩
  | .hbm, ⟨48, _⟩ => ⟨S256x1024, .f32⟩
  | .hbm, ⟨49, _⟩ => ⟨S1x1024, .f32⟩
  | .hbm, ⟨50, _⟩ => ⟨S256x1024, .f32⟩
  | .hbm, ⟨51, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== SampleProj.lean ====
abbrev S256x1024 : Shape := ⟨2, ![256, 1024]⟩
abbrev S1024 : Shape := ⟨1, ![1024]⟩
abbrev S1024x6664 : Shape := ⟨2, ![1024, 6664]⟩
abbrev S8 : Shape := ⟨1, ![8]⟩
abbrev S4x256x512 : Shape := ⟨3, ![4, 256, 512]⟩
abbrev S4x256x8 : Shape := ⟨3, ![4, 256, 8]⟩
abbrev S1x1024 : Shape := ⟨2, ![1, 1024]⟩
abbrev S1024x3584 : Shape := ⟨2, ![1024, 3584]⟩
abbrev S1024x8 : Shape := ⟨2, ![1024, 8]⟩
abbrev S1x8 : Shape := ⟨2, ![1, 8]⟩
abbrev S256x512 : Shape := ⟨2, ![256, 512]⟩
abbrev S1x256x512 : Shape := ⟨3, ![1, 256, 512]⟩
abbrev S1x256x8 : Shape := ⟨3, ![1, 256, 8]⟩
abbrev S256 : Shape := ⟨1, ![256]⟩
abbrev S256x1 : Shape := ⟨2, ![256, 1]⟩
abbrev S1024x512 : Shape := ⟨2, ![1024, 512]⟩
abbrev S256x8 : Shape := ⟨2, ![256, 8]⟩

abbrev nBuf : Space → Nat
  | .hbm => 23
  | .vmem => 13
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x6664, .f32⟩
  | .hbm, ⟨3, _⟩ => ⟨S8, .f32⟩
  | .hbm, ⟨4, _⟩ => ⟨S4x256x512, .f32⟩
  | .hbm, ⟨5, _⟩ => ⟨S4x256x512, .f32⟩
  | .hbm, ⟨6, _⟩ => ⟨S4x256x512, .f32⟩
  | .hbm, ⟨7, _⟩ => ⟨S4x256x512, .f32⟩
  | .hbm, ⟨8, _⟩ => ⟨S4x256x8, .f32⟩
  | .hbm, ⟨9, _⟩ => ⟨S1x1024, .f32⟩
  | .hbm, ⟨10, _⟩ => ⟨S1024x3584, .f32⟩
  | .hbm, ⟨11, _⟩ => ⟨S1024x3584, .bf16⟩
  | .hbm, ⟨12, _⟩ => ⟨S1024x8, .f32⟩
  | .hbm, ⟨13, _⟩ => ⟨S1024x8, .bf16⟩
  | .hbm, ⟨14, _⟩ => ⟨S1x8, .f32⟩
  | .hbm, ⟨15, _⟩ => ⟨S256x512, .f32⟩
  | .hbm, ⟨16, _⟩ => ⟨S4x256x512, .f32⟩
  | .hbm, ⟨17, _⟩ => ⟨S4x256x512, .f32⟩
  | .hbm, ⟨18, _⟩ => ⟨S256x512, .f32⟩
  | .hbm, ⟨19, _⟩ => ⟨S256x512, .f32⟩
  | .hbm, ⟨20, _⟩ => ⟨S4x256x512, .f32⟩
  | .hbm, ⟨21, _⟩ => ⟨S4x256x512, .f32⟩
  | .hbm, ⟨22, _⟩ => ⟨S4x256x8, .f32⟩
  | .local _ .vmem, ⟨0, _⟩ => ⟨S256x1024, .f32⟩
  | .local _ .vmem, ⟨1, _⟩ => ⟨S1x1024, .f32⟩
  | .local _ .vmem, ⟨2, _⟩ => ⟨S1024x3584, .bf16⟩
  | .local _ .vmem, ⟨3, _⟩ => ⟨S1024x8, .bf16⟩
  | .local _ .vmem, ⟨4, _⟩ => ⟨S1x8, .f32⟩
  | .local _ .vmem, ⟨5, _⟩ => ⟨S256x512, .f32⟩
  | .local _ .vmem, ⟨6, _⟩ => ⟨S1x256x512, .f32⟩
  | .local _ .vmem, ⟨7, _⟩ => ⟨S1x256x512, .f32⟩
  | .local _ .vmem, ⟨8, _⟩ => ⟨S256x512, .f32⟩
  | .local _ .vmem, ⟨9, _⟩ => ⟨S256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev main_v6_4 : Ref sig .tc := ⟨.hbm, 19, rfl⟩
abbrev main_v6_5 : Ref sig .tc := ⟨.hbm, 20, rfl⟩
abbrev main_v6_6 : Ref sig .tc := ⟨.hbm, 21, rfl⟩
abbrev main_v6_7 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_16 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_17 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3584 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x8 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S1x256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S1x256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S1x256x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]
-- ==== SampleProjRefIdeal.lean ====
abbrev S256x1024 : Shape := ⟨2, ![256, 1024]⟩
abbrev S1024 : Shape := ⟨1, ![1024]⟩
abbrev S1024x6664 : Shape := ⟨2, ![1024, 6664]⟩
abbrev S8 : Shape := ⟨1, ![8]⟩
abbrev S4x256x512 : Shape := ⟨3, ![4, 256, 512]⟩
abbrev S4x256x8 : Shape := ⟨3, ![4, 256, 8]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x6664 : Shape := ⟨2, ![256, 6664]⟩
abbrev S256x512 : Shape := ⟨2, ![256, 512]⟩
abbrev S256x8 : Shape := ⟨2, ![256, 8]⟩
abbrev S256x3072 : Shape := ⟨2, ![256, 3072]⟩
abbrev S1x8 : Shape := ⟨2, ![1, 8]⟩
abbrev S3x256x512 : Shape := ⟨3, ![3, 256, 512]⟩
abbrev S1x256x512 : Shape := ⟨3, ![1, 256, 512]⟩
abbrev S3x256x8 : Shape := ⟨3, ![3, 256, 8]⟩
abbrev S1x256x8 : Shape := ⟨3, ![1, 256, 8]⟩

abbrev nBuf : Space → Nat
  | .hbm => 69
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x6664, .f32⟩
  | .hbm, ⟨3, _⟩ => ⟨S8, .f32⟩
  | .hbm, ⟨4, _⟩ => ⟨S4x256x512, .f32⟩
  | .hbm, ⟨5, _⟩ => ⟨S4x256x512, .f32⟩
  | .hbm, ⟨6, _⟩ => ⟨S4x256x512, .f32⟩
  | .hbm, ⟨7, _⟩ => ⟨S4x256x512, .f32⟩
  | .hbm, ⟨8, _⟩ => ⟨S4x256x8, .f32⟩
  | .hbm, ⟨9, _⟩ => ⟨S256x1024, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S_, .f32⟩
  | .hbm, ⟨17, _⟩ => ⟨S256x1, .f32⟩
  | .hbm, ⟨18, _⟩ => ⟨S256x1, .f32⟩
  | .hbm, ⟨19, _⟩ => ⟨S256x1, .f32⟩
  | .hbm, ⟨20, _⟩ => ⟨S256x1024, .f32⟩
  | .hbm, ⟨21, _⟩ => ⟨S256x1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S256x6664, .f32⟩
  | .hbm, ⟨26, _⟩ => ⟨S256x512, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S256x8, .f32⟩
  | .hbm, ⟨34, _⟩ => ⟨S256x3072, .f32⟩
  | .hbm, ⟨35, _⟩ => ⟨S1x8, .f32⟩
  | .hbm, ⟨36, _⟩ => ⟨S256x8, .f32⟩
  | .hbm, ⟨37, _⟩ => ⟨S256x8, .f32⟩
  | .hbm, ⟨38, _⟩ => ⟨S256x8, .f32⟩
  | .hbm, ⟨39, _⟩ => ⟨S_, .f32⟩
  | .hbm, ⟨40, _⟩ => ⟨S256x8, .f32⟩
  | .hbm, ⟨41, _⟩ => ⟨S256x8, .f32⟩
  | .hbm, ⟨42, _⟩ => ⟨S256x8, .f32⟩
  | .hbm, ⟨43, _⟩ => ⟨S256x8, .f32⟩
  | .hbm, ⟨44, _⟩ => ⟨S256x8, .i1⟩
  | .hbm, ⟨45, _⟩ => ⟨S256x8, .f32⟩
  | .hbm, ⟨46, _⟩ => ⟨S256x8, .f32⟩
  | .hbm, ⟨47, _⟩ => ⟨S256x8, .f32⟩
  | .hbm, ⟨48, _⟩ => ⟨S256x8, .f32⟩
  | .hbm, ⟨49, _⟩ => ⟨S256x8, .f32⟩
  | .hbm, ⟨50, _⟩ => ⟨S256x8, .f32⟩
  | .hbm, ⟨51, _⟩ => ⟨S256x8, .f32⟩
  | .hbm, ⟨52, _⟩ => ⟨S256x8, .f32⟩
  | .hbm, ⟨53, _⟩ => ⟨S256x8, .f32⟩
  | .hbm, ⟨54, _⟩ => ⟨S3x256x512, .f32⟩
  | .hbm, ⟨55, _⟩ => ⟨S1x256x512, .f32⟩
  | .hbm, ⟨56, _⟩ => ⟨S4x256x512, .f32⟩
  | .hbm, ⟨57, _⟩ => ⟨S3x256x512, .f32⟩
  | .hbm, ⟨58, _⟩ => ⟨S1x256x512, .f32⟩
  | .hbm, ⟨59, _⟩ => ⟨S4x256x512, .f32⟩
  | .hbm, ⟨60, _⟩ => ⟨S3x256x512, .f32⟩
  | .hbm, ⟨61, _⟩ => ⟨S1x256x512, .f32⟩
  | .hbm, ⟨62, _⟩ => ⟨S4x256x512, .f32⟩
  | .hbm, ⟨63, _⟩ => ⟨S3x256x512, .f32⟩
  | .hbm, ⟨64, _⟩ => ⟨S1x256x512, .f32⟩
  | .hbm, ⟨65, _⟩ => ⟨S4x256x512, .f32⟩
  | .hbm, ⟨66, _⟩ => ⟨S3x256x8, .f32⟩
  | .hbm, ⟨67, _⟩ => ⟨S1x256x8, .f32⟩
  | .hbm, ⟨68, _⟩ => ⟨S4x256x8, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_call0_cst : Ref sig .tc := ⟨.hbm, 39, rfl⟩
abbrev main_call0_call0_v0 : Ref sig .tc := ⟨.hbm, 40, rfl⟩
abbrev main_call0_call0_v1 : Ref sig .tc := ⟨.hbm, 41, rfl⟩
abbrev main_call0_call0_v2 : Ref sig .tc := ⟨.hbm, 42, rfl⟩
abbrev main_call0_call0_v3 : Ref sig .tc := ⟨.hbm, 43, rfl⟩
abbrev main_call0_call0_v4 : Ref sig .tc := ⟨.hbm, 44, rfl⟩
abbrev main_call0_call0_v5 : Ref sig .tc := ⟨.hbm, 45, rfl⟩
abbrev main_call0_call0_v6 : Ref sig .tc := ⟨.hbm, 46, rfl⟩
abbrev main_call0_call0_v7 : Ref sig .tc := ⟨.hbm, 47, rfl⟩
abbrev main_call0_call0_v8 : Ref sig .tc := ⟨.hbm, 48, rfl⟩
abbrev main_call0_call0_v9 : Ref sig .tc := ⟨.hbm, 49, rfl⟩
abbrev main_call0_call0_v10 : Ref sig .tc := ⟨.hbm, 50, rfl⟩
abbrev main_call0_call0_v11 : Ref sig .tc := ⟨.hbm, 51, rfl⟩
abbrev main_call0_v1 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== Moba.lean ====
abbrev S8x2048x512 : Shape := ⟨3, ![8, 2048, 512]⟩
abbrev S4x8x2048x512 : Shape := ⟨4, ![4, 8, 2048, 512]⟩
abbrev S8x4x2048x128 : Shape := ⟨4, ![8, 4, 2048, 128]⟩
abbrev S1x2048x512 : Shape := ⟨3, ![1, 2048, 512]⟩
abbrev S1x1x2048x512 : Shape := ⟨4, ![1, 1, 2048, 512]⟩
abbrev S1x4x2048x128 : Shape := ⟨4, ![1, 4, 2048, 128]⟩
abbrev S2048x512 : Shape := ⟨2, ![2048, 512]⟩
abbrev S8x256x512 : Shape := ⟨3, ![8, 256, 512]⟩
abbrev S8x512 : Shape := ⟨2, ![8, 512]⟩
abbrev S8x8x512 : Shape := ⟨3, ![8, 8, 512]⟩
abbrev S1x8x512 : Shape := ⟨3, ![1, 8, 512]⟩
abbrev S64x512 : Shape := ⟨2, ![64, 512]⟩
abbrev S64x2048 : Shape := ⟨2, ![64, 2048]⟩
abbrev S8x8x2048 : Shape := ⟨3, ![8, 8, 2048]⟩
abbrev S8x1x2048 : Shape := ⟨3, ![8, 1, 2048]⟩
abbrev S16x2048 : Shape := ⟨2, ![16, 2048]⟩
abbrev S112x2048 : Shape := ⟨2, ![112, 2048]⟩
abbrev S128x2048 : Shape := ⟨2, ![128, 2048]⟩
abbrev S2048x128 : Shape := ⟨2, ![2048, 128]⟩
abbrev S1x1x2048x128 : Shape := ⟨4, ![1, 1, 2048, 128]⟩
abbrev S1x2048x128 : Shape := ⟨3, ![1, 2048, 128]⟩
abbrev S8x512x256 : Shape := ⟨3, ![8, 512, 256]⟩
abbrev S2048x256 : Shape := ⟨2, ![2048, 256]⟩
abbrev S256x128 : Shape := ⟨2, ![256, 128]⟩
abbrev S1x256x128 : Shape := ⟨3, ![1, 256, 128]⟩
abbrev S512x256 : Shape := ⟨2, ![512, 256]⟩
abbrev S1x512x256 : Shape := ⟨3, ![1, 512, 256]⟩
abbrev S256x256 : Shape := ⟨2, ![256, 256]⟩
abbrev S512 : Shape := ⟨1, ![512]⟩
abbrev S512x1 : Shape := ⟨2, ![512, 1]⟩
abbrev S512x128 : Shape := ⟨2, ![512, 128]⟩
abbrev S512x512 : Shape := ⟨2, ![512, 512]⟩
abbrev S768x256 : Shape := ⟨2, ![768, 256]⟩
abbrev S512x768 : Shape := ⟨2, ![512, 768]⟩
abbrev S768x128 : Shape := ⟨2, ![768, 128]⟩
abbrev S1024x256 : Shape := ⟨2, ![1024, 256]⟩
abbrev S512x1024 : Shape := ⟨2, ![512, 1024]⟩
abbrev S1024x128 : Shape := ⟨2, ![1024, 128]⟩
abbrev S1280x256 : Shape := ⟨2, ![1280, 256]⟩
abbrev S512x1280 : Shape := ⟨2, ![512, 1280]⟩
abbrev S1280x128 : Shape := ⟨2, ![1280, 128]⟩
abbrev S1536x256 : Shape := ⟨2, ![1536, 256]⟩
abbrev S512x1536 : Shape := ⟨2, ![512, 1536]⟩
abbrev S1536x128 : Shape := ⟨2, ![1536, 128]⟩
abbrev S1792x256 : Shape := ⟨2, ![1792, 256]⟩
abbrev S512x1792 : Shape := ⟨2, ![512, 1792]⟩
abbrev S1792x128 : Shape := ⟨2, ![1792, 128]⟩

abbrev nBuf : Space → Nat
  | .hbm => 5
  | .vmem => 19
  | .smem => 0
  | _ => 0

abbrev bufTy : (tb : Table) → Fin (tcTables nBuf tb) → BufTy
  | .hbm, ⟨0, _⟩ => ⟨S8x2048x512, .f32⟩
  | .hbm, ⟨1, _⟩ => ⟨S4x8x2048x512, .f32⟩
  | .hbm, ⟨2, _⟩ => ⟨S4x8x2048x512, .f32⟩
  | .hbm, ⟨3, _⟩ => ⟨S8x4x2048x128, .bf16⟩
  | .hbm, ⟨4, _⟩ => ⟨S8x2048x512, .bf16⟩
  | .local _ .vmem, ⟨0, _⟩ => ⟨S1x2048x512, .f32⟩
  | .local _ .vmem, ⟨1, _⟩ => ⟨S1x2048x512, .f32⟩
  | .local _ .vmem, ⟨2, _⟩ => ⟨S1x1x2048x512, .f32⟩
  | .local _ .vmem, ⟨3, _⟩ => ⟨S1x1x2048x512, .f32⟩
  | .local _ .vmem, ⟨4, _⟩ => ⟨S1x4x2048x128, .bf16⟩
  | .local _ .vmem, ⟨5, _⟩ => ⟨S1x4x2048x128, .bf16⟩
  | .local _ .vmem, ⟨6, _⟩ => ⟨S1x2048x128, .f32⟩
  | .local _ .vmem, ⟨7, _⟩ => ⟨S1x2048x128, .f32⟩
  | .local _ .vmem, ⟨8, _⟩ => ⟨S1x1x2048x128, .f32⟩
  | .local _ .vmem, ⟨9, _⟩ => ⟨S1x1x2048x128, .f32⟩
  | .local _ .vmem, ⟨10, _⟩ => ⟨S1x1x2048x128, .f32⟩
  | .local _ .vmem, ⟨11, _⟩ => ⟨S1x1x2048x128, .f32⟩
  | .local _ .vmem, ⟨12, _⟩ => ⟨S1x1x2048x128, .bf16⟩
  | .local _ .vmem, ⟨13, _⟩ => ⟨S1x1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S8x512x256, .bf16⟩
  | .local _ .vmem, ⟨17, _⟩ => ⟨S2048x256, .bf16⟩
  | .local _ .vmem, ⟨18, _⟩ => ⟨S2048x128, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc1_transform_2 (i : grid1.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat, arg1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x2048x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== MobaIdeal.lean ====
variable {F : FTy → Type} [FloatOps F] [Named F]
def κ : String → Option EReal := fun
  | "mask" => some ⊥
  | _ => none
-- ==== MobaRefIdeal.lean ====
abbrev S8x2048x512 : Shape := ⟨3, ![8, 2048, 512]⟩
abbrev S4x8x2048x512 : Shape := ⟨4, ![4, 8, 2048, 512]⟩
abbrev S8x2048x8x64 : Shape := ⟨4, ![8, 2048, 8, 64]⟩
abbrev S1x8x2048x512 : Shape := ⟨4, ![1, 8, 2048, 512]⟩
abbrev S8x8x256x8x64 : Shape := ⟨5, ![8, 8, 256, 8, 64]⟩
abbrev S_ : Shape := ⟨0, ![]⟩
abbrev S8x8x8x64 : Shape := ⟨4, ![8, 8, 8, 64]⟩
abbrev S2048 : Shape := ⟨1, ![2048]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S1x2048x1x8 : Shape := ⟨4, ![1, 2048, 1, 8]⟩
abbrev S8x8x8x2048 : Shape := ⟨4, ![8, 8, 8, 2048]⟩
abbrev S8x2048x8x8 : Shape := ⟨4, ![8, 2048, 8, 8]⟩
abbrev S8x2048x8x3 : Shape := ⟨4, ![8, 2048, 8, 3]⟩
abbrev S8x2048x8x3x1 : Shape := ⟨5, ![8, 2048, 8, 3, 1]⟩
abbrev S1x1x1x1x8 : Shape := ⟨5, ![1, 1, 1, 1, 8]⟩
abbrev S8x2048x8x3x8 : Shape := ⟨5, ![8, 2048, 8, 3, 8]⟩
abbrev S8x2048x8x8x1 : Shape := ⟨5, ![8, 2048, 8, 8, 1]⟩
abbrev S8x2048x8x8x256 : Shape := ⟨5, ![8, 2048, 8, 8, 256]⟩
abbrev S8x2048x8x2048 : Shape := ⟨4, ![8, 2048, 8, 2048]⟩
abbrev S8x8x2048x2048 : Shape := ⟨4, ![8, 8, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S8x8x2048 : Shape := ⟨3, ![8, 8, 2048]⟩
abbrev S8x8x2048x1 : Shape := ⟨4, ![8, 8, 2048, 1]⟩
abbrev S8x8x64x2048 : Shape := ⟨4, ![8, 8, 64, 2048]⟩

abbrev nBuf : Space → Nat
  | .hbm => 107
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S4x8x2048x512, .f32⟩
  | .hbm, ⟨2, _⟩ => ⟨S4x8x2048x512, .f32⟩
  | .hbm, ⟨3, _⟩ => ⟨S8x2048x8x64, .f32⟩
  | .hbm, ⟨4, _⟩ => ⟨S1x8x2048x512, .f32⟩
  | .hbm, ⟨5, _⟩ => ⟨S8x2048x512, .f32⟩
  | .hbm, ⟨6, _⟩ => ⟨S8x2048x8x64, .f32⟩
  | .hbm, ⟨7, _⟩ => ⟨S1x8x2048x512, .f32⟩
  | .hbm, ⟨8, _⟩ => ⟨S8x2048x512, .f32⟩
  | .hbm, ⟨9, _⟩ => ⟨S8x2048x8x64, .f32⟩
  | .hbm, ⟨10, _⟩ => ⟨S8x8x256x8x64, .f32⟩
  | .hbm, ⟨11, _⟩ => ⟨S_, .f32⟩
  | .hbm, ⟨12, _⟩ => ⟨S8x8x8x64, .f32⟩
  | .hbm, ⟨13, _⟩ => ⟨S_, .f32⟩
  | .hbm, ⟨14, _⟩ => ⟨S8x8x8x64, .f32⟩
  | .hbm, ⟨15, _⟩ => ⟨S8x8x8x64, .f32⟩
  | .hbm, ⟨16, _⟩ => ⟨S2048, .i32⟩
  | .hbm, ⟨17, _⟩ => ⟨S8, .i32⟩
  | .hbm, ⟨18, _⟩ => ⟨S_, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i32⟩
  | .hbm, ⟨27, _⟩ => ⟨S2048, .i32⟩
  | .hbm, ⟨28, _⟩ => ⟨S_, .i32⟩
  | .hbm, ⟨29, _⟩ => ⟨S2048, .i32⟩
  | .hbm, ⟨30, _⟩ => ⟨S2048, .i1⟩
  | .hbm, ⟨31, _⟩ => ⟨S2048, .i1⟩
  | .hbm, ⟨32, _⟩ => ⟨S_, .i32⟩
  | .hbm, ⟨33, _⟩ => ⟨S2048, .i32⟩
  | .hbm, ⟨34, _⟩ => ⟨S2048, .i32⟩
  | .hbm, ⟨35, _⟩ => ⟨S2048, .i32⟩
  | .hbm, ⟨36, _⟩ => ⟨S1x8, .i32⟩
  | .hbm, ⟨37, _⟩ => ⟨S2048x1, .i32⟩
  | .hbm, ⟨38, _⟩ => ⟨S2048x8, .i32⟩
  | .hbm, ⟨39, _⟩ => ⟨S2048x8, .i32⟩
  | .hbm, ⟨40, _⟩ => ⟨S2048x8, .i1⟩
  | .hbm, ⟨41, _⟩ => ⟨S1x2048x1x8, .i1⟩
  | .hbm, ⟨42, _⟩ => ⟨S8x8x8x2048, .f32⟩
  | .hbm, ⟨43, _⟩ => ⟨S8x2048x8x8, .f32⟩
  | .hbm, ⟨44, _⟩ => ⟨S_, .f32⟩
  | .hbm, ⟨45, _⟩ => ⟨S_, .f32⟩
  | .hbm, ⟨46, _⟩ => ⟨S8x2048x8x8, .i1⟩
  | .hbm, ⟨47, _⟩ => ⟨S8x2048x8x8, .f32⟩
  | .hbm, ⟨48, _⟩ => ⟨S8x2048x8x8, .f32⟩
  | .hbm, ⟨49, _⟩ => ⟨S8x2048x8x3, .f32⟩
  | .hbm, ⟨50, _⟩ => ⟨S8x2048x8x3, .i32⟩
  | .hbm, ⟨51, _⟩ => ⟨S8x2048x8x3x1, .i32⟩
  | .hbm, ⟨52, _⟩ => ⟨S1x1x1x1x8, .i32⟩
  | .hbm, ⟨53, _⟩ => ⟨S8x2048x8x3x8, .i32⟩
  | .hbm, ⟨54, _⟩ => ⟨S8x2048x8x3x8, .i32⟩
  | .hbm, ⟨55, _⟩ => ⟨S8x2048x8x3x8, .i1⟩
  | .hbm, ⟨56, _⟩ => ⟨S_, .i1⟩
  | .hbm, ⟨57, _⟩ => ⟨S8x2048x8x8, .i1⟩
  | .hbm, ⟨58, _⟩ => ⟨S1x2048x1x8, .i1⟩
  | .hbm, ⟨59, _⟩ => ⟨S8x2048x8x8, .i1⟩
  | .hbm, ⟨60, _⟩ => ⟨S8x2048x8x8, .i1⟩
  | .hbm, ⟨61, _⟩ => ⟨S1x8, .i32⟩
  | .hbm, ⟨62, _⟩ => ⟨S2048x1, .i32⟩
  | .hbm, ⟨63, _⟩ => ⟨S2048x8, .i32⟩
  | .hbm, ⟨64, _⟩ => ⟨S2048x8, .i32⟩
  | .hbm, ⟨65, _⟩ => ⟨S2048x8, .i1⟩
  | .hbm, ⟨66, _⟩ => ⟨S1x2048x1x8, .i1⟩
  | .hbm, ⟨67, _⟩ => ⟨S8x2048x8x8, .i1⟩
  | .hbm, ⟨68, _⟩ => ⟨S8x2048x8x8, .i1⟩
  | .hbm, ⟨69, _⟩ => ⟨S8x2048x8x8x1, .i1⟩
  | .hbm, ⟨70, _⟩ => ⟨S8x2048x8x8x256, .i1⟩
  | .hbm, ⟨71, _⟩ => ⟨S8x2048x8x2048, .i1⟩
  | .hbm, ⟨72, _⟩ => ⟨S8x8x2048x2048, .f32⟩
  | .hbm, ⟨73, _⟩ => ⟨S_, .f32⟩
  | .hbm, ⟨74, _⟩ => ⟨S8x8x2048x2048, .f32⟩
  | .hbm, ⟨75, _⟩ => ⟨S8x8x2048x2048, .f32⟩
  | .hbm, ⟨76, _⟩ => ⟨S8x8x2048x2048, .i1⟩
  | .hbm, ⟨77, _⟩ => ⟨S1x2048, .i32⟩
  | .hbm, ⟨78, _⟩ => ⟨S2048x1, .i32⟩
  | .hbm, ⟨79, _⟩ => ⟨S2048x2048, .i32⟩
  | .hbm, ⟨80, _⟩ => ⟨S2048x2048, .i32⟩
  | .hbm, ⟨81, _⟩ => ⟨S2048x2048, .i1⟩
  | .hbm, ⟨82, _⟩ => ⟨S1x1x2048x2048, .i1⟩
  | .hbm, ⟨83, _⟩ => ⟨S8x8x2048x2048, .i1⟩
  | .hbm, ⟨84, _⟩ => ⟨S8x8x2048x2048, .i1⟩
  | .hbm, ⟨85, _⟩ => ⟨S_, .f32⟩
  | .hbm, ⟨86, _⟩ => ⟨S_, .f32⟩
  | .hbm, ⟨87, _⟩ => ⟨S8x8x2048x2048, .f32⟩
  | .hbm, ⟨88, _⟩ => ⟨S8x8x2048x2048, .f32⟩
  | .hbm, ⟨89, _⟩ => ⟨S_, .f32⟩
  | .hbm, ⟨90, _⟩ => ⟨S8x8x2048, .f32⟩
  | .hbm, ⟨91, _⟩ => ⟨S_, .f32⟩
  | .hbm, ⟨92, _⟩ => ⟨S8x8x2048, .f32⟩
  | .hbm, ⟨93, _⟩ => ⟨S8x8x2048, .f32⟩
  | .hbm, ⟨94, _⟩ => ⟨S8x8x2048x1, .f32⟩
  | .hbm, ⟨95, _⟩ => ⟨S8x8x2048x2048, .f32⟩
  | .hbm, ⟨96, _⟩ => ⟨S8x8x2048x2048, .f32⟩
  | .hbm, ⟨97, _⟩ => ⟨S8x8x2048x2048, .f32⟩
  | .hbm, ⟨98, _⟩ => ⟨S_, .f32⟩
  | .hbm, ⟨99, _⟩ => ⟨S8x8x2048, .f32⟩
  | .hbm, ⟨100, _⟩ => ⟨S8x8x2048x1, .f32⟩
  | .hbm, ⟨101, _⟩ => ⟨S8x8x2048x2048, .f32⟩
  | .hbm, ⟨102, _⟩ => ⟨S8x8x2048x2048, .f32⟩
  | .hbm, ⟨103, _⟩ => ⟨S8x8x64x2048, .f32⟩
  | .hbm, ⟨104, _⟩ => ⟨S8x2048x8x64, .f32⟩
  | .hbm, ⟨105, _⟩ => ⟨S8x2048x512, .f32⟩
  | .hbm, ⟨106, _⟩ => ⟨S8x2048x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_c : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_0 : Ref sig .tc := ⟨.hbm, 32, rfl⟩
abbrev main_call0_v12 : Ref sig .tc := ⟨.hbm, 33, rfl⟩
abbrev main_call0_v13 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst_1 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v22 : Ref sig .tc := ⟨.hbm, 48, rfl⟩
abbrev main_values : Ref sig .tc := ⟨.hbm, 49, rfl⟩
abbrev main_indices : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_c_2 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_3 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_4 : Ref sig .tc := ⟨.hbm, 85, rfl⟩
abbrev main_call2_v0 : Ref sig .tc := ⟨.hbm, 86, rfl⟩
abbrev main_call2_v1 : Ref sig .tc := ⟨.hbm, 87, rfl⟩
abbrev main_v55 : Ref sig .tc := ⟨.hbm, 88, rfl⟩
abbrev main_cst_5 : Ref sig .tc := ⟨.hbm, 89, rfl⟩
abbrev main_v56 : Ref sig .tc := ⟨.hbm, 90, rfl⟩
abbrev main_cst_6 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_cst_7 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩

abbrev nD : Nat := 1
abbrev τ : Topo := Topo.v7x

variable {F : FTy → Type} [FloatOps F]
-- ==== Pool.lean ====
abbrev S8x2048x512 : Shape := ⟨3, ![8, 2048, 512]⟩
abbrev S4x128x128 : Shape := ⟨3, ![4, 128, 128]⟩
abbrev S512 : Shape := ⟨1, ![512]⟩
abbrev S_ : Shape := ⟨0, ![]⟩
abbrev S8x16x512 : Shape := ⟨3, ![8, 16, 512]⟩
abbrev S1x512 : Shape := ⟨2, ![1, 512]⟩
abbrev S1x2048x512 : Shape := ⟨3, ![1, 2048, 512]⟩
abbrev S1x16x512 : Shape := ⟨3, ![1, 16, 512]⟩
abbrev S1x2064x128 : Shape := ⟨3, ![1, 2064, 128]⟩
abbrev S1x2048x1 : Shape := ⟨3, ![1, 2048, 1]⟩
abbrev S1x2048x128 : Shape := ⟨3, ![1, 2048, 128]⟩
abbrev S1x16x128 : Shape := ⟨3, ![1, 16, 128]⟩
abbrev S1x2063x128 : Shape := ⟨3, ![1, 2063, 128]⟩
abbrev S2048x128 : Shape := ⟨2, ![2048, 128]⟩
abbrev S1x128x128 : Shape := ⟨3, ![1, 128, 128]⟩
abbrev S128x128 : Shape := ⟨2, ![128, 128]⟩
abbrev S1x128 : Shape := ⟨2, ![1, 128]⟩
abbrev S1x1x128 : Shape := ⟨3, ![1, 1, 128]⟩
abbrev S1x2062x128 : Shape := ⟨3, ![1, 2062, 128]⟩
abbrev S1x2060x128 : Shape := ⟨3, ![1, 2060, 128]⟩
abbrev S1x2056x128 : Shape := ⟨3, ![1, 2056, 128]⟩

abbrev nBuf : Space → Nat
  | .hbm => 8
  | .vmem => 9
  | .smem => 0
  | _ => 0

abbrev bufTy : (tb : Table) → Fin (tcTables nBuf tb) → BufTy
  | .hbm, ⟨0, _⟩ => ⟨S8x2048x512, .f32⟩
  | .hbm, ⟨1, _⟩ => ⟨S4x128x128, .f32⟩
  | .hbm, ⟨2, _⟩ => ⟨S512, .f32⟩
  | .hbm, ⟨3, _⟩ => ⟨S_, .f32⟩
  | .hbm, ⟨4, _⟩ => ⟨S8x16x512, .f32⟩
  | .hbm, ⟨5, _⟩ => ⟨S4x128x128, .bf16⟩
  | .hbm, ⟨6, _⟩ => ⟨S1x512, .f32⟩
  | .hbm, ⟨7, _⟩ => ⟨S8x2048x512, .bf16⟩
  | .local _ .vmem, ⟨0, _⟩ => ⟨S1x2048x512, .f32⟩
  | .local _ .vmem, ⟨1, _⟩ => ⟨S1x2048x512, .f32⟩
  | .local _ .vmem, ⟨2, _⟩ => ⟨S1x16x512, .f32⟩
  | .local _ .vmem, ⟨3, _⟩ => ⟨S1x16x512, .f32⟩
  | .local _ .vmem, ⟨4, _⟩ => ⟨S4x128x128, .bf16⟩
  | .local _ .vmem, ⟨5, _⟩ => ⟨S1x512, .f32⟩
  | .local _ .vmem, ⟨6, _⟩ => ⟨S1x2048x512, .bf16⟩
  | .local _ .vmem, ⟨7, _⟩ => ⟨S1x2048x512, .bf16⟩
  | .local _ .vmem, ⟨8, _⟩ => ⟨S1x2064x128, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PoolRefIdeal.lean ====
abbrev S8x2048x512 : Shape := ⟨3, ![8, 2048, 512]⟩
abbrev S4x128x128 : Shape := ⟨3, ![4, 128, 128]⟩
abbrev S512 : Shape := ⟨1, ![512]⟩
abbrev S2048 : Shape := ⟨1, ![2048]⟩
abbrev S_ : Shape := ⟨0, ![]⟩
abbrev S8x2049x512 : Shape := ⟨3, ![8, 2049, 512]⟩
abbrev S8x2049x128 : Shape := ⟨3, ![8, 2049, 128]⟩
abbrev S8x2051x128 : Shape := ⟨3, ![8, 2051, 128]⟩
abbrev S8x2048x128 : Shape := ⟨3, ![8, 2048, 128]⟩
abbrev S1x2048x1 : Shape := ⟨3, ![1, 2048, 1]⟩
abbrev S8x2053x128 : Shape := ⟨3, ![8, 2053, 128]⟩
abbrev S8x2057x128 : Shape := ⟨3, ![8, 2057, 128]⟩
abbrev S8x2065x128 : Shape := ⟨3, ![8, 2065, 128]⟩
abbrev S8x2048x1x128 : Shape := ⟨4, ![8, 2048, 1, 128]⟩
abbrev S8x2048x4x128 : Shape := ⟨4, ![8, 2048, 4, 128]⟩
abbrev S4x128x8x2048 : Shape := ⟨4, ![4, 128, 8, 2048]⟩
abbrev S1x1x512 : Shape := ⟨3, ![1, 1, 512]⟩

abbrev nBuf : Space → Nat
  | .hbm => 98
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S4x128x128, .f32⟩
  | .hbm, ⟨2, _⟩ => ⟨S512, .f32⟩
  | .hbm, ⟨3, _⟩ => ⟨S2048, .i32⟩
  | .hbm, ⟨4, _⟩ => ⟨S_, .f32⟩
  | .hbm, ⟨5, _⟩ => ⟨S_, .f32⟩
  | .hbm, ⟨6, _⟩ => ⟨S8x2048x512, .f32⟩
  | .hbm, ⟨7, _⟩ => ⟨S_, .i32⟩
  | .hbm, ⟨8, _⟩ => ⟨S_, .f32⟩
  | .hbm, ⟨9, _⟩ => ⟨S8x2049x512, .f32⟩
  | .hbm, ⟨10, _⟩ => ⟨S8x2049x128, .f32⟩
  | .hbm, ⟨11, _⟩ => ⟨S_, .i32⟩
  | .hbm, ⟨12, _⟩ => ⟨S_, .f32⟩
  | .hbm, ⟨13, _⟩ => ⟨S8x2051x128, .f32⟩
  | .hbm, ⟨14, _⟩ => ⟨S8x2048x128, .f32⟩
  | .hbm, ⟨15, _⟩ => ⟨S_, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i32⟩
  | .hbm, ⟨21, _⟩ => ⟨S2048, .f32⟩
  | .hbm, ⟨22, _⟩ => ⟨S1x2048x1, .f32⟩
  | .hbm, ⟨23, _⟩ => ⟨S8x2048x128, .f32⟩
  | .hbm, ⟨24, _⟩ => ⟨S8x2048x128, .f32⟩
  | .hbm, ⟨25, _⟩ => ⟨S8x2048x128, .f32⟩
  | .hbm, ⟨26, _⟩ => ⟨S8x2048x128, .f32⟩
  | .hbm, ⟨27, _⟩ => ⟨S8x2048x128, .f32⟩
  | .hbm, ⟨28, _⟩ => ⟨S8x2048x128, .f32⟩
  | .hbm, ⟨29, _⟩ => ⟨S8x2049x128, .f32⟩
  | .hbm, ⟨30, _⟩ => ⟨S_, .i32⟩
  | .hbm, ⟨31, _⟩ => ⟨S_, .f32⟩
  | .hbm, ⟨32, _⟩ => ⟨S8x2053x128, .f32⟩
  | .hbm, ⟨33, _⟩ => ⟨S8x2048x128, .f32⟩
  | .hbm, ⟨34, _⟩ => ⟨S_, .i32⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S2048, .f32⟩
  | .hbm, ⟨41, _⟩ => ⟨S1x2048x1, .f32⟩
  | .hbm, ⟨42, _⟩ => ⟨S8x2048x128, .f32⟩
  | .hbm, ⟨43, _⟩ => ⟨S8x2048x128, .f32⟩
  | .hbm, ⟨44, _⟩ => ⟨S8x2048x128, .f32⟩
  | .hbm, ⟨45, _⟩ => ⟨S8x2048x128, .f32⟩
  | .hbm, ⟨46, _⟩ => ⟨S8x2048x128, .f32⟩
  | .hbm, ⟨47, _⟩ => ⟨S8x2048x128, .f32⟩
  | .hbm, ⟨48, _⟩ => ⟨S8x2049x128, .f32⟩
  | .hbm, ⟨49, _⟩ => ⟨S_, .i32⟩
  | .hbm, ⟨50, _⟩ => ⟨S_, .f32⟩
  | .hbm, ⟨51, _⟩ => ⟨S8x2057x128, .f32⟩
  | .hbm, ⟨52, _⟩ => ⟨S8x2048x128, .f32⟩
  | .hbm, ⟨53, _⟩ => ⟨S_, .i32⟩
  | .hbm, ⟨54, _⟩ => ⟨S2048, .i32⟩
  | .hbm, ⟨55, _⟩ => ⟨S2048, .i32⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S2048, .f32⟩
  | .hbm, ⟨60, _⟩ => ⟨S1x2048x1, .f32⟩
  | .hbm, ⟨61, _⟩ => ⟨S8x2048x128, .f32⟩
  | .hbm, ⟨62, _⟩ => ⟨S8x2048x128, .f32⟩
  | .hbm, ⟨63, _⟩ => ⟨S8x2048x128, .f32⟩
  | .hbm, ⟨64, _⟩ => ⟨S8x2048x128, .f32⟩
  | .hbm, ⟨65, _⟩ => ⟨S8x2048x128, .f32⟩
  | .hbm, ⟨66, _⟩ => ⟨S8x2048x128, .f32⟩
  | .hbm, ⟨67, _⟩ => ⟨S8x2049x128, .f32⟩
  | .hbm, ⟨68, _⟩ => ⟨S_, .i32⟩
  | .hbm, ⟨69, _⟩ => ⟨S_, .f32⟩
  | .hbm, ⟨70, _⟩ => ⟨S8x2065x128, .f32⟩
  | .hbm, ⟨71, _⟩ => ⟨S8x2048x128, .f32⟩
  | .hbm, ⟨72, _⟩ => ⟨S_, .i32⟩
  | .hbm, ⟨73, _⟩ => ⟨S2048, .i32⟩
  | .hbm, ⟨74, _⟩ => ⟨S2048, .i32⟩
  | .hbm, ⟨75, _⟩ => ⟨S_, .i32⟩
  | .hbm, ⟨76, _⟩ => ⟨S2048, .i32⟩
  | .hbm, ⟨77, _⟩ => ⟨S2048, .i32⟩
  | .hbm, ⟨78, _⟩ => ⟨S2048, .f32⟩
  | .hbm, ⟨79, _⟩ => ⟨S1x2048x1, .f32⟩
  | .hbm, ⟨80, _⟩ => ⟨S8x2048x128, .f32⟩
  | .hbm, ⟨81, _⟩ => ⟨S8x2048x128, .f32⟩
  | .hbm, ⟨82, _⟩ => ⟨S8x2048x128, .f32⟩
  | .hbm, ⟨83, _⟩ => ⟨S8x2048x128, .f32⟩
  | .hbm, ⟨84, _⟩ => ⟨S8x2048x128, .f32⟩
  | .hbm, ⟨85, _⟩ => ⟨S8x2048x128, .f32⟩
  | .hbm, ⟨86, _⟩ => ⟨S8x2048x1x128, .f32⟩
  | .hbm, ⟨87, _⟩ => ⟨S8x2048x1x128, .f32⟩
  | .hbm, ⟨88, _⟩ => ⟨S8x2048x1x128, .f32⟩
  | .hbm, ⟨89, _⟩ => ⟨S8x2048x1x128, .f32⟩
  | .hbm, ⟨90, _⟩ => ⟨S8x2048x4x128, .f32⟩
  | .hbm, ⟨91, _⟩ => ⟨S4x128x8x2048, .f32⟩
  | .hbm, ⟨92, _⟩ => ⟨S8x2048x4x128, .f32⟩
  | .hbm, ⟨93, _⟩ => ⟨S8x2048x512, .f32⟩
  | .hbm, ⟨94, _⟩ => ⟨S1x1x512, .f32⟩
  | .hbm, ⟨95, _⟩ => ⟨S8x2048x512, .f32⟩
  | .hbm, ⟨96, _⟩ => ⟨S8x2048x512, .f32⟩
  | .hbm, ⟨97, _⟩ => ⟨S8x2048x512, .bf16⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_call0_cst : Ref sig .tc := ⟨.hbm, 4, rfl⟩
abbrev main_call0_call0_v0 : Ref sig .tc := ⟨.hbm, 5, rfl⟩
abbrev main_v1 : Ref sig .tc := ⟨.hbm, 6, rfl⟩
abbrev main_c : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_c_2 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_call3_v0 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_6 : Ref sig .tc := ⟨.hbm, 49, rfl⟩
abbrev main_call4_v0 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_call5_v0 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_c_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩

abbrev nD : Nat := 1
abbrev τ : Topo := Topo.v7x

variable {F : FTy → Type} [FloatOps F]
-- ==== Proof.FfnValue.lean ====
/- The value of the feed-forward call. The kernel walks the 2816 hidden columns in eleven chunks of 256 and adds each
   chunk's product onto the residual; the reference takes one product over all of them. `acc_at` puts the eleven chunks
   together into the one sum over the hidden columns, and the rest (the two row scalings, the gate's logistic) is the same
   arithmetic on both sides. -/
module

public import proofs.«01_k».proof.Proof.Gen.FfnIdeal.Value
public import proofs.«01_k».proof.Proof.Gen.FfnRefIdeal.Read
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

namespace Cert.FfnIdeal.Result

open Cert.FfnIdeal Cert.FfnIdeal.Gen Idealize.ShloMosaic Idealize.ShloMosaic.TcCoe Idealize.SL.Sem
open Idealize.ShloMosaic.Pipeline (Dat)
open Cert.FfnRefIdeal.Read

/-! ## The two halves of the body: the residual plus the chunked product, and the final row scaling -/

section
variable {F : FTy → Type} [FloatOps F]

/-- The residual with all chunks added, from what the last printed part binds. -/
def accPay (v15 : FVec F S512x1024 .bf16) (v141 : FVec F S512x1024 .f32) (v144 : FVec F S512x256 .f32) (v145 : Vec F S1024x256 .bf16) (v152 : Vec F S256x1024 .bf16) (v156 : Vec F S1024x256 .bf16) (v159 : Vec F S1024x256 .bf16) (v166 : Vec F S256x1024 .bf16) : FVec F S512x1024 .f32 :=
  let v146 : FVec F S1024x256 .bf16 := shapeCast S1024x256 v145 shapeCasts_S1024x256_S1024x256
  let cst_72 : FVec F S512x256 .f32 := constant S512x256 .f32 0x00000000#32
  let v147 : FVec F S512x256 .f32 := matmul dot_S512x1024_S1024x256_S512x256_1_0_0_1_n_n none v15 v146 cst_72
  let v148 : FVec F S512x256 .f32 := logistic v144
  let v149 : FVec F S512x256 .f32 := mulf v144 v148
  let v150 : FVec F S512x256 .f32 := mulf v149 v147
  let v151 : FVec F S512x256 .bf16 := truncf .bf16 v150 bitsLt_bf16_f32
  let v153 : FVec F S256x1024 .bf16 := shapeCast S256x1024 v152 shapeCasts_S256x1024_S256x1024
  let cst_75 : FVec F S512x1024 .f32 := constant S512x1024 .f32 0x00000000#32
  let v154 : FVec F S512x1024 .f32 := matmul dot_S512x256_S256x1024_S512x1024_1_0_0_1_n_n none v151 v153 cst_75
  let v155 : FVec F S512x1024 .f32 := addf v141 v154
  let v157 : FVec F S1024x256 .bf16 := shapeCast S1024x256 v156 shapeCasts_S1024x256_S1024x256
  let cst_77 : FVec F S512x256 .f32 := constant S512x256 .f32 0x00000000#32
  let v158 : FVec F S512x256 .f32 := matmul dot_S512x1024_S1024x256_S512x256_1_0_0_1_n_n none v15 v157 cst_77
  let v160 : FVec F S1024x256 .bf16 := shapeCast S1024x256 v159 shapeCasts_S1024x256_S1024x256
  let cst_79 : FVec F S512x256 .f32 := constant S512x256 .f32 0x00000000#32
  let v161 : FVec F S512x256 .f32 := matmul dot_S512x1024_S1024x256_S512x256_1_0_0_1_n_n none v15 v160 cst_79
  let v162 : FVec F S512x256 .f32 := logistic v158
  let v163 : FVec F S512x256 .f32 := mulf v158 v162
  let v164 : FVec F S512x256 .f32 := mulf v163 v161
  let v165 : FVec F S512x256 .bf16 := truncf .bf16 v164 bitsLt_bf16_f32
  let v167 : FVec F S256x1024 .bf16 := shapeCast S256x1024 v166 shapeCasts_S256x1024_S256x1024
  let cst_82 : FVec F S512x1024 .f32 := constant S512x1024 .f32 0x00000000#32
  let v168 : FVec F S512x1024 .f32 := matmul dot_S512x256_S256x1024_S512x1024_1_0_0_1_n_n none v165 v167 cst_82
  let v169 : FVec F S512x1024 .f32 := addf v155 v168
  v169

/-- The final row scaling of the sum `v169` by the gains `v170`. -/
def scalePay (v169 : FVec F S512x1024 .f32) (v170 : Vec F S1x1024 .f32) : FVec F S512x1024 .f32 :=
  let v171 : FVec F S1x1024 .f32 := shapeCast S1x1024 v170 shapeCasts_S1x1024_S1x1024
  let v172 : FVec F S512x1024 .f32 := mulf v169 v169
  let v173 : FVec F S512 .f32 := multiReduction .add [1] S512 v172 0x00000000#32 reduces_S512x1024_S512 (.inl rfl) rfl
  let v174 : FVec F S512x1 .f32 := shapeCast S512x1 v173 shapeCasts_S512_S512x1
  let cst_86 : F .f32 := Scalar.ofBits .f32 0x44800000#32
  let v175 : FVec F S512x1 .f32 := broadcast S512x1 cst_86
  let v176 : FVec F S512x1 .f32 := divf v174 v175
  let cst_87 : F .f32 := Scalar.ofBits .f32 0x358637BD#32
  let v177 : FVec F S512x1 .f32 := broadcast S512x1 cst_87
  let v178 : FVec F S512x1 .f32 := addf v176 v177
  let v179 : FVec F S512x1 .f32 := rsqrt v178
  let v180 : FVec F S512x1024 .f32 := broadcastTo S512x1024 v179 broadcasts_S512x1_S512x1024
  let v181 : FVec F S512x1024 .f32 := mulf v169 v180
  let v182 : FVec F S512x1024 .f32 := broadcastTo S512x1024 v171 broadcasts_S1x1024_S512x1024
  let v183 : FVec F S512x1024 .f32 := mulf v181 v182
  v183

/-- The residual with all chunks added, over the input blocks. -/
def acc (x0 : Vec F S512x1024 .f32) (x1 : Vec F S1x1024 .f32) (x2 : Vec F S1024x5632 .bf16) (x3 : Vec F S2816x1024 .bf16)
    (x4 : Vec F S1x1024 .f32) : FVec F S512x1024 .f32 :=
  accPay (k0_pay13 x0 x1 x2 x3 x4) (k0_pay10 (k0_pay13 x0 x1 x2 x3 x4) (k0_pay8 (k0_pay13 x0 x1 x2 x3 x4) (k0_pay6 (k0_pay13 x0 x1 x2 x3 x4) (k0_pay2 (View.ld x0 r0_0) (View.ld x1 r0_1) (View.ld x2 r0_2) (View.ld x2 r0_3) (View.ld x3 r0_4)) (k0_pay3 (View.ld x0 r0_0) (View.ld x1 r0_1) (View.ld x2 r0_5)) (k0_pay4 (View.ld x0 r0_0) (View.ld x1 r0_1) (View.ld x2 r0_6)) (k0_pay5 (View.ld x0 r0_0) (View.ld x1 r0_1) (View.ld x2 r0_5)) (View.ld x3 r0_7) (View.ld x2 r0_8) (View.ld x2 r0_9) (View.ld x3 r0_10) (View.ld x2 r0_11) (View.ld x2 r0_12) (View.ld x3 r0_13)) (k0_pay7 (View.ld x2 r0_14)) (View.ld x2 r0_15) (View.ld x3 r0_16) (View.ld x2 r0_17) (View.ld x2 r0_18) (View.ld x3 r0_19)) (k0_pay9 (k0_pay13 x0 x1 x2 x3 x4) (View.ld x2 r0_20) (View.ld x2 r0_21)) (View.ld x3 r0_22) (View.ld x2 r0_23) (View.ld x2 r0_24) (View.ld x3 r0_25) (View.ld x2 r0_26) (View.ld x2 r0_27) (View.ld x3 r0_28)) (k0_pay11 (k0_pay13 x0 x1 x2 x3 x4) (View.ld x2 r0_29)) (View.ld x2 r0_30) (View.ld x3 r0_31) (View.ld x2 r0_32) (View.ld x2 r0_33) (View.ld x3 r0_34)

/-- One chunk: gate and upper projections of the scaled rows `h`, the gated product, and its output product. -/
def chunk (h : FVec F S512x1024 .bf16) (wg wu : Vec F S1024x256 .bf16) (wo : Vec F S256x1024 .bf16) : FVec F S512x1024 .f32 :=
  let g : FVec F S512x256 .f32 := matmul dot_S512x1024_S1024x256_S512x256_1_0_0_1_n_n none h
    (shapeCast S1024x256 wg shapeCasts_S1024x256_S1024x256) (constant S512x256 .f32 0x00000000#32)
  let u : FVec F S512x256 .f32 := matmul dot_S512x1024_S1024x256_S512x256_1_0_0_1_n_n none h
    (shapeCast S1024x256 wu shapeCasts_S1024x256_S1024x256) (constant S512x256 .f32 0x00000000#32)
  matmul dot_S512x256_S256x1024_S512x1024_1_0_0_1_n_n none (truncf .bf16 (mulf (mulf g (logistic g)) u) bitsLt_bf16_f32)
    (shapeCast S256x1024 wo shapeCasts_S256x1024_S256x1024) (constant S512x1024 .f32 0x00000000#32)

theorem acc_eq (x0 : Vec F S512x1024 .f32) (x1 : Vec F S1x1024 .f32) (x2 : Vec F S1024x5632 .bf16) (x3 : Vec F S2816x1024 .bf16)
    (x4 : Vec F S1x1024 .f32) : acc x0 x1 x2 x3 x4 =
    addf (addf (addf (addf (addf (addf (addf (addf (addf (addf (addf (View.ld x0 r0_0)
    (chunk (k0_pay13 x0 x1 x2 x3 x4) (View.ld x2 r0_2) (View.ld x2 r0_3) (View.ld x3 r0_4)))
    (chunk (k0_pay13 x0 x1 x2 x3 x4) (View.ld x2 r0_5) (View.ld x2 r0_6) (View.ld x3 r0_7)))
    (chunk (k0_pay13 x0 x1 x2 x3 x4) (View.ld x2 r0_8) (View.ld x2 r0_9) (View.ld x3 r0_10)))
    (chunk (k0_pay13 x0 x1 x2 x3 x4) (View.ld x2 r0_11) (View.ld x2 r0_12) (View.ld x3 r0_13)))
    (chunk (k0_pay13 x0 x1 x2 x3 x4) (View.ld x2 r0_14) (View.ld x2 r0_15) (View.ld x3 r0_16)))
    (chunk (k0_pay13 x0 x1 x2 x3 x4) (View.ld x2 r0_17) (View.ld x2 r0_18) (View.ld x3 r0_19)))
    (chunk (k0_pay13 x0 x1 x2 x3 x4) (View.ld x2 r0_20) (View.ld x2 r0_21) (View.ld x3 r0_22)))
    (chunk (k0_pay13 x0 x1 x2 x3 x4) (View.ld x2 r0_23) (View.ld x2 r0_24) (View.ld x3 r0_25)))
    (chunk (k0_pay13 x0 x1 x2 x3 x4) (View.ld x2 r0_26) (View.ld x2 r0_27) (View.ld x3 r0_28)))
    (chunk (k0_pay13 x0 x1 x2 x3 x4) (View.ld x2 r0_29) (View.ld x2 r0_30) (View.ld x3 r0_31)))
    (chunk (k0_pay13 x0 x1 x2 x3 x4) (View.ld x2 r0_32) (View.ld x2 r0_33) (View.ld x3 r0_34)) := rfl

theorem out_eq (x0 : Vec F S512x1024 .f32) (x1 : Vec F S1x1024 .f32) (x2 : Vec F S1024x5632 .bf16) (x3 : Vec F S2816x1024 .bf16)
    (x4 : Vec F S1x1024 .f32) : out0_5 x0 x1 x2 x3 x4 = View.canon [⟨r0_0, scalePay (acc x0 x1 x2 x3 x4) (View.ld x4 r0_1)⟩] := rfl

end

variable (m : (ℓ : Loc nD τ sig) → Buf (Elt Ideal) ℓ)

/-- One hidden column's share of the output: gate times its logistic times the upper projection, times the output weight. -/
def unit (h : Fin 1024 → EReal) (x2 : FVec Ideal S1024x5632 .bf16) (x3 : FVec Ideal S2816x1024 .bf16)
    (l : Fin 1024) (k : Fin 2816) : EReal :=
  (∑ j : Fin 1024, h j * x2 (ix2 j ⟨k.val, by omega⟩))
      * Ideal.logistic (∑ j : Fin 1024, h j * x2 (ix2 j ⟨k.val, by omega⟩))
      * (∑ j : Fin 1024, h j * x2 (ix2 j ⟨2816 + k.val, by omega⟩)) * x3 (ix2 k l)

/-- Eleven sums over 256 hidden columns each, added onto `x` one after another, are the one sum over all of them. -/
theorem sum_chunks (x : EReal) (f : Fin 2816 → EReal) : x + ∑ k : Fin 2816, f k
    = x + (∑ k : Fin 256, f ⟨0 * 256 + k.val, by omega⟩) + (∑ k : Fin 256, f ⟨1 * 256 + k.val, by omega⟩)
      + (∑ k : Fin 256, f ⟨2 * 256 + k.val, by omega⟩) + (∑ k : Fin 256, f ⟨3 * 256 + k.val, by omega⟩)
      + (∑ k : Fin 256, f ⟨4 * 256 + k.val, by omega⟩) + (∑ k : Fin 256, f ⟨5 * 256 + k.val, by omega⟩)
      + (∑ k : Fin 256, f ⟨6 * 256 + k.val, by omega⟩) + (∑ k : Fin 256, f ⟨7 * 256 + k.val, by omega⟩)
      + (∑ k : Fin 256, f ⟨8 * 256 + k.val, by omega⟩) + (∑ k : Fin 256, f ⟨9 * 256 + k.val, by omega⟩)
      + (∑ k : Fin 256, f ⟨10 * 256 + k.val, by omega⟩) := by
  rw [Fin.sum_univ_tiles 11 256 rfl]
  have s : ∀ g : Fin 11 → EReal, ∑ j, g j = g 0 + g 1 + g 2 + g 3 + g 4 + g 5 + g 6 + g 7 + g 8 + g 9 + g 10 := fun g => by
    simp only [Fin.sum_univ_castSucc, Finset.univ_eq_empty, Finset.sum_empty, zero_add]; rfl
  rw [s]
  simp only [← add_assoc]
  rfl

theorem chunk_at (h : FVec Ideal S512x1024 .bf16) (wg wu : FVec Ideal S1024x256 .bf16) (wo : FVec Ideal S256x1024 .bf16)
    (r : Fin 512) (l : Fin 1024) : chunk (F := Ideal) h wg wu wo (ix2 r l) = ∑ k : Fin 256,
      (∑ j : Fin 1024, h (ix2 r j) * wg (ix2 j k)) * Ideal.logistic (∑ j : Fin 1024, h (ix2 r j) * wg (ix2 j k))
        * (∑ j : Fin 1024, h (ix2 r j) * wu (ix2 j k)) * wo (ix2 k l) := by
  pointwise [chunk]

/-- A chunk whose loads start at hidden column `o` is the sum of the units from `o` on. -/
theorem chunk_unit (h : FVec Ideal S512x1024 .bf16) (x2 : FVec Ideal S1024x5632 .bf16) (x3 : FVec Ideal S2816x1024 .bf16)
    (wg wu : FVec Ideal S1024x256 .bf16) (wo : FVec Ideal S256x1024 .bf16) (r : Fin 512) (l : Fin 1024) (n : Fin 11)
    (hg : ∀ (j : Fin 1024) (k : Fin 256), wg (ix2 j k) = x2 (ix2 j ⟨n.val * 256 + k.val, by omega⟩))
    (hu : ∀ (j : Fin 1024) (k : Fin 256), wu (ix2 j k) = x2 (ix2 j ⟨2816 + (n.val * 256 + k.val), by omega⟩))
    (ho : ∀ k : Fin 256, wo (ix2 k l) = x3 (ix2 ⟨n.val * 256 + k.val, by omega⟩ l)) :
    chunk (F := Ideal) h wg wu wo (ix2 r l) = ∑ k : Fin 256, unit (fun j => h (ix2 r j)) x2 x3 l ⟨n.val * 256 + k.val, by omega⟩ := by
  rw [chunk_at]
  simp only [hg, hu, ho, unit]

/-- The eleven chunks are the one sum over the hidden columns. -/
theorem acc_at (x0 : FVec Ideal S512x1024 .f32) (x1 : FVec Ideal S1x1024 .f32) (x2 : FVec Ideal S1024x5632 .bf16)
    (x3 : FVec Ideal S2816x1024 .bf16) (x4 : FVec Ideal S1x1024 .f32) (r : Fin 512) (l : Fin 1024) :
    acc (F := Ideal) x0 x1 x2 x3 x4 (ix2 r l)
      = x0 (ix2 r l) + ∑ k : Fin 2816, unit (fun j => k0_pay13 (F := Ideal) x0 x1 x2 x3 x4 (ix2 r j)) x2 x3 l k := by
  rw [acc_eq, sum_chunks]
  generalize k0_pay13 (F := Ideal) x0 x1 x2 x3 x4 = h
  have e : ∀ (z w : FVec Ideal S512x1024 .f32), addf z w (ix2 r l) = z (ix2 r l) + w (ix2 r l) := fun _ _ => rfl
  simp only [e]
  refine Ideal.add_congr (Ideal.add_congr (Ideal.add_congr (Ideal.add_congr (Ideal.add_congr (Ideal.add_congr (Ideal.add_congr
    (Ideal.add_congr (Ideal.add_congr (Ideal.add_congr (Ideal.add_congr ?_
    (chunk_unit h x2 x3 _ _ _ r l 0 ?_ ?_ ?_)) (chunk_unit h x2 x3 _ _ _ r l 1 ?_ ?_ ?_)) (chunk_unit h x2 x3 _ _ _ r l 2 ?_ ?_ ?_))
    (chunk_unit h x2 x3 _ _ _ r l 3 ?_ ?_ ?_)) (chunk_unit h x2 x3 _ _ _ r l 4 ?_ ?_ ?_)) (chunk_unit h x2 x3 _ _ _ r l 5 ?_ ?_ ?_))
    (chunk_unit h x2 x3 _ _ _ r l 6 ?_ ?_ ?_)) (chunk_unit h x2 x3 _ _ _ r l 7 ?_ ?_ ?_)) (chunk_unit h x2 x3 _ _ _ r l 8 ?_ ?_ ?_))
    (chunk_unit h x2 x3 _ _ _ r l 9 ?_ ?_ ?_)) (chunk_unit h x2 x3 _ _ _ r l 10 ?_ ?_ ?_)
  · pointwise [r0_0]
  all_goals first | (intro j k; pointwise; blk_ext; done) | (intro k; pointwise; blk_ext; done)

/-- The block each window stages at a grid point: the row blocks move with the point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The reference's residual before the final row scaling, at an index. -/
theorem ref_acc (x0 : FVec Ideal S16384x1024 .f32) (x1 : FVec Ideal S1024 .f32) (x2 : FVec Ideal S1024x5632 .f32)
    (x3 : FVec Ideal S2816x1024 .f32) (r : Fin 16384) (l : Fin 1024) :
    val_main_v19 (F := Ideal) x0 x1 x2 x3 (ix2 r l) = x0 (ix2 r l) + ∑ k : Fin 2816,
      (∑ j : Fin 1024, val_main_v12 (F := Ideal) x0 x1 (ix2 r j) * x2 (ix2 j ⟨k.val, by omega⟩))
      * Ideal.logistic (∑ j : Fin 1024, val_main_v12 (F := Ideal) x0 x1 (ix2 r j) * x2 (ix2 j ⟨k.val, by omega⟩))
      * (∑ j : Fin 1024, val_main_v12 (F := Ideal) x0 x1 (ix2 r j) * x2 (ix2 j ⟨2816 + k.val, by omega⟩)) * x3 (ix2 k l) := by
  pointwise [val_main_v19, val_main_v18, val_main_v17, val_main_v16, val_main_v15, val_main_v14, val_main_v13, val_main_call0_v0,
    val_main_call0_v1, val_main_call0_cst, val_main_call0_v2, val_main_call0_v3, val_main_call0_cst_0, val_main_call0_v4,
    val_main_call0_v5, Ideal.logistic]

/-- The residual of a grid point's rows is the reference's residual at those rows. -/
theorem acc_ref (c : Dev nD) (t : Fin cfg0.N) (r : Fin 512) (l : Fin 1024) :
    acc (F := Ideal) (iblk m c 0 t) (iblk m c 1 t) (iblk m c 2 t) (iblk m c 3 t) (iblk m c 4 t) (ix2 r l)
      = val_main_v19 (F := Ideal) (m ((c : Thread nD τ).loc main_arg0)) (m ((c : Thread nD τ).loc main_arg1))
        (m ((c : Thread nD τ).loc main_arg2)) (m ((c : Thread nD τ).loc main_arg3))
        (ix2 ⟨t.val * 512 + r.val, by have h := t.isLt; have e : cfg0.N = 32 := rfl; omega⟩ l) := by
  rw [ref_acc, acc_at]
  pointwise [unit, k0_pay13, k0_pay1, r0_0, r0_1, val_main_v12, val_main_v11, val_main_v10, val_main_v9, val_main_v8, val_main_v7,
    val_main_v6, val_main_v5, val_main_v4, val_main_v3, val_main_v2, val_main_v1, val_main_v0, val_main_cst, val_main_cst_0,
    val_main_cst_1]
  blk_point [iblk, V, idx t]

/-- What the body leaves in the output block at a grid point is the reference's result at the block's rows. -/
theorem point (c : Dev nD) (t : Fin cfg0.N) (y) :
    out0_5 (iblk m c 0 t) (iblk m c 1 t) (iblk m c 2 t) (iblk m c 3 t) (iblk m c 4 t) y
    = val_main_v32 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (((cfg0.win 5).blk t).view.emb y) := by
  rw [out_eq]
  frame_out
  idx_vars y
  pointwise [scalePay, acc_ref m c t, r0_1, val_main_v32, val_main_v31, val_main_v30, val_main_v29, val_main_v28,
    val_main_v27, val_main_v26, val_main_v25, val_main_v24, val_main_v23, val_main_v22, val_main_v21, val_main_v20,
    val_main_cst_2, val_main_cst_3, val_main_cst_4]
  blk_point [iblk, V, idx t]

/-- The result array after the run is the reference's result. -/
theorem final (c : Dev nD) : (dats m 0 c).arrAt 5 (cfgs 0).N = val_main_v32 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t y

/-- The claim's two runs end with the same result. -/
theorem algebraic : Cert.algebraic_FfnIdeal_FfnRefIdeal := by
  pair_intro
  · run_from Cert.FfnIdeal.Gen.run_main m g
  · run_from Cert.FfnRefIdeal.Value.run m' g'
    rw [Cert.FfnRefIdeal.Read.val_main_v32_eq]
    simp only [hagree c]
    exact (final m c).symm

end Cert.FfnIdeal.Result

end
-- ==== Proof.FoxFinite.lean ====
/- The precondition of the attention's value claim, read: the queries, and layer 3 of the keys and of the logarithms of the
   gates, are numbers. -/
module

public import proofs.«01_k».proof.Pre_finite
public import Idealize.ShloMosaic.Lib.ReduceAll
public import Idealize.ShloMosaic.Lib.Pointwise
public import Idealize.ShloMosaic.Lib.Decide

@[expose] public section

set_option maxRecDepth 16384

noncomputable section

namespace Cert.Pre_finite.Decode

open Idealize.ShloMosaic Cert.Pre_finite

instance facts : Facts where
  bcast_S_S8x2048x512 := by decide
  reducesTo_S8x2048x512_S_d0_1_2 := by decide
  h_S_ := by decide
  slices_S4x8x2048x512_S1x8x2048x512_3_0_0_0 := by decide
  shapeCasts_S1x8x2048x512_S8x2048x512 := by decide
  slices_S4x8x2048x8_S1x8x2048x8_3_0_0_0 := by decide
  shapeCasts_S1x8x2048x8_S8x2048x8 := by decide
  bcast_S_S8x2048x8 := by decide
  reducesTo_S8x2048x8_S_d0_1_2 := by decide

theorem infinity : Ideal.ofBits .f32 0x7F800000#32 = ⊤ := by
  simp [Ideal.ofBits, Ideal.ieee]

/-- A value whose magnitude is below infinity is a number. -/
theorem number (x : EReal) (h : BitVec.ofBool (decide (max x (-x) < Ideal.ofBits .f32 0x7F800000#32)) = 1#1) :
    ∃ r : ℝ, x = (r : EReal) := by
  rw [infinity] at h
  have h' : max x (-x) < ⊤ := by
    by_contra hn
    rw [decide_eq_false hn] at h
    exact absurd h (by decide)
  induction x using EReal.rec with
  | bot => simp at h'
  | coe r => exact ⟨r, rfl⟩
  | top => simp at h'

theorem read (a0 : FVec Ideal S8x2048x512 .f32) (a1 a2 : FVec Ideal S4x8x2048x512 .f32) (a3 : FVec Ideal S4x8x2048x8 .f32)
    (h : fn (F := Ideal) a0 a1 a2 a3 = fun _ => 1#1) :
    (∀ b s c, ∃ r : ℝ, a0 (ix3 b s c) = (r : EReal)) ∧ (∀ b s c, ∃ r : ℝ, a1 (ix4 3 b s c) = (r : EReal))
      ∧ ∀ b s c, ∃ r : ℝ, a3 (ix4 3 b s c) = (r : EReal) := by
  have e := congrFun h (fun a => a.elim0)
  simp only [fn, andi] at e
  obtain ⟨e01, e2⟩ := IntOp.andi_eq_one.1 e
  obtain ⟨e0, e1⟩ := IntOp.andi_eq_one.1 e01
  have one : Subsingleton S_.Idx := ⟨fun i j => funext fun a => a.elim0⟩
  refine ⟨fun b s c => number _ (Host.reduce_andi_all _ _ _ _ _ e0 (ix3 b s c)), fun b s c => ?_, fun b s c => ?_⟩
  · obtain ⟨r, hr⟩ := number _ (Host.reduce_andi_all _ _ _ _ _ e1 (ix3 b s c))
    refine ⟨r, Eq.trans ?_ hr⟩
    pointwise
  · obtain ⟨r, hr⟩ := number _ (Host.reduce_andi_all _ _ _ _ _ e2 (ix3 b s c))
    refine ⟨r, Eq.trans ?_ hr⟩
    pointwise

end Cert.Pre_finite.Decode

end
-- ==== Proof.FoxSoftmax.lean ====
/- The mathematics of a softmax row: with real scores the quotient of the two weighted sums does not depend on the real
   number the scores are shifted by, so a row computed tile by tile with its own maximum and a row computed whole agree. -/
module

public import Idealize.ShloMosaic.Lib.Pipeline.ValueKit
public import Idealize.ShloMosaic.Lib.Pointwise
public import Idealize.ShloMosaic.Lib.Claim

@[expose] public section

noncomputable section

namespace Cert.FoxIdeal.Soft

open Idealize.ShloMosaic Finset

/-- A row of the attention: position `t` reads the positions up to its own, weighted by the exponentials of the scores. -/
def row (σ : ℕ → ℝ) (v : ℕ → EReal) (t : ℕ) : EReal :=
  (∑ s ∈ range (t + 1), (Real.exp (σ s) : EReal) * v s) * ((∑ s ∈ range (t + 1), Real.exp (σ s))⁻¹ : ℝ)

theorem real_mul_sum {ι : Type} (k : ℝ) (hk : 0 ≤ k) (s : Finset ι) (f : ι → EReal) :
    (k : EReal) * ∑ i ∈ s, f i = ∑ i ∈ s, (k : EReal) * f i := by
  classical
  induction s using Finset.induction_on with
  | empty => simp
  | insert a s ha ih =>
    rw [sum_insert ha, sum_insert ha, ← ih]
    exact EReal.left_distrib_of_nonneg_of_ne_top (by exact_mod_cast hk) (EReal.coe_ne_top k) _ _

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

theorem total_pos (σ : ℕ → ℝ) (t : ℕ) : 0 < ∑ s ∈ range (t + 1), Real.exp (σ s) :=
  sum_pos (fun _ _ => Real.exp_pos _) ⟨0, by simp⟩

theorem div_real (x : EReal) (l : ℝ) (h : l ≠ 0) : Ideal.div x l = x * (l⁻¹ : ℝ) := by
  unfold Ideal.div
  rw [if_neg (by exact_mod_cast h), EReal.coe_inv]

theorem exp_sub (a b : ℝ) : Ideal.exp ((a : EReal) - b) = (Real.exp a * Real.exp (-b) : ℝ) := by
  rw [← EReal.coe_sub, ← Real.exp_add, ← sub_eq_add_neg]; rfl

theorem exp_bot_sub (b : ℝ) : Ideal.exp ((⊥ : EReal) - b) = 0 := by
  rw [EReal.bot_sub]; rfl

theorem total_real (σ : ℕ → ℝ) (t : ℕ) (b : ℝ) :
    ∃ L : ℝ, ∑ s ∈ range (t + 1), Ideal.exp ((σ s : EReal) - b) = L ∧ L ≠ 0 := by
  simp only [exp_sub]
  rw [← coe_sum, ← sum_mul]
  exact ⟨_, rfl, (mul_pos (total_pos σ t) (Real.exp_pos _)).ne'⟩

/-- The shift leaves both sums by the same positive factor. -/
theorem row_shift (σ : ℕ → ℝ) (v : ℕ → EReal) (t : ℕ) (b : ℝ) :
    Ideal.div (∑ s ∈ range (t + 1), Ideal.exp ((σ s : EReal) - b) * v s)
        (∑ s ∈ range (t + 1), Ideal.exp ((σ s : EReal) - b)) = row σ v t := by
  have hk : 0 < Real.exp (-b) := Real.exp_pos _
  have hL := total_pos σ t
  simp only [exp_sub]
  rw [← coe_sum, ← sum_mul, div_real _ _ (by positivity)]
  simp only [EReal.coe_mul]
  rw [show (∑ s ∈ range (t + 1), (Real.exp (σ s) : EReal) * (Real.exp (-b) : EReal) * v s)
      = (Real.exp (-b) : EReal) * ∑ s ∈ range (t + 1), (Real.exp (σ s) : EReal) * v s by
    rw [real_mul_sum _ hk.le]; exact sum_congr rfl fun s _ => by rw [mul_comm (Real.exp (σ s) : EReal), mul_assoc]]
  unfold row
  rw [mul_comm (Real.exp (-b) : EReal), mul_assoc, ← EReal.coe_mul]
  congr 2
  rw [mul_inv, mul_comm (_⁻¹ : ℝ), ← mul_assoc, mul_inv_cancel₀ hk.ne', one_mul]

/-- The same row with every weight divided by the total before it multiplies its value. -/
theorem row_shift_each (σ : ℕ → ℝ) (v : ℕ → EReal) (t : ℕ) (b : ℝ) :
    ∑ s ∈ range (t + 1), v s * Ideal.div (Ideal.exp ((σ s : EReal) - b)) (∑ s ∈ range (t + 1), Ideal.exp ((σ s : EReal) - b))
      = row σ v t := by
  rw [← row_shift σ v t b]
  have hk : 0 < Real.exp (-b) := Real.exp_pos _
  have hL := total_pos σ t
  simp only [exp_sub]
  rw [← coe_sum, ← sum_mul]
  simp only [div_real _ _ (mul_pos hL hk).ne']
  have hW : 0 ≤ ((∑ s ∈ range (t + 1), Real.exp (σ s)) * Real.exp (-b))⁻¹ := by positivity
  generalize ((∑ s ∈ range (t + 1), Real.exp (σ s)) * Real.exp (-b))⁻¹ = W at hW
  rw [mul_comm _ (W : EReal), real_mul_sum _ hW]
  exact sum_congr rfl fun s _ => by rw [mul_comm (v s), mul_comm _ (W : EReal), mul_assoc]

/-- The maximum of entries none of which is infinite from above and one of which is real is real. -/
theorem fold_max_real {n : ℕ} (f : Fin n → EReal) (h : ∀ c, f c ≠ ⊤) (c : Fin n) (hc : f c ≠ ⊥) :
    ∃ b : ℝ, Finset.fold max ⊥ f Finset.univ = b := by
  have ht : Finset.fold max ⊥ f Finset.univ < ⊤ := by
    rw [fold_max_lt]; exact ⟨bot_lt_top, fun c _ => lt_top_iff_ne_top.mpr (h c)⟩
  have hb : ⊥ < Finset.fold max ⊥ f Finset.univ := by
    rw [lt_fold_max]; exact .inr ⟨c, mem_univ _, bot_lt_iff_ne_bot.mpr hc⟩
  exact ⟨_, (EReal.coe_toReal ht.ne hb.ne').symm⟩

theorem fold_max_ne_top {n : ℕ} (f : Fin n → EReal) (h : ∀ c, f c ≠ ⊤) : Finset.fold max ⊥ f Finset.univ ≠ ⊤ := by
  refine ne_of_lt ?_
  rw [fold_max_lt]; exact ⟨bot_lt_top, fun c _ => lt_top_iff_ne_top.mpr (h c)⟩

/-- A sum over `n` positions whose terms past `r` vanish. -/
theorem sum_prefix {M : Type} [AddCommMonoid M] (n r : ℕ) (h : r < n) (f : ℕ → M) :
    ∑ c : Fin n, (if c.val ≤ r then f c.val else 0) = ∑ c ∈ range (r + 1), f c := by
  rw [Fin.sum_univ_eq_sum_range (fun c => if c ≤ r then f c else 0) n, ← sum_filter]
  congr 1
  ext c
  simp only [mem_filter, mem_range]
  omega

/-- The tile's own positions and those before it are the positions up to the row's own. -/
theorem sum_tile {M : Type} [AddCommMonoid M] (lo r n : ℕ) (hr : r < n) (f : ℕ → M) :
    (∑ c : Fin n, if c.val ≤ r then f (lo + c.val) else 0) + ∑ c : Fin lo, f c.val = ∑ s ∈ range (lo + r + 1), f s := by
  rw [sum_prefix n r hr fun c => f (lo + c), Fin.sum_univ_eq_sum_range, add_comm, add_assoc lo,
    sum_range_add f lo (r + 1)]

/-- A row computed from the tile's own positions alone. -/
def first (sd vd : Fin 256 → EReal) : EReal :=
  Ideal.div (∑ c, Ideal.exp (sd c - Finset.fold max ⊥ sd Finset.univ) * vd c)
    (∑ c, Ideal.exp (sd c - Finset.fold max ⊥ sd Finset.univ))

/-- A row computed from the tile's own positions and the `lo` positions before it. -/
def later {lo : ℕ} (sd vd : Fin 256 → EReal) (sp vp : Fin lo → EReal) : EReal :=
  Ideal.div
    ((∑ c, Ideal.exp (sd c - max (Finset.fold max ⊥ sd Finset.univ) (Finset.fold max ⊥ sp Finset.univ)) * vd c)
      + ∑ c, Ideal.exp (sp c - max (Finset.fold max ⊥ sd Finset.univ) (Finset.fold max ⊥ sp Finset.univ)) * vp c)
    ((∑ c, Ideal.exp (sd c - max (Finset.fold max ⊥ sd Finset.univ) (Finset.fold max ⊥ sp Finset.univ)))
      + ∑ c, Ideal.exp (sp c - max (Finset.fold max ⊥ sd Finset.univ) (Finset.fold max ⊥ sp Finset.univ)))

theorem later_eq {lo : ℕ} (sd vd : Fin 256 → EReal) (sp vp : Fin lo → EReal) (σ : ℕ → ℝ) (v : ℕ → EReal) (r : Fin 256)
    (hsd : ∀ c, sd c = if c.val ≤ r.val then (σ (lo + c.val) : EReal) else ⊥) (hsp : ∀ c, sp c = (σ c.val : EReal))
    (hvd : ∀ c, vd c = v (lo + c.val)) (hvp : ∀ c, vp c = v c.val) :
    later sd vd sp vp = row σ v (lo + r.val) := by
  have ht : ∀ c, sd c ≠ ⊤ := fun c => by rw [hsd c]; split <;> simp
  have htp : ∀ c, sp c ≠ ⊤ := fun c => by rw [hsp c]; simp
  obtain ⟨b, hb⟩ := fold_max_real sd ht r (by rw [hsd r, if_pos le_rfl]; simp)
  have hp := fold_max_ne_top sp htp
  have hm : ∃ μ : ℝ, max (Finset.fold max ⊥ sd Finset.univ) (Finset.fold max ⊥ sp Finset.univ) = μ := by
    rw [hb]
    rcases le_total (Finset.fold max ⊥ sp Finset.univ) (b : EReal) with h | h
    · exact ⟨b, max_eq_left h⟩
    · rw [max_eq_right h]
      exact ⟨_, (EReal.coe_toReal hp (ne_of_gt (lt_of_lt_of_le (EReal.bot_lt_coe b) h))).symm⟩
  obtain ⟨μ, hμ⟩ := hm
  unfold later
  simp only [hμ]
  rw [← row_shift σ v _ μ, ← sum_tile lo r.val 256 r.isLt fun s => Ideal.exp ((σ s : EReal) - μ) * v s,
    ← sum_tile lo r.val 256 r.isLt fun s => Ideal.exp ((σ s : EReal) - μ)]
  congr 2
  · refine sum_congr rfl fun c _ => ?_
    rw [hsd c, hvd c]; split
    · rfl
    · rw [exp_bot_sub, zero_mul]
  · refine sum_congr rfl fun c _ => ?_
    rw [hsp c, hvp c]
  · refine sum_congr rfl fun c _ => ?_
    rw [hsd c]; split
    · rfl
    · rw [exp_bot_sub]
  · refine sum_congr rfl fun c _ => ?_
    rw [hsp c]

theorem first_eq (sd vd : Fin 256 → EReal) (σ : ℕ → ℝ) (v : ℕ → EReal) (r : Fin 256)
    (hsd : ∀ c, sd c = if c.val ≤ r.val then (σ c.val : EReal) else ⊥) (hvd : ∀ c, vd c = v c.val) :
    first sd vd = row σ v r.val := by
  rw [← zero_add r.val, ← later_eq (lo := 0) sd vd (fun _ => ⊥) (fun _ => 0) σ v r (fun c => by rw [hsd c, zero_add])
    (fun c => c.elim0) (fun c => by rw [hvd c, zero_add]) (fun c => c.elim0)]
  unfold first later
  simp

/-- A row computed whole: the scores shifted by one real number and by the row's maximum, every weight divided by the
    total. -/
theorem whole_eq (s v : Fin 2048 → EReal) (σ : ℕ → ℝ) (w : ℕ → EReal) (k : ℝ) (t : Fin 2048)
    (hs : ∀ c, s c = if c.val ≤ t.val then ((σ c.val + k : ℝ) : EReal) else ⊥) (hv : ∀ c, v c = w c.val) :
    ∑ c, v c * Ideal.div (Ideal.exp (s c - Finset.fold max ⊥ s Finset.univ))
        (∑ c, Ideal.exp (s c - Finset.fold max ⊥ s Finset.univ)) = row σ w t.val := by
  obtain ⟨b, hb⟩ := fold_max_real s (fun c => by rw [hs c]; split; exacts [EReal.coe_ne_top _, bot_ne_top]) t
    (by rw [hs t, if_pos le_rfl]; exact EReal.coe_ne_bot _)
  have he : ∀ c, Ideal.exp (s c - b) = if c.val ≤ t.val then Ideal.exp ((σ c.val : EReal) - ((b - k : ℝ) : EReal)) else 0 := by
    intro c
    rw [hs c]; split
    · rw [← EReal.coe_sub, ← EReal.coe_sub]; congr 2; ring
    · rw [exp_bot_sub]
  have hd : ∑ c, Ideal.exp (s c - b) = ∑ c ∈ range (t.val + 1), Ideal.exp ((σ c : EReal) - ((b - k : ℝ) : EReal)) := by
    simp only [he]
    exact sum_prefix 2048 t.val t.isLt fun c => Ideal.exp ((σ c : EReal) - ((b - k : ℝ) : EReal))
  obtain ⟨L, hL, h0⟩ := total_real σ t.val (b - k)
  rw [hb, hd, ← row_shift_each σ w t.val (b - k), hL, ← sum_prefix 2048 t.val t.isLt]
  refine sum_congr rfl fun c _ => ?_
  rw [he c]; split
  · rw [hv c]
  · rw [div_real _ _ h0, zero_mul, mul_zero]

end Cert.FoxIdeal.Soft
end
end
-- ==== Proof.FoxRefRead.lean ====
/- The reference of the forgetting attention read as a softmax row: its result at a batch row, a position and a column is
   `Soft.row` of the score `score` — the scaled dot product of query and key minus the forget gates summed up to the key —
   on real queries, keys and gates. The reference adds the gates summed up to the query to every score of a row, which the
   quotient forgets. -/
module

public import proofs.«01_k».proof.Proof.Gen.FoxRefIdeal.Read
public import proofs.«01_k».proof.Proof.FoxSoftmax
public import Idealize.ShloMosaic.Lib.Pipeline.ValueKit
public import Idealize.ShloMosaic.Lib.Pointwise

@[expose] public section

set_option maxRecDepth 16384

noncomputable section

namespace Cert.FoxIdeal.Soft

open Idealize.ShloMosaic Finset

theorem eighth : Ideal.ofBits .f32 0x3E000000#32 = ((1 / 8 : ℝ) : EReal) := by
  simp [Ideal.ofBits, Ideal.ieee, -EReal.coe_mul]; norm_num

theorem minus_inf : Ideal.ofBits .f32 0xFF800000#32 = ⊥ := by
  simp [Ideal.ofBits, Ideal.ieee]

/-- Signed comparison of two small words is the comparison of their numbers. -/
theorem sle_small (a b : ℕ) (ha : a < 2048) (hb : b < 2048) :
    IntOp.cmpi .sle (BitVec.ofNat 32 a) (BitVec.ofNat 32 b) = if a ≤ b then 1#1 else 0#1 := by
  have h : (BitVec.ofNat 32 a).sle (BitVec.ofNat 32 b) = decide (a ≤ b) := by
    simp [BitVec.sle, BitVec.toInt_eq_toNat_cond]
    omega
  unfold IntOp.cmpi
  simp only [h]
  by_cases hab : a ≤ b <;> simp [hab]

theorem select_if {α : Type} (p : Prop) [Decidable p] (x y : α) :
    Scalar.select (if p then 1#1 else 0#1) x y = if p then x else y := by
  split <;> rfl

/-- A left fold of additions from zero is the sum. -/
theorem fold_add (n : ℕ) (g : Fin n → EReal) : (List.finRange n).foldl (fun r i => r + g i) 0 = ∑ i, g i := by
  rw [← List.sum_ofFn, List.ofFn_eq_map, List.sum_eq_foldl, List.foldl_map]

variable (lf : Fin 8 → Fin 2048 → Fin 8 → EReal) (q k v : Fin 8 → Fin 2048 → Fin 512 → EReal)

/-- The forget gate of a batch row and a head at a position, as a real number; zero past the last position. -/
def gate (b h : Fin 8) (s : ℕ) : ℝ := if hs : s < 2048 then (lf b ⟨s, hs⟩ h).toReal else 0

/-- The forget gates of the first `n` positions summed. -/
def upto (b h : Fin 8) (n : ℕ) : ℝ := ∑ s ∈ range n, gate lf b h s

/-- The score of a key position for a query position. -/
def score (b h : Fin 8) (t : Fin 2048) (s : ℕ) : ℝ :=
  (∑ d : Fin 64, (q b t ⟨h.val * 64 + d.val, by omega⟩).toReal *
    (if hs : s < 2048 then (k b ⟨s, hs⟩ ⟨h.val * 64 + d.val, by omega⟩).toReal else 0)) * (1 / 8) - upto lf b h (s + 1)

/-- A column of the values, zero past the last position. -/
def column (b : Fin 8) (c : Fin 512) (s : ℕ) : EReal := if hs : s < 2048 then v b ⟨s, hs⟩ c else 0

/-- The forget gates of the positions from `t` on, summed. -/
theorem from_gate (hl : ∀ b s h, ∃ r : ℝ, lf b s h = r) (b h : Fin 8) (t : Fin 2048) :
    (∑ j : Fin 2048, if hj : t.val + j.val < 2048 then lf b ⟨t.val + j.val, hj⟩ h else 0)
      = ((upto lf b h 2048 - upto lf b h t.val : ℝ) : EReal) := by
  have e : ∀ j : Fin 2048, (if hj : t.val + j.val < 2048 then lf b ⟨t.val + j.val, hj⟩ h else 0)
      = ((gate lf b h (t.val + j.val) : ℝ) : EReal) := by
    intro j
    unfold gate
    split
    · obtain ⟨r, hr⟩ := hl b ⟨t.val + j.val, by assumption⟩ h
      rw [hr, EReal.toReal_coe]
    · simp
  rw [Finset.sum_congr rfl fun j _ => e j, ← coe_sum]
  congr 1
  have z : ∀ n, upto lf b h (2048 + n) = upto lf b h 2048 := by
    intro n
    unfold upto
    rw [Finset.sum_range_add, add_eq_left]
    exact Finset.sum_eq_zero fun s _ => dif_neg (by omega)
  rw [Fin.sum_univ_eq_sum_range (fun j => gate lf b h (t.val + j)) 2048, ← z t.val, Nat.add_comm 2048]
  unfold upto
  rw [Finset.sum_range_add, add_sub_cancel_left]

end Cert.FoxIdeal.Soft

namespace Cert.FoxRefIdeal.Rows

open Cert.FoxRefIdeal Cert.FoxRefIdeal.Read Idealize.ShloMosaic Idealize.ShloMosaic.TcCoe Cert.FoxIdeal

variable (x0 : (⟨S8x2048x512, .f32⟩ : BufTy).Contents (Elt Ideal)) (x1 : (⟨S4x8x2048x512, .f32⟩ : BufTy).Contents (Elt Ideal)) (x2 : (⟨S4x8x2048x512, .f32⟩ : BufTy).Contents (Elt Ideal)) (x3 : (⟨S4x8x2048x8, .f32⟩ : BufTy).Contents (Elt Ideal))

/-- A layer-3 array as a function of batch row, position and column. -/
abbrev layer {n : ℕ} (x : (⟨⟨4, ![4, 8, 2048, n]⟩, .f32⟩ : BufTy).Contents (Elt Ideal)) : Fin 8 → Fin 2048 → Fin n → EReal :=
  fun b s c => x (ix4 3 b s c)

abbrev plane (x : (⟨S8x2048x512, .f32⟩ : BufTy).Contents (Elt Ideal)) : Fin 8 → Fin 2048 → Fin 512 → EReal :=
  fun b s c => x (ix3 b s c)

theorem gates_read (b : Fin 8) (t : Fin 2048) (h : Fin 8) : val_main_v8 (F := Ideal) x3 (ix3 b t h) = layer x3 b t h := by
  pointwise [val_main_v8, val_main_v7]

theorem gates_after (b : Fin 8) (t : Fin 2048) (h : Fin 8) : val_main_v9 (F := Ideal) x3 (ix3 b t h) =
    ∑ j : Fin 2048, if hj : t.val + j.val < 2048 then layer x3 b ⟨t.val + j.val, hj⟩ h else 0 := by
  unfold val_main_v9 Host.reduceWindowAdd
  rw [Ideal.hostReduceWindowAdd_def]
  unfold Ideal.hostReduceWindowAdd Host.reduceWindow
  have z : val_main_call0_v0 (F := Ideal) (Shape.Idx.first Gen.h_S_) = (0 : EReal) := by
    pointwise [val_main_call0_v0, val_main_call0_cst]
  simp only [z]
  refine (Soft.fold_add _ _).trans ?_
  let G : Fin 2048 → EReal := fun j => if hj : t.val + j.val < 2048 then layer x3 b ⟨t.val + j.val, hj⟩ h else 0
  refine (Finset.sum_congr rfl fun n _ =>
    (?_ : _ = G ((Shape.rowMajor (⟨3, ![1, 2048, 1]⟩ : Shape)).symm n (1 : Fin 3)))).trans ?_
  · let w := (Shape.rowMajor (⟨3, ![1, 2048, 1]⟩ : Shape)).symm n
    show _ = G (w (1 : Fin 3))
    have h0 : (w (0 : Fin 3)).val = 0 := Nat.lt_one_iff.mp (w (0 : Fin 3)).isLt
    have h2 : (w (2 : Fin 3)).val = 0 := Nat.lt_one_iff.mp (w (2 : Fin 3)).isLt
    by_cases hj : t.val + (w (1 : Fin 3)).val < 2048
    · refine (dif_pos ?_).trans ?_
      · intro a
        match a with
        | ⟨0, _⟩ => exact ⟨Nat.zero_le _, show b.val * 1 + (w (0 : Fin 3)).val - 0 < 8 by omega⟩
        | ⟨1, _⟩ => exact ⟨Nat.zero_le _, show t.val * 1 + (w (1 : Fin 3)).val - 0 < 2048 by omega⟩
        | ⟨2, _⟩ => exact ⟨Nat.zero_le _, show h.val * 1 + (w (2 : Fin 3)).val - 0 < 8 by omega⟩
      · rw [show G (w (1 : Fin 3)) = layer x3 b ⟨t.val + (w (1 : Fin 3)).val, hj⟩ h from dif_pos hj, ← gates_read]
        congr 1
        funext a
        match a with
        | ⟨0, _⟩ => exact Fin.ext (show b.val * 1 + (w (0 : Fin 3)).val - 0 = b.val by omega)
        | ⟨1, _⟩ => exact Fin.ext (show t.val * 1 + (w (1 : Fin 3)).val - 0 = t.val + (w (1 : Fin 3)).val by omega)
        | ⟨2, _⟩ => exact Fin.ext (show h.val * 1 + (w (2 : Fin 3)).val - 0 = h.val by omega)
    · rw [show G (w (1 : Fin 3)) = 0 from dif_neg hj]
      refine dif_neg fun hin => hj ?_
      have := (hin (1 : Fin 3)).2
      change t.val * 1 + (w (1 : Fin 3)).val - 0 < 2048 at this
      omega
  · rw [Equiv.sum_comp (Shape.rowMajor (⟨3, ![1, 2048, 1]⟩ : Shape)).symm fun w => G (w (1 : Fin 3))]
    refine Finset.sum_nbij' (fun w => w (1 : Fin 3)) (fun j => ix3 (0 : Fin 1) j (0 : Fin 1)) (fun _ _ => Finset.mem_univ _)
      (fun _ _ => Finset.mem_univ _) (fun w _ => funext fun a => ?_) (fun _ _ => rfl) (fun _ _ => rfl)
    match a with
    | ⟨0, _⟩ => exact Fin.ext (Nat.lt_one_iff.mp (w (0 : Fin 3)).isLt).symm
    | ⟨1, _⟩ => rfl
    | ⟨2, _⟩ => exact Fin.ext (Nat.lt_one_iff.mp (w (2 : Fin 3)).isLt).symm

theorem g_read (hl : ∀ b s h, ∃ r : ℝ, layer x3 b s h = r) (b : Fin 8) (t : Fin 2048) (h : Fin 8) :
    val_main_v10 (F := Ideal) x3 (ix3 b t h)
      = ((Soft.upto (layer x3) b h (t.val + 1) - Soft.upto (layer x3) b h 2048 : ℝ) : EReal) := by
  rw [val_main_v10_apply, gates_read, gates_after, Soft.from_gate _ hl]
  obtain ⟨r, hr⟩ := hl b t h
  have e : Soft.upto (layer x3) b h (t.val + 1) = Soft.upto (layer x3) b h t.val + r := by
    unfold Soft.upto
    rw [Finset.sum_range_succ, Soft.gate, dif_pos t.isLt, show layer x3 b ⟨t.val, t.isLt⟩ h = r from hr, EReal.toReal_coe]
  rw [hr, e]
  show (r : EReal) - _ = _
  rw [← EReal.coe_sub]
  congr 1
  ring

theorem largest (b : Fin 8) (t : Fin 2048) (h : Fin 8) :
    val_main_v29 (F := Ideal) x0 x1 x3 (ix3 b h t)
      = Finset.fold max ⊥ (fun s => val_main_v28 (F := Ideal) x0 x1 x3 (ix4 b h t s)) Finset.univ := by
  rw [← Soft.minus_inf]
  pointwise [val_main_v29, val_main_cst_1]

theorem weight (b : Fin 8) (t s : Fin 2048) (h : Fin 8) :
    val_main_v35 (F := Ideal) x0 x1 x3 (ix4 b h t s) = Ideal.exp (val_main_v28 (F := Ideal) x0 x1 x3 (ix4 b h t s)
      - Finset.fold max ⊥ (fun s => val_main_v28 (F := Ideal) x0 x1 x3 (ix4 b h t s)) Finset.univ) := by
  rw [val_main_v35_apply, val_main_v34_apply, val_main_v33_apply, val_main_v32_apply, val_main_v31_apply,
    val_main_v30_apply, val_main_cst_2_apply,
    show idx_main_v32 (idx_main_v33 (ix4 b h t s)) = ix3 b h t from funext fun a => match a with
      | ⟨0, _⟩ => rfl
      | ⟨1, _⟩ => rfl
      | ⟨2, _⟩ => rfl, largest]
  show Ideal.exp (_ - max (Ideal.ofBits .f32 0xFF800000#32) _) = _
  rw [Soft.minus_inf, max_eq_right bot_le]

theorem prob (b : Fin 8) (t s : Fin 2048) (h : Fin 8) :
    val_main_v39 (F := Ideal) x0 x1 x3 (ix4 b h t s) = Ideal.div (val_main_v35 (F := Ideal) x0 x1 x3 (ix4 b h t s))
      (∑ s, val_main_v35 (F := Ideal) x0 x1 x3 (ix4 b h t s)) := by
  rw [val_main_v39_apply, val_main_v38_apply, val_main_v37_apply,
    show idx_main_v37 (idx_main_v38 (ix4 b h t s)) = ix3 b h t from funext fun a => match a with
      | ⟨0, _⟩ => rfl
      | ⟨1, _⟩ => rfl
      | ⟨2, _⟩ => rfl, val_main_v36_apply,
    show val_main_cst_3 (F := Ideal) (Shape.Idx.first Gen.h_S_) = (0 : EReal) from by pointwise [val_main_cst_3], zero_add,
    Finset.sum_congr rfl fun k _ => congrArg (val_main_v35 (F := Ideal) x0 x1 x3) (show idx_main_v36 (ix3 b h t) k = ix4 b h t k from
      funext fun a => match a with
        | ⟨0, _⟩ => rfl
        | ⟨1, _⟩ => rfl
        | ⟨2, _⟩ => rfl
        | ⟨3, _⟩ => rfl)]
  rfl

theorem masked (b : Fin 8) (t s : Fin 2048) (h : Fin 8) :
    val_main_v28 (F := Ideal) x0 x1 x3 (ix4 b h t s) = if s.val ≤ t.val then
      (∑ d : Fin 64, plane x0 b t ⟨h.val * 64 + d.val, by omega⟩ * layer x1 b s ⟨h.val * 64 + d.val, by omega⟩) * ((1 / 8 : ℝ) : EReal)
        + val_main_v10 (F := Ideal) x3 (ix3 b t h) - val_main_v10 (F := Ideal) x3 (ix3 b s h) else ⊥ := by
  rw [← Soft.eighth, ← Soft.select_if, ← Soft.sle_small _ _ s.isLt t.isLt, ← Soft.minus_inf]
  pointwise [val_main_v28, val_main_call1_v0, val_main_call1_v1, val_main_call1_v2, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v3, val_main_v2, val_main_v1, val_main_v0, val_main_cst_0, val_main_cst]
  rfl

theorem scores (hq : ∀ b s c, ∃ r : ℝ, plane x0 b s c = r) (hk : ∀ b s c, ∃ r : ℝ, layer x1 b s c = r)
    (hl : ∀ b s h, ∃ r : ℝ, layer x3 b s h = r) (b : Fin 8) (t s : Fin 2048) (h : Fin 8) :
    val_main_v28 (F := Ideal) x0 x1 x3 (ix4 b h t s) = if s.val ≤ t.val then
      ((Soft.score (layer x3) (plane x0) (layer x1) b h t s.val + Soft.upto (layer x3) b h (t.val + 1) : ℝ) : EReal) else ⊥ := by
  rw [masked, g_read _ hl, g_read _ hl]
  have e : ∀ d : Fin 64, plane x0 b t ⟨h.val * 64 + d.val, by omega⟩ * layer x1 b s ⟨h.val * 64 + d.val, by omega⟩
      = (((plane x0 b t ⟨h.val * 64 + d.val, by omega⟩).toReal * (layer x1 b s ⟨h.val * 64 + d.val, by omega⟩).toReal : ℝ) : EReal) := by
    intro d
    obtain ⟨r, hr⟩ := hq b t ⟨h.val * 64 + d.val, by omega⟩
    obtain ⟨r', hr'⟩ := hk b s ⟨h.val * 64 + d.val, by omega⟩
    rw [hr, hr', EReal.toReal_coe, EReal.toReal_coe, EReal.coe_mul]
  rw [Finset.sum_congr rfl fun d _ => e d, ← Soft.coe_sum, ← EReal.coe_mul, ← EReal.coe_add, ← EReal.coe_sub]
  congr 2
  unfold Soft.score
  simp only [s.isLt, dif_pos]
  ring

theorem out (b : Fin 8) (t : Fin 2048) (c : Fin 512) :
    val_main_v43 (F := Ideal) x0 x1 x2 x3 (ix3 b t c)
      = ∑ s, layer x2 b s c * val_main_v39 (F := Ideal) x0 x1 x3 (ix4 b ⟨c.val / 64, by omega⟩ t s) := by
  pointwise [val_main_v43, val_main_v42, val_main_v41, val_main_v40, val_main_v6, val_main_v5, val_main_v4]

/-- The reference's result is the softmax row. -/
theorem result (hq : ∀ b s c, ∃ r : ℝ, plane x0 b s c = r) (hk : ∀ b s c, ∃ r : ℝ, layer x1 b s c = r)
    (hl : ∀ b s h, ∃ r : ℝ, layer x3 b s h = r) (b : Fin 8) (t : Fin 2048) (c : Fin 512) :
    val_main_v43 (F := Ideal) x0 x1 x2 x3 (ix3 b t c)
      = Soft.row (Soft.score (layer x3) (plane x0) (layer x1) b ⟨c.val / 64, by omega⟩ t) (Soft.column (layer x2) b c) t.val := by
  rw [out]
  simp only [prob, weight]
  exact Soft.whole_eq _ _ _ _ (Soft.upto (layer x3) b ⟨c.val / 64, by omega⟩ (t.val + 1)) t
    (fun s => scores _ _ _ hq hk hl b t s _) (fun s => by simp [Soft.column, s.isLt])

end Cert.FoxRefIdeal.Rows
end
end
-- ==== Proof.FoxPrep.lean ====
/- The preparation of the forgetting attention: on real forget gates its result holds, for a pair of heads, minus the gates
   summed up to each position in lane 0 for the pair's first head and in lane 3 for its second, and zero elsewhere. The sums
   are taken block by block of 256 positions with a carry; a three-way split of a real number is the number and two zeros. -/
module

public import proofs.«01_k».proof.Proof.Gen.FoxIdeal.Frame
public import proofs.«01_k».proof.Proof.FoxRefRead
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FoxIdeal.Prep

open Cert.FoxIdeal Cert.FoxIdeal.Gen Idealize.ShloMosaic Idealize.ShloMosaic.TcCoe Idealize.SL.Sem

theorem one_bit (b : BitVec 1) : FloatOps.sitofp (F := Ideal) FTy.f32 (BitVec.setWidth 32 b) = if b = 1#1 then 1 else 0 := by
  have this : ∀ b : BitVec 1, b = 0#1 ∨ b = 1#1 := by decide
  rcases this b with rfl | rfl
  · show (((0 : ℤ) : ℝ) : EReal) = _
    simp
  · show (((1 : ℤ) : ℝ) : EReal) = _
    simp

theorem tri (r c : Fin 256) : k0_pay4 (F := Ideal) (ix2 r c) = if c.val ≤ r.val then 1 else 0 := by
  pointwise [k0_pay4]
  rw [one_bit, show IntOp.cmpi .sge (BitVec.ofNat 32 r.val) (BitVec.ofNat 32 c.val)
    = IntOp.cmpi .sle (BitVec.ofNat 32 c.val) (BitVec.ofNat 32 r.val) from rfl, Soft.sle_small _ _ (by omega) (by omega)]
  by_cases hc : c.val ≤ r.val <;> simp [hc]

/-- One block's sums: its own gates up to a row, in three parts, and the carry. -/
def step (y : Vec Ideal S1x1x256x8 .f32) (e : EReal) (r : Fin 256) (h : Fin 8) : EReal :=
  ∑ x, k0_pay4 (F := Ideal) (ix2 r x) * y (ix4 0 0 x h) + ∑ x, k0_pay4 (F := Ideal) (ix2 r x) * (y (ix4 0 0 x h) - y (ix4 0 0 x h)) +
    ∑ x, k0_pay4 (F := Ideal) (ix2 r x) * (y (ix4 0 0 x h) - y (ix4 0 0 x h) - (y (ix4 0 0 x h) - y (ix4 0 0 x h))) + e

theorem real_sub_self (a : ℝ) : (a : EReal) - a = 0 := by rw [← EReal.coe_sub, sub_self, EReal.coe_zero]

theorem step_eq (g : ℕ → ℝ) (lo : ℕ) (y : Vec Ideal S1x1x256x8 .f32) (r : Fin 256) (h : Fin 8)
    (hy : ∀ x : Fin 256, y (ix4 0 0 x h) = ((g (lo + x.val) : ℝ) : EReal)) (e : EReal)
    (he : e = ((∑ s ∈ Finset.range lo, g s : ℝ) : EReal)) :
    step y e r h = ((∑ s ∈ Finset.range (lo + r.val + 1), g s : ℝ) : EReal) := by
  unfold step
  have z : (0 : EReal) - 0 = 0 := sub_zero 0
  simp only [hy, real_sub_self, z, mul_zero, Finset.sum_const_zero, add_zero, tri, ite_mul, one_mul, zero_mul]
  rw [Soft.sum_prefix 256 r.val r.isLt fun c => ((g (lo + c) : ℝ) : EReal), ← Soft.coe_sum, he, ← EReal.coe_add, add_assoc lo,
    Finset.sum_range_add g lo (r.val + 1), add_comm]

theorem dite_is {p : Prop} [Decidable p] {a : p → EReal} {b : ¬p → EReal} {s : EReal} (h : ∀ k, a k = s) (h' : ∀ k, b k = s) :
    dite p a b = s := by
  split
  exacts [h _, h' _]

section blocks
variable (v : FVec Ideal S1x8 .f32) (y z w : Vec Ideal S1x1x256x8 .f32) (r : Fin 256) (h : Fin 8)
  (a b : FVec Ideal S256x8 .bf16) (c c1 c2 c3 c4 c5 c6 c7 : FVec Ideal S256x8 .f32)

theorem p5 : k0_pay5 y (ix2 r h) = step y 0 r h := by
  unfold step
  rw [add_zero]
  pointwise [k0_pay5]
theorem p6 : k0_pay6 y z (ix2 r h) = step z (k0_pay5 y (ix2 255 h)) r h := by unfold step; pointwise [k0_pay6]
theorem p7 : k0_pay7 y z (ix2 0 h) = k0_pay6 y z (ix2 255 h) := by pointwise [k0_pay7]
theorem p8 : k0_pay8 k0_pay4 v y (ix2 r h) = step y (v (ix2 0 h)) r h := by unfold step; pointwise [k0_pay8]
theorem p9 : k0_pay9 k0_pay4 v y z (ix2 r h) = step z (k0_pay8 k0_pay4 v y (ix2 255 h)) r h := by
  unfold step; pointwise [k0_pay9]
theorem p10 : k0_pay10 k0_pay4 v y z (ix2 0 h) = k0_pay9 k0_pay4 v y z (ix2 255 h) := by pointwise [k0_pay10]
theorem p17 : k0_pay17 k0_pay4 v (k0_pay14 y) (k0_pay15 y) (k0_pay16 k0_pay4 y) (ix2 r h) = step y (v (ix2 0 h)) r h := by
  unfold step
  pointwise [k0_pay17, k0_pay16, k0_pay15, k0_pay14, k0_pay13, k0_pay12, k0_pay11]
theorem p18 : k0_pay18 k0_pay4 v a b c z (ix2 r h) = step z (k0_pay17 k0_pay4 v a b c (ix2 255 h)) r h := by
  unfold step; pointwise [k0_pay18]
theorem p19 : k0_pay19 k0_pay4 v a b c z w (ix2 r h) = step w (k0_pay18 k0_pay4 v a b c z (ix2 255 h)) r h := by
  unfold step; pointwise [k0_pay19]
theorem p20 : k0_pay20 k0_pay4 v a b c z w (ix2 0 h) = k0_pay19 k0_pay4 v a b c z w (ix2 255 h) := by pointwise [k0_pay20]

/-- The stacked and negated sums, from the sums of the first seven blocks and the last block's own. -/
theorem p21 (j : Fin 2048) (s : ℝ)
    (h1 : ∀ r : Fin 256, j.val = r.val → c1 (ix2 r h) = s) (h2 : ∀ r : Fin 256, j.val = 256 + r.val → c2 (ix2 r h) = s)
    (h3 : ∀ r : Fin 256, j.val = 512 + r.val → c3 (ix2 r h) = s) (h4 : ∀ r : Fin 256, j.val = 768 + r.val → c4 (ix2 r h) = s)
    (h5 : ∀ r : Fin 256, j.val = 1024 + r.val → c5 (ix2 r h) = s) (h6 : ∀ r : Fin 256, j.val = 1280 + r.val → c6 (ix2 r h) = s)
    (h7 : ∀ r : Fin 256, j.val = 1536 + r.val → c7 (ix2 r h) = s)
    (h8 : ∀ r : Fin 256, j.val = 1792 + r.val → step y (v (ix2 0 h)) r h = s) :
    k0_pay21 k0_pay4 c1 c2 c3 c4 c5 c6 c7 v y (ix2 j h) = ((-s : ℝ) : EReal) := by
  unfold step at h8
  pointwise [k0_pay21]
  rw [EReal.coe_neg, ← zero_sub (s : EReal)]
  refine congrArg _ ?_
  refine dite_is (fun _ => h1 _ (by simp)) fun _ => ?_
  refine dite_is (fun _ => h2 _ (by simp only; omega)) fun _ => ?_
  refine dite_is (fun _ => h3 _ (by simp only; omega)) fun _ => ?_
  refine dite_is (fun _ => h4 _ (by simp only; omega)) fun _ => ?_
  refine dite_is (fun _ => h5 _ (by simp only; omega)) fun _ => ?_
  refine dite_is (fun _ => h6 _ (by simp only; omega)) fun _ => ?_
  refine dite_is (fun _ => h7 _ (by simp only; omega)) fun _ => ?_
  exact h8 _ (by simp only; omega)

end blocks

variable (x0 : Vec Ideal S1x1x2048x8 .f32) (g : Fin 8 → ℕ → ℝ)

/-- The negated sums of the gates up to a position. -/
theorem sums (hx : ∀ (s : Fin 2048) (h : Fin 8), x0 (ix4 0 0 s h) = ((g h s.val : ℝ) : EReal)) (j : Fin 2048) (h : Fin 8) :
    k0_pay41 x0 (ix2 j h) = ((-(∑ s ∈ Finset.range (j.val + 1), g h s) : ℝ) : EReal) := by
  have l0 : ∀ x : Fin 256, View.ld x0 r0_0 (ix4 0 0 x h) = ((g h (0 + x.val) : ℝ) : EReal) := fun x => by
    rw [← hx ⟨0 + x.val, by omega⟩ h]; pointwise []
  have l1 : ∀ x : Fin 256, View.ld x0 r0_1 (ix4 0 0 x h) = ((g h (256 + x.val) : ℝ) : EReal) := fun x => by
    rw [← hx ⟨256 + x.val, by omega⟩ h]; pointwise []
  have l2 : ∀ x : Fin 256, View.ld x0 r0_2 (ix4 0 0 x h) = ((g h (512 + x.val) : ℝ) : EReal) := fun x => by
    rw [← hx ⟨512 + x.val, by omega⟩ h]; pointwise []
  have l3 : ∀ x : Fin 256, View.ld x0 r0_3 (ix4 0 0 x h) = ((g h (768 + x.val) : ℝ) : EReal) := fun x => by
    rw [← hx ⟨768 + x.val, by omega⟩ h]; pointwise []
  have l4 : ∀ x : Fin 256, View.ld x0 r0_4 (ix4 0 0 x h) = ((g h (1024 + x.val) : ℝ) : EReal) := fun x => by
    rw [← hx ⟨1024 + x.val, by omega⟩ h]; pointwise []
  have l5 : ∀ x : Fin 256, View.ld x0 r0_5 (ix4 0 0 x h) = ((g h (1280 + x.val) : ℝ) : EReal) := fun x => by
    rw [← hx ⟨1280 + x.val, by omega⟩ h]; pointwise []
  have l6 : ∀ x : Fin 256, View.ld x0 r0_6 (ix4 0 0 x h) = ((g h (1536 + x.val) : ℝ) : EReal) := fun x => by
    rw [← hx ⟨1536 + x.val, by omega⟩ h]; pointwise []
  have l7 : ∀ x : Fin 256, View.ld x0 r0_7 (ix4 0 0 x h) = ((g h (1792 + x.val) : ℝ) : EReal) := fun x => by
    rw [← hx ⟨1792 + x.val, by omega⟩ h]; pointwise []
  unfold k0_pay41 k0_pay38 k0_pay37 k0_pay36 k0_pay35 k0_pay34 k0_pay33
  have c1 := fun r => (p5 (View.ld x0 r0_0) r h).trans (step_eq (g h) 0 _ r h l0 _ (by simp))
  have c2 := fun r => (p6 (View.ld x0 r0_0) (View.ld x0 r0_1) r h).trans (step_eq (g h) 256 _ r h l1 _ (c1 255))
  have c3 := fun r => (p8 (k0_pay7 (View.ld x0 r0_0) (View.ld x0 r0_1)) (View.ld x0 r0_2) r h).trans
    (step_eq (g h) 512 _ r h l2 _ ((p7 _ _ h).trans (c2 255)))
  have c4 := fun r => (p9 (k0_pay7 (View.ld x0 r0_0) (View.ld x0 r0_1)) (View.ld x0 r0_2) (View.ld x0 r0_3) r h).trans
    (step_eq (g h) 768 _ r h l3 _ (c3 255))
  have c5 := fun r => (p17 (k0_pay10 k0_pay4 (k0_pay7 (View.ld x0 r0_0) (View.ld x0 r0_1)) (View.ld x0 r0_2) (View.ld x0 r0_3))
    (View.ld x0 r0_4) r h).trans (step_eq (g h) 1024 _ r h l4 _ ((p10 _ _ _ h).trans (c4 255)))
  have c6 := fun r => (p18 _ (View.ld x0 r0_5) r h _ _ _).trans (step_eq (g h) 1280 _ r h l5 _ (c5 255))
  have c7 := fun r => (p19 _ (View.ld x0 r0_5) (View.ld x0 r0_6) r h _ _ _).trans (step_eq (g h) 1536 _ r h l6 _ (c6 255))
  refine p21 _ (View.ld x0 r0_7) h _ _ _ _ _ _ _ j _ ?_ ?_ ?_ ?_ ?_ ?_ ?_ ?_
  · intro r e; rw [e]; exact (c1 r).trans (by rw [Nat.zero_add])
  · intro r e; rw [e]; exact c2 r
  · intro r e; rw [e]; exact c3 r
  · intro r e; rw [e]; exact c4 r
  · intro r e; rw [e]; exact c5 r
  · intro r e; rw [e]; exact c6 r
  · intro r e; rw [e]; exact c7 r
  · intro r e; rw [e]; exact step_eq (g h) 1792 _ r h l7 _ ((p20 _ _ _ h _ _ _).trans (c7 255))

/-- Where the sums are placed: column `l` of the four pairs' 512 takes head `x` in lane 0 or 3. -/
theorem placed (n : FVec Ideal S2048x8 .f32) (hn : ∀ i, ∃ r : ℝ, n i = r) (j : Fin 2048) (l : Fin 512)
    (hnx : k0_pay41 x0 = n) :
    k0_pay48 x0 (ix2 j l) = ∑ x : Fin 8, if (x.val = 2 * (l.val / 128) ∧ l.val % 128 = 0) ∨ (x.val = 2 * (l.val / 128) + 1 ∧ l.val % 128 = 3)
      then n (ix2 j x) else 0 := by
  have e1 : ∀ i, n i - n i = 0 := fun i => by obtain ⟨r, hr⟩ := hn i; rw [hr, real_sub_self]
  have sel : ∀ (x : Fin 8) (l : Fin 512), (IntOp.ori
                  (IntOp.andi (IntOp.cmpi CmpIPredicate.eq (BitVec.ofNat 32 x.val) (IntOp.muli (2#32) (k0_pay22 (ix2 x l))))
                    (IntOp.cmpi CmpIPredicate.eq
                      (k0_pay23 (iota Kind.tc S8x512 32 [1] iota_S8x512_d1_w32) (128#32)
                        (Scalar.cmpi CmpIPredicate.eq 128#32 0#32) (ix2 x l))
                      0#32))
                  (IntOp.andi
                    (IntOp.cmpi CmpIPredicate.eq (BitVec.ofNat 32 x.val)
                      (IntOp.addi (IntOp.muli (2#32) (k0_pay22 (ix2 x l))) 1#32))
                    (IntOp.cmpi CmpIPredicate.eq
                      (k0_pay23 (iota Kind.tc S8x512 32 [1] iota_S8x512_d1_w32) (128#32)
                        (Scalar.cmpi CmpIPredicate.eq 128#32 0#32) (ix2 x l))
                      3#32)) = 1#1) ↔
      (x.val = 2 * (l.val / 128) ∧ l.val % 128 = 0) ∨ (x.val = 2 * (l.val / 128) + 1 ∧ l.val % 128 = 3) := by
    intro x l
    pointwise [k0_pay22, k0_pay23]
    revert x l
    decide +kernel
  unfold k0_pay48 k0_pay47 k0_pay46 k0_pay45 k0_pay44 k0_pay39 k0_pay40
  rw [hnx]
  unfold k0_pay42
  generalize k0_pay43 x0 = b
  pointwise [k0_pay30, k0_pay29, k0_pay28, k0_pay27, k0_pay26, k0_pay25, k0_pay24]
  have z : (0 : EReal) - 0 = 0 := sub_zero 0
  simp only [e1, z, zero_mul, Finset.sum_const_zero, add_zero]
  refine Finset.sum_congr rfl fun x _ => ?_
  rw [one_bit, mul_ite, mul_one, mul_zero]
  exact if_congr (sel x l) rfl rfl

/-- The result as one function: a pair's columns stand one after another. -/
def cols : S1x4x2048x128.Idx → Elt Ideal .bf16 := fun y => k0_pay48 x0 (ix2 ⟨(y 2).val, (y 2).isLt⟩ ⟨(y 1).val * 128 + (y 3).val, by
  have h1 : (y 1).val < 4 := (y 1).isLt
  have h3 : (y 3).val < 128 := (y 3).isLt
  omega⟩)

/-- A pair's store is its block of columns. -/
theorem store (p : Fin 4) (inb : ∀ a, ![0, p.val, 0, 0] a + S1x1x2048x128.size a ≤ S1x4x2048x128.size a)
    (P : Vec Ideal S1x1x2048x128 .bf16)
    (h : ∀ j l, P (ix4 0 0 j l) = k0_pay48 x0 (ix2 j ⟨p.val * 128 + l.val, by omega⟩)) (x : S1x1x2048x128.Idx) :
    P x = cols x0 ((Rect.unit (s := S1x4x2048x128) ![0, p.val, 0, 0] S1x1x2048x128.size inb).emb x) := by
  have e : x = ix4 0 0 (x 2) (x 3) := by
    funext a
    match a with
    | ⟨0, _⟩ => exact Fin.ext (Nat.lt_one_iff.mp (x 0).isLt)
    | ⟨1, _⟩ => exact Fin.ext (Nat.lt_one_iff.mp (x 1).isLt)
    | ⟨2, _⟩ => rfl
    | ⟨3, _⟩ => rfl
  rw [show P x = P (ix4 0 0 (x 2) (x 3)) from congrArg P e, h (x 2) (x 3)]
  unfold cols
  have h1 : (x 1).val = 0 := Nat.lt_one_iff.mp (x 1).isLt
  congr 1
  funext a
  match a with
  | ⟨0, _⟩ => exact Fin.ext (show (x 2).val = 0 + 1 * (x 2).val by omega)
  | ⟨1, _⟩ => exact Fin.ext (show p.val * 128 + (x 3).val = (p.val + 1 * (x 1).val) * 128 + (0 + 1 * (x 3).val) by omega)

theorem piece (p : Fin 4) (j : Fin 2048) (l : Fin 128) :
    out0_1 x0 (ix4 0 p j l) = k0_pay48 x0 (ix2 j ⟨p.val * 128 + l.val, by omega⟩) := by
  unfold out0_1
  refine View.canon_apply_of_pieces (cols x0) _ ?_ _ (cover0_1 _ _ _ _ _)
  refine View.PiecesOf.mem ⟨store x0 3 inb_S1x4x2048x128_S1x1x2048x128_0_3_0_0 _ fun j l => ?_,
    store x0 2 inb_S1x4x2048x128_S1x1x2048x128_0_2_0_0 _ fun j l => ?_,
    store x0 1 inb_S1x4x2048x128_S1x1x2048x128_0_1_0_0 _ fun j l => ?_,
    store x0 0 inb_S1x4x2048x128_S1x1x2048x128_0_0_0_0 _ fun j l => ?_, trivial⟩
  · pointwise [k0_pay3]
  · pointwise [k0_pay2]
  · unfold k0_pay48; pointwise [k0_pay32, k0_pay1]
  · unfold k0_pay48; pointwise [k0_pay31]

/-- What the preparation leaves for a pair of heads. -/
theorem kx (hx : ∀ (s : Fin 2048) (h : Fin 8), x0 (ix4 0 0 s h) = ((g h s.val : ℝ) : EReal)) (p : Fin 4) (j : Fin 2048)
    (l : Fin 128) : out0_1 x0 (ix4 0 p j l) =
      if l.val = 0 then ((-(∑ s ∈ Finset.range (j.val + 1), g ⟨2 * p.val, by omega⟩ s) : ℝ) : EReal)
      else if l.val = 3 then ((-(∑ s ∈ Finset.range (j.val + 1), g ⟨2 * p.val + 1, by omega⟩ s) : ℝ) : EReal) else 0 := by
  rw [piece, placed x0 _ (fun i => by idx_vars i; exact ⟨_, sums x0 g hx _ _⟩) _ _ rfl]
  have e1 : (p.val * 128 + l.val) / 128 = p.val := by omega
  have e2 : (p.val * 128 + l.val) % 128 = l.val := by omega
  simp only [e1, e2]
  by_cases h0 : l.val = 0
  · rw [if_pos h0, ← sums x0 g hx]
    refine (Finset.sum_eq_single ⟨2 * p.val, by omega⟩ (fun x _ hx => if_neg ?_) (by simp)).trans (if_pos (Or.inl ⟨rfl, h0⟩))
    rw [ne_eq, Fin.ext_iff] at hx
    simp only at hx
    omega
  · rw [if_neg h0]
    by_cases h3 : l.val = 3
    · rw [if_pos h3, ← sums x0 g hx]
      refine (Finset.sum_eq_single ⟨2 * p.val + 1, by omega⟩ (fun x _ hx => if_neg ?_) (by simp)).trans
        (if_pos (Or.inr ⟨rfl, h3⟩))
      rw [ne_eq, Fin.ext_iff] at hx
      simp only at hx
      omega
    · rw [if_neg h3]
      exact Finset.sum_eq_zero fun x _ => if_neg (by omega)

end Cert.FoxIdeal.Prep
end
end
-- ==== Proof.FoxTile.lean ====
/- The tiles of the forgetting attention: the rows each of the eight tiles stores, opened to the softmax of FoxSoftmax.lean
   over the tile's own key positions (masked to the causal ones) and the positions before them. -/
module

public import proofs.«01_k».proof.Proof.Gen.FoxIdeal.Frame
public import proofs.«01_k».proof.Proof.FoxRefRead
public import Idealize.ShloMosaic.Lib.Pipeline.ValueKit
public import Idealize.ShloMosaic.Lib.Pointwise

@[expose] public section

set_option maxRecDepth 16384

noncomputable section

namespace Cert.FoxIdeal.Tile

open Cert.FoxIdeal Cert.FoxIdeal.Gen Idealize.ShloMosaic Idealize.ShloMosaic.TcCoe Idealize.SL.Sem

/-- The mask is minus infinity. -/
theorem mask : (Named.named (F := Ideal) (φ := .f32) κ "mask" 0xF149F2CA#32 : EReal) = ⊥ := rfl

theorem causal (r : Fin 512) (c : Fin 256) : k1_pay44 (ix2 r c) = if c.val ≤ r.val % 256 then 1#1 else 0#1 := by
  pointwise [k1_pay44]
  rw [← Soft.sle_small _ _ (by omega) (by omega)]
  congr 1
  revert r
  decide +kernel

theorem halves (r : Fin 256) (d : Fin 128) : k1_pay45 (ix2 r d) = if d.val < 64 then 1#1 else 0#1 := by
  pointwise [k1_pay45]
  revert d
  decide +kernel

section tiles

variable (q : Vec Ideal S1x512x256 .bf16) (kd : Vec Ideal S256x256 .bf16) (vd : Vec Ideal S256x128 .bf16) (r : Fin 256) (d : Fin 128)

/-- One row of scores against the tile's own keys, masked. -/
def own (r' : Fin 512) (c : Fin 256) : EReal :=
  Scalar.select (k1_pay44 (ix2 r' c)) (∑ x, q (ix3 0 r' x) * kd (ix2 c x)) (Named.named (F := Ideal) (φ := .f32) κ "mask" 0xF149F2CA#32)

/-- What the first tile stores: in the first 64 columns the row of the first head, in the others the second head's. -/
def start : EReal :=
  Scalar.select (k1_pay45 (ix2 r d)) (Soft.first (fun c => own q kd ⟨r.val, by omega⟩ c) fun c => vd (ix2 c d))
    (Soft.first (fun c => own q kd ⟨256 + r.val, by omega⟩ c) fun c => vd (ix2 c d))

/-- What a later tile stores. -/
def tile {lo : ℕ} (kp : Vec Ideal ⟨2, ![lo, 256]⟩ .bf16) (vp : Vec Ideal ⟨2, ![lo, 128]⟩ .bf16) : EReal :=
  Scalar.select (k1_pay45 (ix2 r d))
    (Soft.later (fun c => own q kd ⟨r.val, by omega⟩ c) (fun c => vd (ix2 c d))
      (fun c : Fin lo => ∑ x, q (ix3 0 ⟨r.val, by omega⟩ x) * kp (ix2 c x)) fun c => vp (ix2 c d))
    (Soft.later (fun c => own q kd ⟨256 + r.val, by omega⟩ c) (fun c => vd (ix2 c d))
      (fun c : Fin lo => ∑ x, q (ix3 0 ⟨256 + r.val, by omega⟩ x) * kp (ix2 c x)) fun c => vp (ix2 c d))

theorem tile0 : k1_pay47 k1_pay44 k1_pay45 (k1_pay46 q) kd vd (ix3 0 r d) = start q kd vd r d := by
  unfold start Soft.first
  rw [← Soft.minus_inf]
  pointwise [k1_pay47, k1_pay46, own]

theorem tile1 (kp : Vec Ideal S256x256 .bf16) (vp : Vec Ideal S256x128 .bf16) :
    k1_pay53 k1_pay45 (k1_pay50 q kp) (k1_pay51 k1_pay44 q kd kp) (k1_pay52 k1_pay44 q kd kp) vd vp (ix3 0 r d) = tile q kd vd r d kp vp := by
  unfold tile Soft.later
  rw [← Soft.minus_inf]
  pointwise [k1_pay53, k1_pay52, k1_pay51, k1_pay50, k1_pay49, k1_pay48, own]

theorem tile2 (kp : Vec Ideal S512x256 .bf16) (vp : Vec Ideal S512x128 .bf16) :
    k1_pay59 k1_pay45 (k1_pay55 k1_pay44 q kd) (k1_pay56 k1_pay44 q kd) (k1_pay57 q kp) (k1_pay58 q kp) vd vp (ix3 0 r d) = tile q kd vd r d kp vp := by
  unfold tile Soft.later
  rw [← Soft.minus_inf]
  pointwise [k1_pay59, k1_pay58, k1_pay57, k1_pay56, k1_pay55, k1_pay54, own]

theorem tile3 (kp : Vec Ideal S768x256 .bf16) (vp : Vec Ideal S768x128 .bf16) :
    k1_pay63 k1_pay45 (k1_pay60 q) (k1_pay61 k1_pay44 q kd) (k1_pay62 k1_pay44 q kd) kp vd vp (ix3 0 r d) = tile q kd vd r d kp vp := by
  unfold tile Soft.later
  rw [← Soft.minus_inf]
  pointwise [k1_pay63, k1_pay62, k1_pay61, k1_pay60, own]

theorem tile4 (kp : Vec Ideal S1024x256 .bf16) (vp : Vec Ideal S1024x128 .bf16) :
    k1_pay67 k1_pay45 (k1_pay64 q) (k1_pay65 k1_pay44 q kd) (k1_pay66 k1_pay44 q kd) kp vd vp (ix3 0 r d) = tile q kd vd r d kp vp := by
  unfold tile Soft.later
  rw [← Soft.minus_inf]
  pointwise [k1_pay67, k1_pay66, k1_pay65, k1_pay64, own]

theorem tile5 (kp : Vec Ideal S1280x256 .bf16) (vp : Vec Ideal S1280x128 .bf16) :
    k1_pay70 k1_pay44 k1_pay45 (k1_pay68 q) (k1_pay69 q kd) (Named.named κ "mask" 0xF149F2CA#32) kp vd vp (ix3 0 r d) = tile q kd vd r d kp vp := by
  unfold tile Soft.later
  rw [← Soft.minus_inf]
  pointwise [k1_pay70, k1_pay69, k1_pay68, own]

theorem tile6 (kp : Vec Ideal S1536x256 .bf16) (vp : Vec Ideal S1536x128 .bf16) :
    k1_pay72 k1_pay44 k1_pay45 (k1_pay71 q) kd kp vd vp (ix3 0 r d) = tile q kd vd r d kp vp := by
  unfold tile Soft.later
  rw [← Soft.minus_inf]
  pointwise [k1_pay72, k1_pay71, own]

theorem tile7 (kp : Vec Ideal S1792x256 .bf16) (vp : Vec Ideal S1792x128 .bf16) :
    k1_pay73 k1_pay44 k1_pay45 q kd kp vd vp (ix3 0 r d) = tile q kd vd r d kp vp := by
  unfold tile Soft.later
  rw [← Soft.minus_inf]
  pointwise [k1_pay73, own]

end tiles

/-- The rows a later tile stores, from the scores of its row pairs. -/
theorem tile_eq {lo : ℕ} (q : Vec Ideal S1x512x256 .bf16) (kd : Vec Ideal S256x256 .bf16) (vd : Vec Ideal S256x128 .bf16)
    (kp : Vec Ideal ⟨2, ![lo, 256]⟩ .bf16) (vp : Vec Ideal ⟨2, ![lo, 128]⟩ .bf16) (r : Fin 256) (d : Fin 128)
    (σ : Fin 2 → ℕ → ℝ) (w : ℕ → EReal)
    (hd : ∀ (h : Fin 2) (c : Fin 256), ∑ x, q (ix3 0 ⟨256 * h.val + r.val, by omega⟩ x) * kd (ix2 c x) = ((σ h (lo + c.val) : ℝ) : EReal))
    (hp : ∀ (h : Fin 2) (c : Fin lo), ∑ x, q (ix3 0 ⟨256 * h.val + r.val, by omega⟩ x) * kp (ix2 c x) = ((σ h c.val : ℝ) : EReal))
    (hvd : ∀ c : Fin 256, vd (ix2 c d) = w (lo + c.val)) (hvp : ∀ c : Fin lo, vp (ix2 c d) = w c.val) :
    tile q kd vd r d kp vp = Soft.row (σ ⟨d.val / 64, by omega⟩) w (lo + r.val) := by
  unfold tile own
  rw [halves, Soft.select_if]
  simp only [mask, causal, Soft.select_if]
  split
  · rename_i h
    rw [show (⟨d.val / 64, by omega⟩ : Fin 2) = 0 from Fin.ext (show d.val / 64 = 0 by omega)]
    refine Soft.later_eq _ _ _ _ _ _ r (fun c => ?_) (fun c => ?_) hvd hvp
    · rw [← hd 0 c]
      refine if_congr (by rw [Nat.mod_eq_of_lt r.isLt]) ?_ rfl
      exact Finset.sum_congr rfl fun x _ => by congr 3; exact Fin.ext (by simp)
    · rw [← hp 0 c]
      exact Finset.sum_congr rfl fun x _ => by congr 3; exact Fin.ext (by simp)
  · rename_i h
    rw [show (⟨d.val / 64, by omega⟩ : Fin 2) = 1 from Fin.ext (show d.val / 64 = 1 by omega)]
    refine Soft.later_eq _ _ _ _ _ _ r (fun c => ?_) (fun c => ?_) hvd hvp
    · rw [← hd 1 c]
      exact if_congr (by rw [Nat.add_mod_left, Nat.mod_eq_of_lt r.isLt]) rfl rfl
    · rw [← hp 1 c]
      rfl

theorem start_eq (q : Vec Ideal S1x512x256 .bf16) (kd : Vec Ideal S256x256 .bf16) (vd : Vec Ideal S256x128 .bf16)
    (r : Fin 256) (d : Fin 128) (σ : Fin 2 → ℕ → ℝ) (w : ℕ → EReal)
    (hd : ∀ (h : Fin 2) (c : Fin 256), ∑ x, q (ix3 0 ⟨256 * h.val + r.val, by omega⟩ x) * kd (ix2 c x) = ((σ h (0 + c.val) : ℝ) : EReal))
    (hvd : ∀ c : Fin 256, vd (ix2 c d) = w (0 + c.val)) :
    start q kd vd r d = Soft.row (σ ⟨d.val / 64, by omega⟩) w (0 + r.val) := by
  simp only [zero_add] at hd hvd ⊢
  unfold start own
  rw [halves, Soft.select_if]
  simp only [mask, causal, Soft.select_if]
  split
  · rename_i h
    rw [show (⟨d.val / 64, by omega⟩ : Fin 2) = 0 from Fin.ext (show d.val / 64 = 0 by omega)]
    refine Soft.first_eq _ _ _ _ r (fun c => ?_) hvd
    rw [← hd 0 c]
    refine if_congr (by rw [Nat.mod_eq_of_lt r.isLt]) ?_ rfl
    exact Finset.sum_congr rfl fun x _ => by congr 3; exact Fin.ext (by simp)
  · rename_i h
    rw [show (⟨d.val / 64, by omega⟩ : Fin 2) = 1 from Fin.ext (show d.val / 64 = 1 by omega)]
    refine Soft.first_eq _ _ _ _ r (fun c => ?_) hvd
    rw [← hd 1 c]
    exact if_congr (by rw [Nat.add_mod_left, Nat.mod_eq_of_lt r.isLt]) rfl rfl

end Cert.FoxIdeal.Tile
end
end
-- ==== Proof.FoxRows.lean ====
/- What the attention's scratch buffers hold, and the score that a row of the first and a row of the second make: a head's
   64 query columns against its key columns, less the head's running sum of gates, which the preparation put beside the
   keys in lanes 0 and 3. -/
module

public import proofs.«01_k».proof.Proof.Gen.FoxIdeal.Frame
public import proofs.«01_k».proof.Proof.FoxRefRead
public import Idealize.ShloMosaic.Lib.Pipeline.ValueKit
public import Idealize.ShloMosaic.Lib.Pointwise

@[expose] public section

set_option maxRecDepth 16384

noncomputable section

namespace Cert.FoxIdeal.Rows

open Cert.FoxIdeal Cert.FoxIdeal.Gen Idealize.ShloMosaic Idealize.ShloMosaic.TcCoe Idealize.SL.Sem

theorem low (s : Fin 2048) (l : Fin 128) : k1_pay1 (ix2 s l) = if l.val < 64 then 1#1 else 0#1 := by
  pointwise [k1_pay1]
  revert l
  decide +kernel

/-- The query rows kept for a head: its own 64 columns times an eighth. -/
theorem kept0 (q : Vec Ideal S1x2048x128 .f32) (s : Fin 2048) (l : Fin 128) :
    k1_pay3 q (ix2 s l) = if l.val < 64 then q (ix3 0 s l) * ((1 / 8 : ℝ) : EReal) else 0 := by
  pointwise [k1_pay3, k1_pay2]
  rw [low, Soft.select_if, Soft.eighth]

theorem kept1 (q : Vec Ideal S1x2048x128 .f32) (s : Fin 2048) (l : Fin 128) :
    k1_pay4 q (ix2 s l) = if l.val < 64 then 0 else q (ix3 0 s l) * ((1 / 8 : ℝ) : EReal) := by
  pointwise [k1_pay4, k1_pay2]
  rw [low, Soft.select_if, Soft.eighth]

/-- The lanes that add the gates' sum: 0 to 2 for the first head, 3 to 5 for the second. -/
theorem gate0 (r : Fin 256) (l : Fin 128) : k1_pay5 (F := Ideal) (ix2 r l) = if l.val < 3 then 1 else 0 := by
  have e : (IntOp.cmpi .slt (BitVec.ofNat 32 l.val) 3#32 : BitVec 1) = if l.val < 3 then 1#1 else 0#1 := by
    revert l
    decide +kernel
  pointwise [k1_pay5]
  rw [e, Soft.select_if]

theorem gate1 (r : Fin 256) (l : Fin 128) :
    k1_pay6 (F := Ideal) (ix2 r l) = if 3 ≤ l.val ∧ l.val < 6 then 1 else 0 := by
  have e : IntOp.andi (IntOp.cmpi .sge (BitVec.ofNat 32 l.val) 3#32) (IntOp.cmpi .slt (BitVec.ofNat 32 l.val) 6#32)
      = if 3 ≤ l.val ∧ l.val < 6 then 1#1 else 0#1 := by
    revert l
    decide +kernel
  pointwise [k1_pay6]
  rw [e, Soft.select_if]

/-- The first scratch buffer, by tile, head, half (query columns or gate lanes), row and lane. -/
def queries (q : Vec Ideal S1x2048x128 .f32) (i : Fin 8) (h p : Fin 2) (r : Fin 256) (l : Fin 128) : EReal :=
  if p = 0 then (if h = 0 then k1_pay3 q (ix2 ⟨256 * i.val + r.val, by omega⟩ l) else k1_pay4 q (ix2 ⟨256 * i.val + r.val, by omega⟩ l))
  else (if h = 0 then k1_pay5 (F := Ideal) (ix2 r l) else k1_pay6 (F := Ideal) (ix2 r l))

/-- The first scratch buffer by its own coordinates. -/
def stacked (q : Vec Ideal S1x2048x128 .f32) : S8x512x256.Idx → Elt Ideal .bf16 := fun y =>
  queries q ⟨(y 0).val, (y 0).isLt⟩ ⟨(y 1).val / 256, by have h : (y 1).val < 512 := (y 1).isLt; omega⟩
    ⟨(y 2).val / 128, by have h : (y 2).val < 256 := (y 2).isLt; omega⟩ ⟨(y 1).val % 256, by omega⟩
    ⟨(y 2).val % 128, by omega⟩

theorem qpiece (q : Vec Ideal S1x2048x128 .f32) (i : Fin 8) (h p : Fin 2)
    (inb : ∀ a, ![i.val, 256 * h.val, 128 * p.val] a + S1x256x128.size a ≤ S8x512x256.size a) (P : Vec Ideal S1x256x128 .bf16)
    (hP : ∀ r l, P (ix3 0 r l) = queries q i h p r l) (x : S1x256x128.Idx) :
    P x = stacked q ((Rect.unit (s := S8x512x256) ![i.val, 256 * h.val, 128 * p.val] S1x256x128.size inb).emb x) := by
  have h0 : (x 0).val = 0 := Nat.lt_one_iff.mp (x 0).isLt
  have h1 : (x 1).val < 256 := (x 1).isLt
  have h2 : (x 2).val < 128 := (x 2).isLt
  have e : x = ix3 0 (x 1) (x 2) := by
    funext a
    match a with
    | ⟨0, _⟩ => exact Fin.ext h0
    | ⟨1, _⟩ => rfl
    | ⟨2, _⟩ => rfl
  rw [show P x = P (ix3 0 (x 1) (x 2)) from congrArg P e, hP (x 1) (x 2)]
  unfold stacked
  congr 1
  · exact Fin.ext (show i.val = i.val + 1 * (x 0).val by omega)
  · exact Fin.ext (show h.val = (256 * h.val + 1 * (x 1).val) / 256 by omega)
  · exact Fin.ext (show p.val = (128 * p.val + 1 * (x 2).val) / 128 by omega)
  · exact Fin.ext (show (x 1).val = (256 * h.val + 1 * (x 1).val) % 256 by omega)
  · exact Fin.ext (show (x 2).val = (128 * p.val + 1 * (x 2).val) % 128 by omega)

/-- The second scratch buffer: the keys, and beside them the prepared gates. -/
def keys (k : Vec Ideal S1x1x2048x128 .f32) (x : Vec Ideal S1x1x2048x128 .bf16) (s : Fin 2048) (j : Fin 256) : EReal :=
  if h : j.val < 128 then k (ix4 0 0 s ⟨j.val, h⟩) else x (ix4 0 0 s ⟨j.val - 128, by omega⟩)

theorem half (h : Fin 2) (f : Fin 128 → ℝ) :
    ∑ l : Fin 128, (if l.val / 64 = h.val then f l else 0) = ∑ d : Fin 64, f ⟨64 * h.val + d.val, by omega⟩ := by
  refine (Fin.sum_univ_add (a := 64) (b := 64) (fun l : Fin (64 + 64) => if l.val / 64 = h.val then f l else 0)).trans ?_
  match h with
  | 0 =>
    refine (congrArg₂ (· + ·) (Finset.sum_congr rfl fun d _ => if_pos ?_) (Finset.sum_eq_zero fun d _ => if_neg ?_)).trans
      ((add_zero _).trans (Finset.sum_congr rfl fun d _ => congrArg f (Fin.ext ?_)))
    · show d.val / 64 = 0; omega
    · show ¬ (64 + d.val) / 64 = 0; omega
    · show d.val = 64 * 0 + d.val; omega
  | 1 =>
    refine (congrArg₂ (· + ·) (Finset.sum_eq_zero fun d _ => if_neg ?_) (Finset.sum_congr rfl fun d _ => if_pos ?_)).trans
      ((zero_add _).trans (Finset.sum_congr rfl fun d _ => congrArg f (Fin.ext ?_)))
    · show ¬ d.val / 64 = 1; omega
    · show (64 + d.val) / 64 = 1; omega
    · show 64 + d.val = 64 * 1 + d.val; omega

/-- The score of a pair of positions for one of a pair's two heads. -/
def pairScore (Q : Fin 2048 → Fin 128 → ℝ) (K : Fin 2048 → Fin 128 → ℝ) (U : Fin 2 → Fin 2048 → ℝ) (h : Fin 2)
    (t s : Fin 2048) : ℝ :=
  (∑ d : Fin 64, Q t ⟨64 * h.val + d.val, by omega⟩ * K s ⟨64 * h.val + d.val, by omega⟩) * (1 / 8) - U h s

theorem dot (q : Vec Ideal S1x2048x128 .f32) (k : Vec Ideal S1x1x2048x128 .f32) (x : Vec Ideal S1x1x2048x128 .bf16)
    (Q : Fin 2048 → Fin 128 → ℝ) (K : Fin 2048 → Fin 128 → ℝ) (U : Fin 2 → Fin 2048 → ℝ)
    (hq : ∀ s l, q (ix3 0 s l) = ((Q s l : ℝ) : EReal)) (hk : ∀ s l, k (ix4 0 0 s l) = ((K s l : ℝ) : EReal))
    (hx : ∀ s l, x (ix4 0 0 s l)
      = if l.val = 0 then ((-U 0 s : ℝ) : EReal) else if l.val = 3 then ((-U 1 s : ℝ) : EReal) else 0)
    (i : Fin 8) (h : Fin 2) (r : Fin 256) (s : Fin 2048) :
    ∑ j : Fin 256, queries q i h ⟨j.val / 128, by omega⟩ r ⟨j.val % 128, by omega⟩ * keys k x s j
      = ((pairScore Q K U h ⟨256 * i.val + r.val, by omega⟩ s : ℝ) : EReal) := by
  have key : ∀ l : Fin 128, queries q i h 0 r l * k (ix4 0 0 s l)
      = ((if l.val / 64 = h.val then Q ⟨256 * i.val + r.val, by omega⟩ l * K s l * (1 / 8) else 0 : ℝ) : EReal) := by
    intro l
    unfold queries
    rw [if_pos rfl, hk]
    match h with
    | 0 =>
      rw [if_pos rfl, kept0, hq]
      by_cases hl : l.val < 64
      · rw [if_pos hl, if_pos (show l.val / 64 = (0 : Fin 2).val from (show l.val / 64 = 0 by omega)), ← EReal.coe_mul, ← EReal.coe_mul]
        exact congrArg _ (by ring)
      · rw [if_neg hl, if_neg (show ¬ l.val / 64 = (0 : Fin 2).val from (show ¬ l.val / 64 = 0 by omega)), zero_mul, EReal.coe_zero]
    | 1 =>
      rw [if_neg (by decide), kept1, hq]
      by_cases hl : l.val < 64
      · rw [if_pos hl, if_neg (show ¬ l.val / 64 = (1 : Fin 2).val from (show ¬ l.val / 64 = 1 by omega)), zero_mul, EReal.coe_zero]
      · rw [if_neg hl, if_pos (show l.val / 64 = (1 : Fin 2).val from (show l.val / 64 = 1 by omega)), ← EReal.coe_mul, ← EReal.coe_mul]
        exact congrArg _ (by ring)
  have lane : ∑ l : Fin 128, queries q i h 1 r l * x (ix4 0 0 s l) = ((-U h s : ℝ) : EReal) := by
    unfold queries
    simp only [show ¬ (1 : Fin 2) = 0 by decide, if_false, hx]
    match h with
    | 0 =>
      simp only [if_true, gate0]
      refine (Finset.sum_eq_single (0 : Fin 128) (fun l _ hl => ?_) (by simp)).trans (by simp)
      have : l.val ≠ 0 := fun e => hl (Fin.ext e)
      rw [if_neg this]
      by_cases h3 : l.val = 3
      · rw [if_neg (by omega), zero_mul]
      · rw [if_neg h3, mul_zero]
    | 1 =>
      simp only [show ¬ (1 : Fin 2) = 0 by decide, if_false, gate1]
      refine (Finset.sum_eq_single (3 : Fin 128) (fun l _ hl => ?_) (by simp)).trans (by simp)
      have : l.val ≠ 3 := fun e => hl (Fin.ext e)
      rw [if_neg this]
      by_cases h0 : l.val = 0
      · rw [if_neg (by omega), zero_mul]
      · rw [if_neg h0, mul_zero]
  refine (Fin.sum_univ_add (a := 128) (b := 128) (fun j : Fin (128 + 128) =>
    queries q i h ⟨j.val / 128, by omega⟩ r ⟨j.val % 128, by omega⟩ * keys k x s j)).trans ?_
  refine (congrArg₂ (· + ·) (Finset.sum_congr rfl fun l _ => ?_) (Finset.sum_congr rfl fun l _ => ?_)).trans
    ((congrArg₂ (· + ·) (Finset.sum_congr rfl fun l _ => key l) lane).trans ?_)
  · unfold keys
    rw [dif_pos (show (Fin.castAdd 128 l).val < 128 from l.isLt)]
    congr 2
    · exact Fin.ext (show l.val / 128 = 0 by omega)
    · exact Fin.ext (show l.val % 128 = l.val by omega)
  · unfold keys
    rw [dif_neg (show ¬ (Fin.natAdd 128 l).val < 128 from fun h => absurd (show 128 + l.val < 128 from h) (by omega))]
    congr 2
    · exact Fin.ext (show (128 + l.val) / 128 = 1 by omega)
    · exact Fin.ext (show (128 + l.val) % 128 = l.val by omega)
    · exact congrArg _ (Fin.ext (show 128 + l.val - 128 = l.val by omega))
  · rw [← Soft.coe_sum, ← EReal.coe_add, half, ← Finset.sum_mul, ← sub_eq_add_neg]
    rfl

end Cert.FoxIdeal.Rows
end
end
-- ==== Proof.FoxPoint.lean ====
/- What the attention body stores at a grid point: for each head of the pair and each row, the softmax over the positions
   up to it of the pair's scores, weighting the values. The scratch buffers are read back from the body's stores. -/
module

public import proofs.«01_k».proof.Proof.Gen.FoxIdeal.Frame
public import proofs.«01_k».proof.Proof.FoxTile
public import proofs.«01_k».proof.Proof.FoxRows
public import Idealize.ShloMosaic.Lib.Pipeline.ValueKit
public import Idealize.ShloMosaic.Lib.Pointwise
public import Idealize.ShloMosaic.Lib.Pipeline.ReadBack

@[expose] public section

set_option maxRecDepth 16384

noncomputable section

namespace Cert.FoxIdeal.Point

open Cert.FoxIdeal Cert.FoxIdeal.Gen Idealize.ShloMosaic Idealize.ShloMosaic.TcCoe Idealize.SL.Sem
open Cert.FoxIdeal.Rows Cert.FoxIdeal.Tile

/-- The stores into the first scratch buffer, last first. -/
abbrev queryStores (q : Vec Ideal S1x2048x128 .f32) : List (View.Piece (Elt Ideal) S8x512x256 .bf16) :=
  [⟨Rect.unit (s := S8x512x256) ![7, 256, 128] S1x256x128.size inb_S8x512x256_S1x256x128_7_256_128, k1_pay43 (F := Ideal) k1_pay6⟩,
    ⟨Rect.unit (s := S8x512x256) ![7, 256, 0] S1x256x128.size inb_S8x512x256_S1x256x128_7_256_0, k1_pay42 (k1_pay4 q)⟩,
    ⟨Rect.unit (s := S8x512x256) ![7, 0, 128] S1x256x128.size inb_S8x512x256_S1x256x128_7_0_128, k1_pay41 (F := Ideal) k1_pay5⟩,
    ⟨Rect.unit (s := S8x512x256) ![7, 0, 0] S1x256x128.size inb_S8x512x256_S1x256x128_7_0_0, k1_pay40 (k1_pay3 q)⟩,
    ⟨Rect.unit (s := S8x512x256) ![6, 256, 128] S1x256x128.size inb_S8x512x256_S1x256x128_6_256_128, k1_pay39 (F := Ideal) k1_pay6⟩,
    ⟨Rect.unit (s := S8x512x256) ![6, 256, 0] S1x256x128.size inb_S8x512x256_S1x256x128_6_256_0, k1_pay38 (k1_pay4 q)⟩,
    ⟨Rect.unit (s := S8x512x256) ![6, 0, 128] S1x256x128.size inb_S8x512x256_S1x256x128_6_0_128, k1_pay37 (F := Ideal) k1_pay5⟩,
    ⟨Rect.unit (s := S8x512x256) ![6, 0, 0] S1x256x128.size inb_S8x512x256_S1x256x128_6_0_0, k1_pay36 (k1_pay3 q)⟩,
    ⟨Rect.unit (s := S8x512x256) ![5, 256, 128] S1x256x128.size inb_S8x512x256_S1x256x128_5_256_128, k1_pay35 (F := Ideal) k1_pay6⟩,
    ⟨Rect.unit (s := S8x512x256) ![5, 256, 0] S1x256x128.size inb_S8x512x256_S1x256x128_5_256_0, k1_pay34 (k1_pay4 q)⟩,
    ⟨Rect.unit (s := S8x512x256) ![5, 0, 128] S1x256x128.size inb_S8x512x256_S1x256x128_5_0_128, k1_pay33 (F := Ideal) k1_pay5⟩,
    ⟨Rect.unit (s := S8x512x256) ![5, 0, 0] S1x256x128.size inb_S8x512x256_S1x256x128_5_0_0, k1_pay32 (k1_pay3 q)⟩,
    ⟨Rect.unit (s := S8x512x256) ![4, 256, 128] S1x256x128.size inb_S8x512x256_S1x256x128_4_256_128, k1_pay31 (F := Ideal) k1_pay6⟩,
    ⟨Rect.unit (s := S8x512x256) ![4, 256, 0] S1x256x128.size inb_S8x512x256_S1x256x128_4_256_0, k1_pay30 (k1_pay4 q)⟩,
    ⟨Rect.unit (s := S8x512x256) ![4, 0, 128] S1x256x128.size inb_S8x512x256_S1x256x128_4_0_128, k1_pay29 (F := Ideal) k1_pay5⟩,
    ⟨Rect.unit (s := S8x512x256) ![4, 0, 0] S1x256x128.size inb_S8x512x256_S1x256x128_4_0_0, k1_pay28 (k1_pay3 q)⟩,
    ⟨Rect.unit (s := S8x512x256) ![3, 256, 128] S1x256x128.size inb_S8x512x256_S1x256x128_3_256_128, k1_pay27 (F := Ideal) k1_pay6⟩,
    ⟨Rect.unit (s := S8x512x256) ![3, 256, 0] S1x256x128.size inb_S8x512x256_S1x256x128_3_256_0, k1_pay26 (k1_pay4 q)⟩,
    ⟨Rect.unit (s := S8x512x256) ![3, 0, 128] S1x256x128.size inb_S8x512x256_S1x256x128_3_0_128, k1_pay25 (F := Ideal) k1_pay5⟩,
    ⟨Rect.unit (s := S8x512x256) ![3, 0, 0] S1x256x128.size inb_S8x512x256_S1x256x128_3_0_0, k1_pay24 (k1_pay3 q)⟩,
    ⟨Rect.unit (s := S8x512x256) ![2, 256, 128] S1x256x128.size inb_S8x512x256_S1x256x128_2_256_128, k1_pay23 (F := Ideal) k1_pay6⟩,
    ⟨Rect.unit (s := S8x512x256) ![2, 256, 0] S1x256x128.size inb_S8x512x256_S1x256x128_2_256_0, k1_pay22 (k1_pay4 q)⟩,
    ⟨Rect.unit (s := S8x512x256) ![2, 0, 128] S1x256x128.size inb_S8x512x256_S1x256x128_2_0_128, k1_pay21 (F := Ideal) k1_pay5⟩,
    ⟨Rect.unit (s := S8x512x256) ![2, 0, 0] S1x256x128.size inb_S8x512x256_S1x256x128_2_0_0, k1_pay20 (k1_pay3 q)⟩,
    ⟨Rect.unit (s := S8x512x256) ![1, 256, 128] S1x256x128.size inb_S8x512x256_S1x256x128_1_256_128, k1_pay19 (F := Ideal) k1_pay6⟩,
    ⟨Rect.unit (s := S8x512x256) ![1, 256, 0] S1x256x128.size inb_S8x512x256_S1x256x128_1_256_0, k1_pay18 (k1_pay4 q)⟩,
    ⟨Rect.unit (s := S8x512x256) ![1, 0, 128] S1x256x128.size inb_S8x512x256_S1x256x128_1_0_128, k1_pay17 (F := Ideal) k1_pay5⟩,
    ⟨Rect.unit (s := S8x512x256) ![1, 0, 0] S1x256x128.size inb_S8x512x256_S1x256x128_1_0_0, k1_pay16 (k1_pay3 q)⟩,
    ⟨Rect.unit (s := S8x512x256) ![0, 256, 128] S1x256x128.size inb_S8x512x256_S1x256x128_0_256_128, k1_pay15 (F := Ideal) k1_pay6⟩,
    ⟨Rect.unit (s := S8x512x256) ![0, 256, 0] S1x256x128.size inb_S8x512x256_S1x256x128_0_256_0, k1_pay14 (k1_pay4 q)⟩,
    ⟨Rect.unit (s := S8x512x256) ![0, 0, 128] S1x256x128.size inb_S8x512x256_S1x256x128_0_0_128, k1_pay13 (F := Ideal) k1_pay5⟩,
    ⟨Rect.unit (s := S8x512x256) ![0, 0, 0] S1x256x128.size inb_S8x512x256_S1x256x128_0_0_0, k1_pay12 (k1_pay3 q)⟩]

theorem queries_at (q : Vec Ideal S1x2048x128 .f32) (y) :
    View.canon (queryStores q) y = stacked q y := by
  refine View.canon_apply_of_pieces (stacked q) (queryStores q) ?_ y
    (View.cover_of_tiled (queryStores q) S1x256x128.size (by sl_kernel_rfl) y)
  refine View.PiecesOf.mem ⟨qpiece q 7 1 1 inb_S8x512x256_S1x256x128_7_256_128 _ fun r l => by pointwise [k1_pay43, queries],
    qpiece q 7 1 0 inb_S8x512x256_S1x256x128_7_256_0 _ fun r l => by pointwise [k1_pay42, queries],
    qpiece q 7 0 1 inb_S8x512x256_S1x256x128_7_0_128 _ fun r l => by pointwise [k1_pay41, queries],
    qpiece q 7 0 0 inb_S8x512x256_S1x256x128_7_0_0 _ fun r l => by pointwise [k1_pay40, queries],
    qpiece q 6 1 1 inb_S8x512x256_S1x256x128_6_256_128 _ fun r l => by pointwise [k1_pay39, queries],
    qpiece q 6 1 0 inb_S8x512x256_S1x256x128_6_256_0 _ fun r l => by pointwise [k1_pay38, queries],
    qpiece q 6 0 1 inb_S8x512x256_S1x256x128_6_0_128 _ fun r l => by pointwise [k1_pay37, queries],
    qpiece q 6 0 0 inb_S8x512x256_S1x256x128_6_0_0 _ fun r l => by pointwise [k1_pay36, queries],
    qpiece q 5 1 1 inb_S8x512x256_S1x256x128_5_256_128 _ fun r l => by pointwise [k1_pay35, queries],
    qpiece q 5 1 0 inb_S8x512x256_S1x256x128_5_256_0 _ fun r l => by pointwise [k1_pay34, queries],
    qpiece q 5 0 1 inb_S8x512x256_S1x256x128_5_0_128 _ fun r l => by pointwise [k1_pay33, queries],
    qpiece q 5 0 0 inb_S8x512x256_S1x256x128_5_0_0 _ fun r l => by pointwise [k1_pay32, queries],
    qpiece q 4 1 1 inb_S8x512x256_S1x256x128_4_256_128 _ fun r l => by pointwise [k1_pay31, queries],
    qpiece q 4 1 0 inb_S8x512x256_S1x256x128_4_256_0 _ fun r l => by pointwise [k1_pay30, queries],
    qpiece q 4 0 1 inb_S8x512x256_S1x256x128_4_0_128 _ fun r l => by pointwise [k1_pay29, queries],
    qpiece q 4 0 0 inb_S8x512x256_S1x256x128_4_0_0 _ fun r l => by pointwise [k1_pay28, queries],
    qpiece q 3 1 1 inb_S8x512x256_S1x256x128_3_256_128 _ fun r l => by pointwise [k1_pay27, queries],
    qpiece q 3 1 0 inb_S8x512x256_S1x256x128_3_256_0 _ fun r l => by pointwise [k1_pay26, queries],
    qpiece q 3 0 1 inb_S8x512x256_S1x256x128_3_0_128 _ fun r l => by pointwise [k1_pay25, queries],
    qpiece q 3 0 0 inb_S8x512x256_S1x256x128_3_0_0 _ fun r l => by pointwise [k1_pay24, queries],
    qpiece q 2 1 1 inb_S8x512x256_S1x256x128_2_256_128 _ fun r l => by pointwise [k1_pay23, queries],
    qpiece q 2 1 0 inb_S8x512x256_S1x256x128_2_256_0 _ fun r l => by pointwise [k1_pay22, queries],
    qpiece q 2 0 1 inb_S8x512x256_S1x256x128_2_0_128 _ fun r l => by pointwise [k1_pay21, queries],
    qpiece q 2 0 0 inb_S8x512x256_S1x256x128_2_0_0 _ fun r l => by pointwise [k1_pay20, queries],
    qpiece q 1 1 1 inb_S8x512x256_S1x256x128_1_256_128 _ fun r l => by pointwise [k1_pay19, queries],
    qpiece q 1 1 0 inb_S8x512x256_S1x256x128_1_256_0 _ fun r l => by pointwise [k1_pay18, queries],
    qpiece q 1 0 1 inb_S8x512x256_S1x256x128_1_0_128 _ fun r l => by pointwise [k1_pay17, queries],
    qpiece q 1 0 0 inb_S8x512x256_S1x256x128_1_0_0 _ fun r l => by pointwise [k1_pay16, queries],
    qpiece q 0 1 1 inb_S8x512x256_S1x256x128_0_256_128 _ fun r l => by pointwise [k1_pay15, queries],
    qpiece q 0 1 0 inb_S8x512x256_S1x256x128_0_256_0 _ fun r l => by pointwise [k1_pay14, queries],
    qpiece q 0 0 1 inb_S8x512x256_S1x256x128_0_0_128 _ fun r l => by pointwise [k1_pay13, queries],
    qpiece q 0 0 0 inb_S8x512x256_S1x256x128_0_0_0 _ fun r l => by pointwise [k1_pay12, queries], trivial⟩

/-- The stores into the second scratch buffer, last first. -/
abbrev keyStores (k : Vec Ideal S1x1x2048x128 .f32) (x : Vec Ideal S1x1x2048x128 .bf16) :
    List (View.Piece (Elt Ideal) S2048x256 .bf16) :=
  [⟨Rect.unit (s := S2048x256) ![0, 128] S2048x128.size inb_S2048x256_S2048x128_0_128, k1_pay10 (k1_pay7 x)⟩,
    ⟨Rect.unit (s := S2048x256) ![0, 0] S2048x128.size inb_S2048x256_S2048x128_0_0, k1_pay9 (k1_pay8 k)⟩]

/-- The second scratch buffer by its own coordinates. -/
def sided (k : Vec Ideal S1x1x2048x128 .f32) (x : Vec Ideal S1x1x2048x128 .bf16) : S2048x256.Idx → Elt Ideal .bf16 :=
  fun y => keys k x ⟨(y 0).val, (y 0).isLt⟩ ⟨(y 1).val, (y 1).isLt⟩

theorem kpiece (k : Vec Ideal S1x1x2048x128 .f32) (x : Vec Ideal S1x1x2048x128 .bf16) (p : Fin 2)
    (inb : ∀ a, ![0, 128 * p.val] a + S2048x128.size a ≤ S2048x256.size a) (P : Vec Ideal S2048x128 .bf16)
    (hP : ∀ s l, P (ix2 s l) = keys k x s ⟨128 * p.val + l.val, by omega⟩) (z : S2048x128.Idx) :
    P z = sided k x ((Rect.unit (s := S2048x256) ![0, 128 * p.val] S2048x128.size inb).emb z) := by
  have e : z = ix2 (z 0) (z 1) := by
    funext a
    match a with
    | ⟨0, _⟩ => rfl
    | ⟨1, _⟩ => rfl
  rw [show P z = P (ix2 (z 0) (z 1)) from congrArg P e, hP (z 0) (z 1)]
  unfold sided
  congr 1
  · exact Fin.ext (show (z 0).val = 0 + 1 * (z 0).val by omega)
  · exact Fin.ext (show 128 * p.val + (z 1).val = 128 * p.val + 1 * (z 1).val by omega)

theorem keys_at (k : Vec Ideal S1x1x2048x128 .f32) (x : Vec Ideal S1x1x2048x128 .bf16) (y) :
    View.canon (keyStores k x) y = sided k x y := by
  refine View.canon_apply_of_pieces (sided k x) (keyStores k x) ?_ y
    (View.cover_of_tiled (keyStores k x) S2048x128.size (by sl_kernel_rfl) y)
  refine View.PiecesOf.mem ⟨kpiece k x 1 inb_S2048x256_S2048x128_0_128 _ fun s l => ?_,
    kpiece k x 0 inb_S2048x256_S2048x128_0_0 _ fun s l => ?_, trivial⟩
  · unfold keys
    rw [dif_neg (show ¬ 128 * (1 : Fin 2).val + l.val < 128 from (show ¬ 128 * 1 + l.val < 128 by omega))]
    pointwise [k1_pay10, k1_pay7]
  · unfold keys
    rw [dif_pos (show 128 * (0 : Fin 2).val + l.val < 128 from (show 128 * 0 + l.val < 128 by omega))]
    pointwise [k1_pay9, k1_pay8]

/-- The third scratch buffer: the values. -/
def plain (v : Vec Ideal S1x1x2048x128 .f32) : S2048x128.Idx → Elt Ideal .bf16 :=
  fun y => v (ix4 0 0 ⟨(y 0).val, (y 0).isLt⟩ ⟨(y 1).val, (y 1).isLt⟩)

abbrev valueStores (v : Vec Ideal S1x1x2048x128 .f32) : List (View.Piece (Elt Ideal) S2048x128 .bf16) :=
  [⟨Rect.unit (s := S2048x128) ![0, 0] S2048x128.size inb_S2048x128_S2048x128_0_0, k1_pay11 v⟩]

theorem values_at (v : Vec Ideal S1x1x2048x128 .f32) (y) : View.canon (valueStores v) y = plain v y := by
  refine View.canon_apply_of_pieces (plain v) (valueStores v) ?_ y
    (View.cover_of_tiled (valueStores v) S2048x128.size (by sl_kernel_rfl) y)
  refine View.PiecesOf.mem ⟨fun z => ?_, trivial⟩
  have e : z = ix2 (z 0) (z 1) := by
    funext a
    match a with
    | ⟨0, _⟩ => rfl
    | ⟨1, _⟩ => rfl
  have h : ∀ s l, k1_pay11 v (ix2 s l) = v (ix4 0 0 s l) := fun s l => by pointwise [k1_pay11]
  refine (congrArg (k1_pay11 v) e).trans ((h (z 0) (z 1)).trans ?_)
  unfold plain
  congr 1
  funext a
  match a with
  | ⟨0, _⟩ => rfl
  | ⟨1, _⟩ => rfl
  | ⟨2, _⟩ => exact Fin.ext (show (z 0).val = 0 + 1 * (z 0).val by omega)
  | ⟨3, _⟩ => exact Fin.ext (show (z 1).val = 0 + 1 * (z 1).val by omega)

/-- A row of numbers continued by zero. -/
def along {α : Type} [Zero α] (f : Fin 2048 → α) (n : ℕ) : α := if h : n < 2048 then f ⟨n, h⟩ else 0

section body

variable (q : Vec Ideal S1x2048x128 .f32) (k v : Vec Ideal S1x1x2048x128 .f32) (x : Vec Ideal S1x1x2048x128 .bf16)
  (Q : Fin 2048 → Fin 128 → ℝ) (K : Fin 2048 → Fin 128 → ℝ) (U : Fin 2 → Fin 2048 → ℝ)
  (hq : ∀ s l, q (ix3 0 s l) = ((Q s l : ℝ) : EReal)) (hk : ∀ s l, k (ix4 0 0 s l) = ((K s l : ℝ) : EReal))
  (hx : ∀ s l, x (ix4 0 0 s l)
    = if l.val = 0 then ((-U 0 s : ℝ) : EReal) else if l.val = 3 then ((-U 1 s : ℝ) : EReal) else 0)
  (AA : (B : LoadRect S8x512x256) → B.shape.Idx → Elt Ideal .bf16)
  (BB : (B : LoadRect S2048x256) → B.shape.Idx → Elt Ideal .bf16)
  (CC : (B : LoadRect S2048x128) → B.shape.Idx → Elt Ideal .bf16)
  (hA : ∀ B j, AA B j = stacked q (B.idx j)) (hB : ∀ B j, BB B j = sided k x (B.idx j))
  (hC : ∀ B j, CC B j = plain v (B.idx j))

include hq hk hx hA hB in
/-- The score of a loaded row with a loaded key. -/
theorem score (i : Fin 8) (inbq : ∀ a, ![i.val, 0, 0] a + S1x512x256.size a ≤ S8x512x256.size a) (r : Fin 256) (lo n : ℕ)
    (inbk : ∀ a, ![lo, 0] a + ![n, 256] a ≤ S2048x256.size a) (h : Fin 2) (c : Fin n) :
    ∑ j : Fin 256, (AA (Rect.unit (s := S8x512x256) ![i.val, 0, 0] S1x512x256.size inbq).toLoadRect
        (ix3 (0 : Fin 1) ⟨256 * h.val + r.val, by omega⟩ j) : EReal)
      * (BB (Rect.unit (s := S2048x256) ![lo, 0] ![n, 256] inbk).toLoadRect (ix2 c j) : EReal)
      = ((along (pairScore Q K U h ⟨256 * i.val + r.val, by omega⟩) (lo + c.val) : ℝ) : EReal) := by
  have hlo : lo + n ≤ 2048 := inbk 0
  have hc : lo + c.val < 2048 := by omega
  unfold along
  rw [dif_pos hc, ← dot q k x Q K U hq hk hx i h r]
  refine Finset.sum_congr rfl fun j _ => congrArg₂ (· * ·) ((hA _ _).trans ?_) ((hB _ _).trans ?_)
  · unfold stacked
    congr 1
    · exact Fin.ext (show (0 + 1 * (256 * h.val + r.val)) / 256 = h.val by omega)
    · exact Fin.ext (show (0 + 1 * j.val) / 128 = j.val / 128 by omega)
    · exact Fin.ext (show (0 + 1 * (256 * h.val + r.val)) % 256 = r.val by omega)
    · exact Fin.ext (show (0 + 1 * j.val) % 128 = j.val % 128 by omega)
  · unfold sided
    congr 1
    · exact Fin.ext (show lo + 1 * c.val = lo + c.val by omega)
    · exact Fin.ext (show 0 + 1 * j.val = j.val by omega)

include hC in
theorem value (lo n : ℕ) (inbk : ∀ a, ![lo, 0] a + ![n, 128] a ≤ S2048x128.size a) (c : Fin n) (d : Fin 128) :
    CC (Rect.unit (s := S2048x128) ![lo, 0] ![n, 128] inbk).toLoadRect (ix2 c d)
      = along (fun s => (v (ix4 0 0 s d) : EReal)) (lo + c.val) := by
  have hlo : lo + n ≤ 2048 := inbk 0
  have hc : lo + c.val < 2048 := by omega
  unfold along
  rw [dif_pos hc]
  refine (hC _ _).trans ?_
  unfold plain
  congr 1
  funext a
  match a with
  | ⟨0, _⟩ => rfl
  | ⟨1, _⟩ => rfl
  | ⟨2, _⟩ => exact Fin.ext (show lo + 1 * c.val = lo + c.val by omega)
  | ⟨3, _⟩ => exact Fin.ext (show 0 + 1 * d.val = d.val by omega)

/-- What the body leaves: the weighted values of every row. -/
def rows : S1x2048x128.Idx → Elt Ideal .bf16 := fun y =>
  Soft.row (along (pairScore Q K U ⟨(y 2).val / 64, by have h : (y 2).val < 128 := (y 2).isLt; omega⟩ ⟨(y 1).val, (y 1).isLt⟩))
    (along fun s => (v (ix4 0 0 s ⟨(y 2).val, (y 2).isLt⟩) : EReal)) (y 1).val

theorem opiece (i : Fin 8) (inb : ∀ a, ![0, 256 * i.val, 0] a + S1x256x128.size a ≤ S1x2048x128.size a)
    (P : Vec Ideal S1x256x128 .bf16)
    (hP : ∀ (r : Fin 256) (d : Fin 128), P (ix3 0 r d)
      = Soft.row (along (pairScore Q K U ⟨d.val / 64, by omega⟩ ⟨256 * i.val + r.val, by omega⟩))
        (along fun s => (v (ix4 0 0 s d) : EReal)) (256 * i.val + r.val)) (z : S1x256x128.Idx) :
    P z = rows v Q K U ((Rect.unit (s := S1x2048x128) ![0, 256 * i.val, 0] S1x256x128.size inb).emb z) := by
  have h0 : (z 0).val = 0 := Nat.lt_one_iff.mp (z 0).isLt
  have e : z = ix3 0 (z 1) (z 2) := by
    funext a
    match a with
    | ⟨0, _⟩ => exact Fin.ext h0
    | ⟨1, _⟩ => rfl
    | ⟨2, _⟩ => rfl
  rw [show P z = P (ix3 0 (z 1) (z 2)) from congrArg P e, hP (z 1) (z 2)]
  unfold rows
  have e1 : (((Rect.unit (s := S1x2048x128) ![0, 256 * i.val, 0] S1x256x128.size inb).emb z) 1).val = 256 * i.val + (z 1).val :=
    show 256 * i.val + 1 * (z 1).val = _ by omega
  have e2 : (((Rect.unit (s := S1x2048x128) ![0, 256 * i.val, 0] S1x256x128.size inb).emb z) 2).val = (z 2).val :=
    show 0 + 1 * (z 2).val = _ by omega
  simp only [e1, e2]
  rfl

end body

variable (V : (c : Dev nD) → (b : Ref sig .tc) → Buf (Elt Ideal) ((c : Thread nD τ).loc b))

set_option maxHeartbeats 4000000 in
/-- The body's result at a grid point, from the point's four blocks. -/
theorem point (c : Dev nD) (t : Fin cfg1.N) (Q : Fin 2048 → Fin 128 → ℝ) (K : Fin 2048 → Fin 128 → ℝ)
    (U : Fin 2 → Fin 2048 → ℝ)
    (hq : ∀ s l, (iblk1 V c 0 t : Vec Ideal S1x2048x128 .f32) (ix3 0 s l) = ((Q s l : ℝ) : EReal))
    (hk : ∀ s l, (iblk1 V c 1 t : Vec Ideal S1x1x2048x128 .f32) (ix4 0 0 s l) = ((K s l : ℝ) : EReal))
    (hx : ∀ s l, (iblk1 V c 3 t : Vec Ideal S1x1x2048x128 .bf16) (ix4 0 0 s l)
      = if l.val = 0 then ((-U 0 s : ℝ) : EReal) else if l.val = 3 then ((-U 1 s : ℝ) : EReal) else 0) (y) :
    outsAt1 (F := Ideal) V c t y = rows (iblk1 V c 2 t) Q K U y := by
  unfold outsAt1
  frame_out
  revert hq hk hx
  generalize iblk1 V c 0 t = q
  generalize iblk1 V c 1 t = k
  generalize iblk1 V c 2 t = v
  generalize iblk1 V c 3 t = x
  intro hq hk hx
  generalize hA : View.readCov (Val := Elt Ideal) (View.whole cc1_scratch0) _ = AA
  generalize hB : View.readCov (Val := Elt Ideal) (View.whole cc1_scratch1) _ = BB
  generalize hC : View.readCov (Val := Elt Ideal) (View.whole cc1_scratch2) _ = CC
  have hA' : ∀ (B : LoadRect S8x512x256) j, AA B j = stacked q (B.idx j) := fun B j => by
    rw [← hA]
    exact (congrFun (View.readCov_eq_canon' _ _ _) _).trans (queries_at q _)
  have hB' : ∀ (B : LoadRect S2048x256) j, BB B j = sided k x (B.idx j) := fun B j => by
    rw [← hB]
    exact (congrFun (View.readCov_eq_canon' _ _ _) _).trans (keys_at k x _)
  have hC' : ∀ (B : LoadRect S2048x128) j, CC B j = plain v (B.idx j) := fun B j => by
    rw [← hC]
    exact (congrFun (View.readCov_eq_canon' _ _ _) _).trans (values_at v _)
  clear hA hB hC
  have hv := value v CC hC'
  have own : ∀ (i : Fin 8) inbq inbk (r : Fin 256) (h : Fin 2) (c : Fin 256), _ := fun i inbq inbk r h c =>
    score q k x Q K U hq hk hx AA BB hA' hB' i inbq r (256 * i.val) 256 inbk h c
  have before : ∀ (i : Fin 8) inbq inbk (r : Fin 256) (h : Fin 2) (c : Fin (256 * i.val)), _ := fun i inbq inbk r h c =>
    (score q k x Q K U hq hk hx AA BB hA' hB' i inbq r 0 (256 * i.val) inbk h c).trans (by rw [zero_add])
  have vbefore : ∀ (n : ℕ) inb (c : Fin n) (d : Fin 128), _ := fun n inb c d => (hv 0 n inb c d).trans (by rw [zero_add])
  refine View.canon_apply_of_pieces (rows v Q K U) _ ?_ y (View.cover_of_tiled _ (s := S1x2048x128) S1x256x128.size (by sl_kernel_rfl) y)
  refine View.PiecesOf.mem ⟨opiece v Q K U 7 inb_S1x2048x128_S1x256x128_0_1792_0 _ fun r d => ?_,
    opiece v Q K U 6 inb_S1x2048x128_S1x256x128_0_1536_0 _ fun r d => ?_,
    opiece v Q K U 5 inb_S1x2048x128_S1x256x128_0_1280_0 _ fun r d => ?_,
    opiece v Q K U 4 inb_S1x2048x128_S1x256x128_0_1024_0 _ fun r d => ?_,
    opiece v Q K U 3 inb_S1x2048x128_S1x256x128_0_768_0 _ fun r d => ?_,
    opiece v Q K U 2 inb_S1x2048x128_S1x256x128_0_512_0 _ fun r d => ?_,
    opiece v Q K U 1 inb_S1x2048x128_S1x256x128_0_256_0 _ fun r d => ?_,
    opiece v Q K U 0 inb_S1x2048x128_S1x256x128_0_0_0 _ fun r d => ?_, trivial⟩
  · exact (tile7 _ _ _ r d _ _).trans (tile_eq _ _ _ _ _ r d _ _ (own 7 inb_S8x512x256_S1x512x256_7_0_0 inb_S2048x256_S256x256_1792_0 r)
      (before 7 inb_S8x512x256_S1x512x256_7_0_0 inb_S2048x256_S1792x256_0_0 r) (fun c => hv 1792 256 inb_S2048x128_S256x128_1792_0 c d) fun c => vbefore 1792 inb_S2048x128_S1792x128_0_0 c d)
  · exact (tile6 _ _ _ r d _ _).trans (tile_eq _ _ _ _ _ r d _ _ (own 6 inb_S8x512x256_S1x512x256_6_0_0 inb_S2048x256_S256x256_1536_0 r)
      (before 6 inb_S8x512x256_S1x512x256_6_0_0 inb_S2048x256_S1536x256_0_0 r) (fun c => hv 1536 256 inb_S2048x128_S256x128_1536_0 c d) fun c => vbefore 1536 inb_S2048x128_S1536x128_0_0 c d)
  · exact (tile5 _ _ _ r d _ _).trans (tile_eq _ _ _ _ _ r d _ _ (own 5 inb_S8x512x256_S1x512x256_5_0_0 inb_S2048x256_S256x256_1280_0 r)
      (before 5 inb_S8x512x256_S1x512x256_5_0_0 inb_S2048x256_S1280x256_0_0 r) (fun c => hv 1280 256 inb_S2048x128_S256x128_1280_0 c d) fun c => vbefore 1280 inb_S2048x128_S1280x128_0_0 c d)
  · exact (tile4 _ _ _ r d _ _).trans (tile_eq _ _ _ _ _ r d _ _ (own 4 inb_S8x512x256_S1x512x256_4_0_0 inb_S2048x256_S256x256_1024_0 r)
      (before 4 inb_S8x512x256_S1x512x256_4_0_0 inb_S2048x256_S1024x256_0_0 r) (fun c => hv 1024 256 inb_S2048x128_S256x128_1024_0 c d) fun c => vbefore 1024 inb_S2048x128_S1024x128_0_0 c d)
  · exact (tile3 _ _ _ r d _ _).trans (tile_eq _ _ _ _ _ r d _ _ (own 3 inb_S8x512x256_S1x512x256_3_0_0 inb_S2048x256_S256x256_768_0 r)
      (before 3 inb_S8x512x256_S1x512x256_3_0_0 inb_S2048x256_S768x256_0_0 r) (fun c => hv 768 256 inb_S2048x128_S256x128_768_0 c d) fun c => vbefore 768 inb_S2048x128_S768x128_0_0 c d)
  · exact (tile2 _ _ _ r d _ _).trans (tile_eq _ _ _ _ _ r d _ _ (own 2 inb_S8x512x256_S1x512x256_2_0_0 inb_S2048x256_S256x256_512_0 r)
      (before 2 inb_S8x512x256_S1x512x256_2_0_0 inb_S2048x256_S512x256_0_0 r) (fun c => hv 512 256 inb_S2048x128_S256x128_512_0 c d) fun c => vbefore 512 inb_S2048x128_S512x128_0_0 c d)
  · exact (tile1 _ _ _ r d _ _).trans (tile_eq _ _ _ _ _ r d _ _ (own 1 inb_S8x512x256_S1x512x256_1_0_0 inb_S2048x256_S256x256_256_0 r)
      (before 1 inb_S8x512x256_S1x512x256_1_0_0 inb_S2048x256_S256x256_0_0 r) (fun c => hv 256 256 inb_S2048x128_S256x128_256_0 c d) fun c => vbefore 256 inb_S2048x128_S256x128_0_0 c d)
  · exact (tile0 _ _ _ r d).trans (start_eq _ _ _ r d _ _ (own 0 inb_S8x512x256_S1x512x256_0_0_0 inb_S2048x256_S256x256_0_0 r) fun c => hv 0 256 inb_S2048x128_S256x128_0_0 c d)

end Cert.FoxIdeal.Point
end
end
-- ==== Proof.FoxValue.lean ====
/- The value of the forgetting attention: after the preparation the prepared array holds each head's running sums of gates;
   each grid point of the attention then writes its batch's rows and its pair's columns, and these are the reference's. -/
module

public import proofs.«01_k».proof.Proof.FoxPrep
public import proofs.«01_k».proof.Proof.FoxPoint
public import proofs.«01_k».proof.Proof.FoxFinite
public import proofs.«01_k».proof.Proof.FoxRefRead
public import Idealize.ShloMosaic.Lib.Pipeline.ValueKit
public import Idealize.ShloMosaic.Lib.Pointwise
public import proofs.«01_k».proof.Defs
public import Idealize.ShloMosaic.Lib.Claim

@[expose] public section

set_option maxRecDepth 16384

noncomputable section

namespace Cert.FoxIdeal.Result

open Cert.FoxIdeal Cert.FoxIdeal.Gen Idealize.ShloMosaic Idealize.ShloMosaic.TcCoe Idealize.SL.Sem
open Idealize.ShloMosaic.Pipeline (Dat)
open Cert.FoxRefIdeal.Rows (layer plane)

/-- The block each window of the preparation stages: the batch's gates of layer 3, and the batch's prepared array. -/
theorem idx0 : ∀ t : Fin cfg0.N, win0_0.index t = ![3, t.val, 0, 0] ∧ win0_1.index t = ![t.val, 0, 0, 0] :=
  (by decide +kernel : ∀ t : Fin grid0.N, _)

/-- The block each window of the attention stages: a batch's and a pair's columns. -/
theorem idx1 : ∀ t : Fin cfg1.N, win1_0.index t = ![t.val / 4, 0, t.val % 4] ∧ win1_1.index t = ![3, t.val / 4, 0, t.val % 4]
    ∧ win1_2.index t = ![3, t.val / 4, 0, t.val % 4] ∧ win1_3.index t = ![t.val / 4, t.val % 4, 0, 0]
    ∧ win1_4.index t = ![t.val / 4, 0, t.val % 4] :=
  (by decide +kernel : ∀ t : Fin grid1.N, _)

variable (m : (ℓ : Loc nD τ sig) → Buf (Elt Ideal) ℓ) (ρ : Dev nD → PrngReg)

/-- The arguments, as the reference's readings name them. -/
abbrev queriesOf (c : Dev nD) : Fin 8 → Fin 2048 → Fin 512 → EReal := plane (m ((c : Thread nD τ).loc main_arg0))
abbrev keysOf (c : Dev nD) : Fin 8 → Fin 2048 → Fin 512 → EReal := layer (m ((c : Thread nD τ).loc main_arg1))
abbrev valuesOf (c : Dev nD) : Fin 8 → Fin 2048 → Fin 512 → EReal := layer (m ((c : Thread nD τ).loc main_arg2))
abbrev gatesOf (c : Dev nD) : Fin 8 → Fin 2048 → Fin 8 → EReal := layer (m ((c : Thread nD τ).loc main_arg3))

/-- The array the preparation leaves: in lanes 0 and 3 of a pair the negated running sums of its two heads' gates. -/
def prepared (c : Dev nD) : S8x4x2048x128.Idx → Elt Ideal .bf16 := fun y =>
  if (y 3).val = 0 then
    ((-Soft.upto (gatesOf m c) ⟨(y 0).val, (y 0).isLt⟩ ⟨2 * (y 1).val, by have h : (y 1).val < 4 := (y 1).isLt; omega⟩ ((y 2).val + 1) : ℝ) : EReal)
  else if (y 3).val = 3 then
    ((-Soft.upto (gatesOf m c) ⟨(y 0).val, (y 0).isLt⟩ ⟨2 * (y 1).val + 1, by have h : (y 1).val < 4 := (y 1).isLt; omega⟩ ((y 2).val + 1) : ℝ) : EReal)
  else (0 : EReal)

theorem prep_point (c : Dev nD) (hl : ∀ b s h, ∃ r : ℝ, gatesOf m c b s h = r) (t : Fin cfg0.N) (y) :
    out0_1 (iblk0 (V0 m ρ) c 0 t) y = prepared m c (((cfg0.win 1).blk t).view.emb y) := by
  have ht : t.val < 8 := t.isLt
  idx_vars y
  obtain rfl : y0 = 0 := Fin.ext (by omega)
  rw [show ((cfg0.win 1).blk t).view.emb (ix4 0 y1 y2 y3) = ix4 (⟨t.val, ht⟩ : Fin 8) y1 y2 y3 by blk_ext [idx0 t]]
  refine (Prep.kx (iblk0 (V0 m ρ) c 0 t) (fun h s => Soft.gate (gatesOf m c) ⟨t.val, ht⟩ h s) (fun s h => ?_) y1 y2 y3).trans ?_
  · obtain ⟨r, hr⟩ := hl ⟨t.val, ht⟩ s h
    unfold Soft.gate
    rw [dif_pos s.isLt, hr, EReal.toReal_coe, ← hr]
    blk_point [iblk0, V0, layer, idx0 t]
  · rfl

theorem prep_final (c : Dev nD) (hl : ∀ b s h, ∃ r : ℝ, gatesOf m c b s h = r) :
    (dat0 (V0 m ρ) c).arrAt 1 cfg0.N = prepared m c := by
  refine (dat0 (V0 m ρ) c).arrAt_eq_of_covers 1 _ (by decide +kernel) fun t _ y => ?_
  blk_simp
  rw [after0_1]
  exact prep_point m ρ c hl t y

/-- A row of the softmax reads only the positions up to its own. -/
theorem row_congr (σ σ' : ℕ → ℝ) (v v' : ℕ → EReal) (t : ℕ) (hσ : ∀ s, s ≤ t → σ s = σ' s) (hv : ∀ s, s ≤ t → v s = v' s) :
    Soft.row σ v t = Soft.row σ' v' t := by
  have e : ∀ s ∈ Finset.range (t + 1), s ≤ t := fun s hs => by have := Finset.mem_range.1 hs; omega
  unfold Soft.row
  exact congrArg₂ (· * ·) (Finset.sum_congr rfl fun s hs => by rw [hσ s (e s hs), hv s (e s hs)])
    (congrArg (fun x : ℝ => ((x⁻¹ : ℝ) : EReal)) (Finset.sum_congr rfl fun s hs => by rw [hσ s (e s hs)]))

theorem attn_point (c : Dev nD) (hq : ∀ b s j, ∃ r : ℝ, queriesOf m c b s j = r) (hk : ∀ b s j, ∃ r : ℝ, keysOf m c b s j = r)
    (hl : ∀ b s h, ∃ r : ℝ, gatesOf m c b s h = r) (t : Fin cfg1.N) (y) :
    outsAt1 (F := Ideal) (V1 m ρ) c t y
      = Cert.FoxRefIdeal.Read.val_main_v43 (F := Ideal) (m ((c : Thread nD τ).loc main_arg0)) (m ((c : Thread nD τ).loc main_arg1))
        (m ((c : Thread nD τ).loc main_arg2)) (m ((c : Thread nD τ).loc main_arg3)) (((cfg1.win 4).blk t).view.emb y) := by
  have ht : t.val < 32 := t.isLt
  have e0 : V1 m ρ c (Pipeline.arrRef spec1 0) = m ((c : Thread nD τ).loc main_arg0) := W1_args m ρ c main_arg0 (by decide)
  have e1 : V1 m ρ c (Pipeline.arrRef spec1 1) = m ((c : Thread nD τ).loc main_arg1) := W1_args m ρ c main_arg1 (by decide)
  have e2 : V1 m ρ c (Pipeline.arrRef spec1 2) = m ((c : Thread nD τ).loc main_arg2) := W1_args m ρ c main_arg2 (by decide)
  have e3 : V1 m ρ c (Pipeline.arrRef spec1 3) = prepared m c := (hF0 m ρ c 1).symm.trans (prep_final m ρ c hl)
  rw [Point.point (V1 m ρ) c t
    (fun s l => (queriesOf m c ⟨t.val / 4, by omega⟩ s ⟨t.val % 4 * 128 + l.val, by omega⟩).toReal)
    (fun s l => (keysOf m c ⟨t.val / 4, by omega⟩ s ⟨t.val % 4 * 128 + l.val, by omega⟩).toReal)
    (fun h s => Soft.upto (gatesOf m c) ⟨t.val / 4, by omega⟩ ⟨2 * (t.val % 4) + h.val, by omega⟩ (s.val + 1)) ?_ ?_ ?_]
  · idx_vars y
    obtain rfl : y0 = 0 := Fin.ext (by omega)
    rw [show ((cfg1.win 4).blk t).view.emb (ix3 0 y1 y2)
      = ix3 (⟨t.val / 4, by omega⟩ : Fin 8) y1 (⟨t.val % 4 * 128 + y2.val, by omega⟩ : Fin 512) by blk_ext [idx1 t]]
    rw [Cert.FoxRefIdeal.Rows.result _ _ _ _ hq hk hl]
    refine row_congr _ _ _ _ _ (fun s hs => ?_) fun s hs => ?_
    · have hs2 : s < 2048 := Nat.lt_of_le_of_lt hs y1.isLt
      unfold Point.along
      rw [dif_pos hs2]
      unfold Rows.pairScore Soft.score
      refine congrArg₂ (· - ·) (congrArg (· * ((1 / 8 : ℝ))) (Finset.sum_congr rfl fun d _ => congrArg₂ (· * ·)
        (congrArg EReal.toReal (congrArg (queriesOf m c _ _) (Fin.ext ?_))) ?_)) (congrArg (fun h => Soft.upto _ _ h _) (Fin.ext ?_))
      · show t.val % 4 * 128 + (64 * (y2.val / 64) + d.val) = (t.val % 4 * 128 + y2.val) / 64 * 64 + d.val
        omega
      · rw [dif_pos hs2]
        refine congrArg EReal.toReal (congrArg (keysOf m c _ _) (Fin.ext ?_))
        show t.val % 4 * 128 + (64 * (y2.val / 64) + d.val) = (t.val % 4 * 128 + y2.val) / 64 * 64 + d.val
        omega
      · show 2 * (t.val % 4) + y2.val / 64 = (t.val % 4 * 128 + y2.val) / 64
        omega
    · have hs2 : s < 2048 := Nat.lt_of_le_of_lt hs y1.isLt
      unfold Point.along Soft.column
      rw [dif_pos hs2, dif_pos hs2]
      unfold iblk1
      rw [e2]
      blk_point [layer, idx1 t]
  · intro s l
    obtain ⟨r, hr⟩ := hq ⟨t.val / 4, by omega⟩ s ⟨t.val % 4 * 128 + l.val, by omega⟩
    rw [hr, EReal.toReal_coe, ← hr]
    unfold iblk1
    rw [e0]
    blk_point [plane, idx1 t]
  · intro s l
    obtain ⟨r, hr⟩ := hk ⟨t.val / 4, by omega⟩ s ⟨t.val % 4 * 128 + l.val, by omega⟩
    rw [hr, EReal.toReal_coe, ← hr]
    unfold iblk1
    rw [e1]
    blk_point [layer, idx1 t]
  · intro s l
    unfold iblk1
    rw [e3]
    show prepared m c (((cfg1.win 3).blk t).view.emb (ix4 0 0 s l)) = _
    rw [show ((cfg1.win 3).blk t).view.emb (ix4 0 0 s l)
      = ix4 (⟨t.val / 4, by omega⟩ : Fin 8) (⟨t.val % 4, by omega⟩ : Fin 4) s l by blk_ext [idx1 t]]
    rfl

theorem attn_final (c : Dev nD) (hq : ∀ b s j, ∃ r : ℝ, queriesOf m c b s j = r) (hk : ∀ b s j, ∃ r : ℝ, keysOf m c b s j = r)
    (hl : ∀ b s h, ∃ r : ℝ, gatesOf m c b s h = r) : (dat1 (V1 m ρ) c).arrAt 4 cfg1.N
      = Cert.FoxRefIdeal.Read.val_main_v43 (F := Ideal) (m ((c : Thread nD τ).loc main_arg0)) (m ((c : Thread nD τ).loc main_arg1))
        (m ((c : Thread nD τ).loc main_arg2)) (m ((c : Thread nD τ).loc main_arg3)) := by
  refine (dat1 (V1 m ρ) c).arrAt_eq_of_covers 4 _ (by decide +kernel) fun t _ y => ?_
  blk_simp
  rw [after1_4]
  exact attn_point m ρ c hq hk hl t y

/-! ## The run -/

section run

open Idealize.ShloMosaic.Tactic Idealize.SL Idealize.SL.RA Idealize.SL.BI
open scoped Idealize.SL.BI
open Idealize.SL.BI.BIBase Idealize.SL.BI.Laws Idealize.SL.ProofMode Idealize.ShloMosaic.Rounds
open Idealize.ShloMosaic.Pipeline (cellOf)

local notation "𝕄" => MT nD τ sig Unit (Elt Ideal) ℕ (UR sig nD τ) ℕ

-- the launch theorem's implicit arguments are found by unfolding plain definitions in a metavariable's type
set_option backward.isDefEq.respectTransparency.types false in
/-- Every run of the two regions ends with the attention's array as its pipeline leaves it and the arguments unchanged. -/
theorem run_main : θ_run defs (onTc (τ := τ) (main (F := Ideal))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => fun c =>
      ⟨(h c _ (mem_uc main_v1 (by decide))).trans (hF1 m ρ c 4).symm,
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c)⟩)

end run

/-- The claim's two runs end with the same result. -/
theorem algebraic : Cert.algebraic_FoxIdeal_FoxRefIdeal_pre_finite := by
  intro m g m' g' hpre hagree
  refine ⟨fun c => Cert.FoxRefIdeal.Read.val_main_v43 (F := Ideal) (m ((c : Thread nD τ).loc main_arg0))
    (m ((c : Thread nD τ).loc main_arg1)) (m ((c : Thread nD τ).loc main_arg2)) (m ((c : Thread nD τ).loc main_arg3)), ?_, ?_⟩
  · refine (θ_run _ _ _).mono (fun r h c => ?_) (run_main m g)
    obtain ⟨hq, hk, hl⟩ := Cert.Pre_finite.Decode.read _ _ _ _ (hpre c)
    exact ⟨(h c).1.trans (attn_final m g c hq hk hl), (h c).2⟩
  · refine (θ_run _ _ _).mono (fun r h c => ?_) (Cert.FoxRefIdeal.Value.run m' g')
    refine ⟨(h c).1.trans ?_, (h c).2⟩
    rw [Cert.FoxRefIdeal.Read.val_main_v43_eq, (hagree c).1, (hagree c).2.1, (hagree c).2.2.1, (hagree c).2.2.2]

end Cert.FoxIdeal.Result

end
-- ==== Proof.MergeValue.lean ====
/- The value of the merge call: each block of 512 rows that a grid point writes is the reference's result read at
   those rows. The two sides are the same arithmetic (row scaling, three gated branch products, one output product,
   a residual), so the proof reads both at an index and matches the reads. -/
module

public import proofs.«01_k».proof.Proof.Gen.MergeIdeal.Value
public import proofs.«01_k».proof.Proof.Gen.MergeRefIdeal.Read
public import Idealize.ShloMosaic.Lib.Pipeline.ValueKit
public import Idealize.ShloMosaic.Lib.Pointwise
public import proofs.«01_k».proof.Defs
public import Idealize.ShloMosaic.Lib.Claim

@[expose] public section

set_option maxRecDepth 16384

noncomputable section

namespace Cert.MergeIdeal.Result

open Cert.MergeIdeal Cert.MergeIdeal.Gen Idealize.ShloMosaic Idealize.ShloMosaic.TcCoe Idealize.SL.Sem
open Idealize.ShloMosaic.Pipeline (Dat)
open Cert.MergeRefIdeal.Read

variable (m : (ℓ : Loc nD τ sig) → Buf (Elt Ideal) ℓ)

/-- The block each window stages at a grid point: the row blocks move with the point, the weights stay. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The reference's result over the arguments. -/
abbrev REF (x0 : FVec Ideal S16384x1024 .f32) (x1 : FVec Ideal S1024 .f32) (x2 x3 x4 : FVec Ideal S16384x512 .bf16)
    (x5 : FVec Ideal S1024x6664 .f32) (x6 x7 x8 : FVec Ideal S512x1024 .f32) (x9 : FVec Ideal S1024x1024 .f32) :
    FVec Ideal S16384x1024 .f32 := val_main_v40 (F := Ideal) x0 x1 x2 x3 x4 x5 x6 x7 x8 x9

theorem point (c : Dev nD) (t : Fin cfg0.N) (y) : out0_10 (iblk m c 0 t) (iblk m c 1 t) (iblk m c 2 t) (iblk m c 3 t) (iblk m c 4 t)
      (iblk m c 5 t) (iblk m c 6 t) (iblk m c 7 t) (iblk m c 8 t) (iblk m c 9 t) y
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (((cfg0.win 10).blk t).view.emb y) := by
  frame_out
  pointwise [k0_pay1, k0_pay2, k0_pay3, r0_0, r0_1, r0_2, r0_3, r0_4, r0_5, r0_6, REF, val_main_v40, val_main_v39, val_main_v38, val_main_v37,
    val_main_v36, val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_v1, val_main_v0, val_main_cst, val_main_cst_0, val_main_cst_1,
    val_main_cst_2, val_main_cst_3, Ideal.logistic]
  blk_point [iblk, V, idx t]

/-- The result array after the run is the reference's result. -/
theorem final (c : Dev nD) : (dats m 0 c).arrAt 10 (cfgs 0).N
    = REF (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) := by
  refine (dats m 0 c).arrAt_eq_of_covers 10 _ (by decide +kernel) fun t _ y => ?_
  blk_simp
  rw [after0_10]
  exact point m c t y

/-- The claim's two runs end with the same result. -/
theorem algebraic : Cert.algebraic_MergeIdeal_MergeRefIdeal := by
  pair_intro
  · run_from Cert.MergeIdeal.Gen.run_main m g
  · run_from Cert.MergeRefIdeal.Value.run m' g'
    rw [Cert.MergeRefIdeal.Read.val_main_v40_eq]
    simp only [hagree c]
    exact (final m c).symm

end Cert.MergeIdeal.Result

end
-- ==== Proof.MobaFinite.lean ====
/- The precondition of the block attention's value claim, read: the queries and layer 3 of the keys are numbers. -/
module

public import proofs.«01_k».proof.Pre_finite_moba
public import proofs.«01_k».proof.Proof.FoxFinite
public import Idealize.ShloMosaic.Lib.ReduceAll
public import Idealize.ShloMosaic.Lib.Pointwise
public import Idealize.ShloMosaic.Lib.Decide

@[expose] public section

set_option maxRecDepth 16384

noncomputable section

namespace Cert.Pre_finite_moba.Decode

open Idealize.ShloMosaic Cert.Pre_finite_moba
open Cert.Pre_finite.Decode (number)

instance facts : Facts where
  bcast_S_S8x2048x512 := by decide
  reducesTo_S8x2048x512_S_d0_1_2 := by decide
  h_S_ := by decide
  slices_S4x8x2048x512_S1x8x2048x512_3_0_0_0 := by decide
  shapeCasts_S1x8x2048x512_S8x2048x512 := by decide

theorem read (a0 : FVec Ideal S8x2048x512 .f32) (a1 a2 : FVec Ideal S4x8x2048x512 .f32)
    (h : fn (F := Ideal) a0 a1 a2 = fun _ => 1#1) :
    (∀ b s c, ∃ r : ℝ, a0 (ix3 b s c) = (r : EReal)) ∧ ∀ b s c, ∃ r : ℝ, a1 (ix4 3 b s c) = (r : EReal) := by
  have e := congrFun h (fun a => a.elim0)
  simp only [fn, andi] at e
  obtain ⟨e0, e1⟩ := IntOp.andi_eq_one.1 e
  have one : Subsingleton S_.Idx := ⟨fun i j => funext fun a => a.elim0⟩
  refine ⟨fun b s c => number _ (Host.reduce_andi_all _ _ _ _ _ e0 (ix3 b s c)), fun b s c => ?_⟩
  obtain ⟨r, hr⟩ := number _ (Host.reduce_andi_all _ _ _ _ _ e1 (ix3 b s c))
  refine ⟨r, Eq.trans ?_ hr⟩
  pointwise

end Cert.Pre_finite_moba.Decode

end
-- ==== Proof.MobaSoftmax.lean ====
/- The softmax row of an attention that reads only the positions a choice keeps: with real scores and the row's own position
   kept, the row computed tile by tile with its own maximum and the row computed whole agree. -/
module

public import proofs.«01_k».proof.Proof.FoxSoftmax

@[expose] public section

noncomputable section

namespace Cert.MobaIdeal.Soft

open Idealize.ShloMosaic Finset Cert.FoxIdeal.Soft
open scoped Classical

/-- The score of a position: minus infinity at one the choice drops. -/
def sc (σ : ℕ → ℝ) (K : ℕ → Prop) (s : ℕ) : EReal := if K s then (σ s : EReal) else ⊥

/-- The weight of a position: zero at one the choice drops. -/
def wt (σ : ℕ → ℝ) (K : ℕ → Prop) (s : ℕ) : ℝ := if K s then Real.exp (σ s) else 0

/-- A row of the attention: position `t` reads the kept positions up to its own. -/
def krow (σ : ℕ → ℝ) (K : ℕ → Prop) (v : ℕ → EReal) (t : ℕ) : EReal :=
  (∑ s ∈ range (t + 1), (wt σ K s : EReal) * v s) * ((∑ s ∈ range (t + 1), wt σ K s)⁻¹ : ℝ)

theorem exp_sc (σ : ℕ → ℝ) (K : ℕ → Prop) (s : ℕ) (b : ℝ) :
    Ideal.exp (sc σ K s - b) = (wt σ K s * Real.exp (-b) : ℝ) := by
  unfold sc wt; split
  · exact exp_sub _ _
  · rw [exp_bot_sub, zero_mul]; rfl

theorem sc_ne_top (σ : ℕ → ℝ) (K : ℕ → Prop) (s : ℕ) : sc σ K s ≠ ⊤ := by
  unfold sc; split
  exacts [EReal.coe_ne_top _, bot_ne_top]

theorem sc_ne_bot (σ : ℕ → ℝ) (K : ℕ → Prop) (s : ℕ) (h : K s) : sc σ K s ≠ ⊥ := by
  unfold sc; rw [if_pos h]; exact EReal.coe_ne_bot _

theorem wt_nonneg (σ : ℕ → ℝ) (K : ℕ → Prop) (s : ℕ) : 0 ≤ wt σ K s := by
  unfold wt; split
  exacts [(Real.exp_pos _).le, le_rfl]

theorem wt_pos (σ : ℕ → ℝ) (K : ℕ → Prop) (t : ℕ) (h : K t) : 0 < ∑ s ∈ range (t + 1), wt σ K s := by
  refine sum_pos' (fun s _ => wt_nonneg σ K s) ⟨t, by simp, ?_⟩
  unfold wt; rw [if_pos h]; exact Real.exp_pos _

/-- The shift leaves both sums by the same positive factor. -/
theorem krow_shift (σ : ℕ → ℝ) (K : ℕ → Prop) (v : ℕ → EReal) (t : ℕ) (h : K t) (b : ℝ) :
    Ideal.div (∑ s ∈ range (t + 1), Ideal.exp (sc σ K s - b) * v s)
        (∑ s ∈ range (t + 1), Ideal.exp (sc σ K s - b)) = krow σ K v t := by
  have hk : 0 < Real.exp (-b) := Real.exp_pos _
  have hL := wt_pos σ K t h
  simp only [exp_sc]
  rw [← coe_sum, ← sum_mul, div_real _ _ (by positivity)]
  simp only [EReal.coe_mul]
  rw [show (∑ s ∈ range (t + 1), (wt σ K s : EReal) * (Real.exp (-b) : EReal) * v s)
      = (Real.exp (-b) : EReal) * ∑ s ∈ range (t + 1), (wt σ K s : EReal) * v s by
    rw [real_mul_sum _ hk.le]; exact sum_congr rfl fun s _ => by rw [mul_comm (wt σ K s : EReal), mul_assoc]]
  unfold krow
  rw [mul_comm (Real.exp (-b) : EReal), mul_assoc, ← EReal.coe_mul]
  congr 2
  rw [mul_inv, mul_comm (_⁻¹ : ℝ), ← mul_assoc, mul_inv_cancel₀ hk.ne', one_mul]

/-- The same row with every weight divided by the total before it multiplies its value. -/
theorem krow_shift_each (σ : ℕ → ℝ) (K : ℕ → Prop) (v : ℕ → EReal) (t : ℕ) (h : K t) (b : ℝ) :
    ∑ s ∈ range (t + 1), v s * Ideal.div (Ideal.exp (sc σ K s - b)) (∑ s ∈ range (t + 1), Ideal.exp (sc σ K s - b))
      = krow σ K v t := by
  rw [← krow_shift σ K v t h b]
  have hk : 0 < Real.exp (-b) := Real.exp_pos _
  have hL := wt_pos σ K t h
  simp only [exp_sc]
  rw [← coe_sum, ← sum_mul]
  simp only [div_real _ _ (mul_pos hL hk).ne']
  have hW : 0 ≤ ((∑ s ∈ range (t + 1), wt σ K s) * Real.exp (-b))⁻¹ := by positivity
  generalize ((∑ s ∈ range (t + 1), wt σ K s) * Real.exp (-b))⁻¹ = W at hW
  rw [mul_comm _ (W : EReal), real_mul_sum _ hW]
  exact sum_congr rfl fun s _ => by rw [mul_comm (v s), mul_comm _ (W : EReal), mul_assoc]

theorem later_eq {lo : ℕ} (sd vd : Fin 256 → EReal) (sp vp : Fin lo → EReal) (σ : ℕ → ℝ) (K : ℕ → Prop) (v : ℕ → EReal)
    (r : Fin 256) (hK : K (lo + r.val))
    (hsd : ∀ c, sd c = if c.val ≤ r.val then sc σ K (lo + c.val) else ⊥) (hsp : ∀ c, sp c = sc σ K c.val)
    (hvd : ∀ c, vd c = v (lo + c.val)) (hvp : ∀ c, vp c = v c.val) :
    later sd vd sp vp = krow σ K v (lo + r.val) := by
  have ht : ∀ c, sd c ≠ ⊤ := fun c => by rw [hsd c]; split; exacts [sc_ne_top _ _ _, bot_ne_top]
  have htp : ∀ c, sp c ≠ ⊤ := fun c => by rw [hsp c]; exact sc_ne_top _ _ _
  obtain ⟨b, hb⟩ := fold_max_real sd ht r (by rw [hsd r, if_pos le_rfl]; exact sc_ne_bot _ _ _ hK)
  have hp := fold_max_ne_top sp htp
  have hm : ∃ μ : ℝ, max (Finset.fold max ⊥ sd Finset.univ) (Finset.fold max ⊥ sp Finset.univ) = μ := by
    rw [hb]
    rcases le_total (Finset.fold max ⊥ sp Finset.univ) (b : EReal) with h | h
    · exact ⟨b, max_eq_left h⟩
    · rw [max_eq_right h]
      exact ⟨_, (EReal.coe_toReal hp (ne_of_gt (lt_of_lt_of_le (EReal.bot_lt_coe b) h))).symm⟩
  obtain ⟨μ, hμ⟩ := hm
  unfold later
  simp only [hμ]
  rw [← krow_shift σ K v _ hK μ, ← sum_tile lo r.val 256 r.isLt fun s => Ideal.exp (sc σ K s - μ) * v s,
    ← sum_tile lo r.val 256 r.isLt fun s => Ideal.exp (sc σ K s - μ)]
  congr 2
  · refine sum_congr rfl fun c _ => ?_
    rw [hsd c, hvd c]; split
    · rfl
    · rw [exp_bot_sub, zero_mul]
  · refine sum_congr rfl fun c _ => ?_
    rw [hsp c, hvp c]
  · refine sum_congr rfl fun c _ => ?_
    rw [hsd c]; split
    · rfl
    · rw [exp_bot_sub]
  · refine sum_congr rfl fun c _ => ?_
    rw [hsp c]

theorem first_eq (sd vd : Fin 256 → EReal) (σ : ℕ → ℝ) (K : ℕ → Prop) (v : ℕ → EReal) (r : Fin 256) (hK : K r.val)
    (hsd : ∀ c, sd c = if c.val ≤ r.val then sc σ K c.val else ⊥) (hvd : ∀ c, vd c = v c.val) :
    first sd vd = krow σ K v r.val := by
  rw [← zero_add r.val, ← later_eq (lo := 0) sd vd (fun _ => ⊥) (fun _ => 0) σ K v r (by rwa [zero_add])
    (fun c => by rw [hsd c, zero_add]) (fun c => c.elim0) (fun c => by rw [hvd c, zero_add]) (fun c => c.elim0)]
  unfold first later
  simp

/-- A row computed whole: the scores shifted by the row's maximum, every weight divided by the total. -/
theorem whole_eq (s v : Fin 2048 → EReal) (σ : ℕ → ℝ) (K : ℕ → Prop) (w : ℕ → EReal) (t : Fin 2048) (hK : K t.val)
    (hs : ∀ c, s c = if c.val ≤ t.val then sc σ K c.val else ⊥) (hv : ∀ c, v c = w c.val) :
    ∑ c, v c * Ideal.div (Ideal.exp (s c - Finset.fold max ⊥ s Finset.univ))
        (∑ c, Ideal.exp (s c - Finset.fold max ⊥ s Finset.univ)) = krow σ K w t.val := by
  obtain ⟨b, hb⟩ := fold_max_real s (fun c => by rw [hs c]; split; exacts [sc_ne_top _ _ _, bot_ne_top]) t
    (by rw [hs t, if_pos le_rfl]; exact sc_ne_bot _ _ _ hK)
  have he : ∀ c, Ideal.exp (s c - b) = if c.val ≤ t.val then Ideal.exp (sc σ K c.val - b) else 0 := by
    intro c
    rw [hs c]; split
    · rfl
    · rw [exp_bot_sub]
  have hd : ∑ c, Ideal.exp (s c - b) = ∑ c ∈ range (t.val + 1), Ideal.exp (sc σ K c - b) := by
    simp only [he]
    exact sum_prefix 2048 t.val t.isLt fun c => Ideal.exp (sc σ K c - b)
  have hL : ∃ L : ℝ, ∑ c ∈ range (t.val + 1), Ideal.exp (sc σ K c - b) = L ∧ L ≠ 0 := by
    simp only [exp_sc]
    rw [← coe_sum, ← sum_mul]
    exact ⟨_, rfl, (mul_pos (wt_pos σ K t.val hK) (Real.exp_pos _)).ne'⟩
  obtain ⟨L, hL, h0⟩ := hL
  rw [hb, hd, ← krow_shift_each σ K w t.val hK b, hL, ← sum_prefix 2048 t.val t.isLt]
  refine sum_congr rfl fun c _ => ?_
  rw [he c]; split
  · rw [hv c]
  · rw [div_real _ _ h0, zero_mul, mul_zero]

end Cert.MobaIdeal.Soft
end
end
-- ==== Proof.MobaRows.lean ====
/- What the attention's scratch buffers hold, and the score that a row of the first and a row of the second make: a head's
   64 query columns against its key columns, plus the bias the preparation put in the lane of the head and of the key's
   block. -/
module

public import proofs.«01_k».proof.Proof.Gen.MobaIdeal.Frame
public import proofs.«01_k».proof.Proof.FoxRows
public import proofs.«01_k».proof.Proof.MobaSoftmax
public import Idealize.ShloMosaic.Lib.Pipeline.ValueKit
public import Idealize.ShloMosaic.Lib.Pointwise

@[expose] public section

set_option maxRecDepth 16384

noncomputable section

namespace Cert.MobaIdeal.Rows

open Cert.MobaIdeal Cert.MobaIdeal.Gen Cert.FoxIdeal.Rows Idealize.ShloMosaic Idealize.ShloMosaic.TcCoe Idealize.SL.Sem

theorem low (s : Fin 2048) (l : Fin 128) : k1_pay2 (ix2 s l) = if l.val < 64 then 1#1 else 0#1 := by
  pointwise [k1_pay2]
  revert l
  decide +kernel

/-- The query rows kept for a head: its own 64 columns times an eighth. -/
theorem kept0 (q : Vec Ideal S1x2048x128 .f32) (s : Fin 2048) (l : Fin 128) :
    k1_pay4 q (ix2 s l) = if l.val < 64 then q (ix3 0 s l) * ((1 / 8 : ℝ) : EReal) else 0 := by
  pointwise [k1_pay4, k1_pay3]
  rw [low, Cert.FoxIdeal.Soft.select_if, Cert.FoxIdeal.Soft.eighth]

theorem kept1 (q : Vec Ideal S1x2048x128 .f32) (s : Fin 2048) (l : Fin 128) :
    k1_pay5 q (ix2 s l) = if l.val < 64 then 0 else q (ix3 0 s l) * ((1 / 8 : ℝ) : EReal) := by
  pointwise [k1_pay5, k1_pay3]
  rw [low, Cert.FoxIdeal.Soft.select_if, Cert.FoxIdeal.Soft.eighth]

/-- The lanes a query row reads: 0 to 7 for the first head, 8 to 15 for the second. -/
theorem bias0 (x : Vec Ideal S1x1x2048x128 .bf16) (s : Fin 2048) (l : Fin 128) :
    k1_pay8 x (ix2 s l) = if l.val < 8 then x (ix4 0 0 s l) else 0 := by
  have e : (IntOp.cmpi .slt (BitVec.ofNat 32 l.val) 8#32 : BitVec 1) = if l.val < 8 then 1#1 else 0#1 := by
    revert l
    decide +kernel
  pointwise [k1_pay8, k1_pay7, k1_pay6]
  rw [e, Cert.FoxIdeal.Soft.select_if]

theorem bias1 (x : Vec Ideal S1x1x2048x128 .bf16) (s : Fin 2048) (l : Fin 128) :
    k1_pay9 x (ix2 s l) = if 8 ≤ l.val ∧ l.val < 16 then x (ix4 0 0 s l) else 0 := by
  have e : IntOp.andi (IntOp.cmpi .sge (BitVec.ofNat 32 l.val) 8#32) (IntOp.cmpi .slt (BitVec.ofNat 32 l.val) 16#32)
      = if 8 ≤ l.val ∧ l.val < 16 then 1#1 else 0#1 := by
    revert l
    decide +kernel
  pointwise [k1_pay9, k1_pay7, k1_pay6]
  rw [e, Cert.FoxIdeal.Soft.select_if]

/-- The floor of a quotient of two words, from the division that rounds to zero. -/
def floorDiv (n k : BitVec 32) : BitVec 32 :=
  Scalar.select
    (IntOp.andi
      (IntOp.cmpi .ne (IntOp.subi (BitVec.setWidth 32 (IntOp.cmpi .sgt n 0#32)) (BitVec.setWidth 32 (IntOp.cmpi .slt n 0#32)))
        (Scalar.subi (Scalar.extui (Scalar.cmpi .sgt k 0#32)) (Scalar.extui (Scalar.cmpi .slt k 0#32))))
      (IntOp.cmpi .ne (IntOp.remsi .vector n k) 0#32))
    (IntOp.subi (IntOp.divsi .vector n k) 1#32) (IntOp.divsi .vector n k)

theorem floor256 (s : Fin 2048) : floorDiv (BitVec.ofNat 32 s.val) 256#32 = BitVec.ofNat 32 (s.val / 256) := by
  revert s
  decide +kernel

/-- The remainder by eight with a divisor's sign. -/
def floorMod (n k : BitVec 32) : BitVec 32 :=
  Scalar.select
    (IntOp.andi (IntOp.xori (IntOp.cmpi .slt (IntOp.remsi .vector n k) 0#32) (Scalar.cmpi .slt k 0#32))
      (IntOp.cmpi .ne (IntOp.remsi .vector n k) 0#32))
    (IntOp.addi (IntOp.remsi .vector n k) k) (IntOp.remsi .vector n k)

/-- Equality of two small words. -/
theorem eq_small (a b : ℕ) (ha : a < 2048) (hb : b < 2048) :
    IntOp.cmpi .eq (BitVec.ofNat 32 a) (BitVec.ofNat 32 b) = if a = b then 1#1 else 0#1 := by
  have h : (BitVec.ofNat 32 a == BitVec.ofNat 32 b) = decide (a = b) := by
    rw [Bool.eq_iff_iff, beq_iff_eq, decide_eq_true_iff, ← BitVec.toNat_inj, BitVec.toNat_ofNat, BitVec.toNat_ofNat]
    omega
  unfold IntOp.cmpi
  simp only [h]
  by_cases hab : a = b <;> simp [hab]

/-- The lanes beside a key: one in the two lanes of its block, zero in the others. -/
def marks : FVec Ideal S2048x128 .bf16 :=
  k1_pay14 (iota .tc S2048x128 32 [0] iota_S2048x128_d0_w32) k1_pay10 (Scalar.select (Scalar.cmpi .eq 8#32 0#32) 1#32 8#32) k1_pay11
    k1_pay12 k1_pay13 0#32

theorem marks_at (s : Fin 2048) (l : Fin 128) :
    marks (ix2 s l) = if l.val < 16 ∧ l.val % 8 = s.val / 256 then 1 else 0 := by
  pointwise [marks, k1_pay14, k1_pay13, k1_pay12, k1_pay11, k1_pay10]
  have e : ∀ l : Fin 128, floorMod (BitVec.ofNat 32 l.val) (Scalar.select (Scalar.cmpi .eq 8#32 0#32) 1#32 8#32)
      = BitVec.ofNat 32 (l.val % 8) := by decide +kernel
  have e' : ∀ l : Fin 128, (IntOp.cmpi .slt (BitVec.ofNat 32 l.val) 16#32 : BitVec 1) = if l.val < 16 then 1#1 else 0#1 := by
    decide +kernel
  change Scalar.select (IntOp.andi (IntOp.cmpi .slt (BitVec.ofNat 32 l.val) 16#32)
    (IntOp.cmpi .eq (floorMod (BitVec.ofNat 32 l.val) (Scalar.select (Scalar.cmpi .eq 8#32 0#32) 1#32 8#32))
      (floorDiv (BitVec.ofNat 32 s.val) 256#32))) (1 : EReal) 0 = _
  rw [e, e', floor256, eq_small _ _ (by omega) (by omega)]
  by_cases h1 : l.val < 16 <;> by_cases h2 : l.val % 8 = s.val / 256 <;> simp [h1, h2, IntOp.andi, Scalar.select]

/-- The first scratch buffer, by tile, head, half (query columns or gate lanes), row and lane. -/
def queries (q : Vec Ideal S1x2048x128 .f32) (x : Vec Ideal S1x1x2048x128 .bf16) (i : Fin 8) (h p : Fin 2) (r : Fin 256) (l : Fin 128) : EReal :=
  if p = 0 then (if h = 0 then k1_pay4 q (ix2 ⟨256 * i.val + r.val, by omega⟩ l) else k1_pay5 q (ix2 ⟨256 * i.val + r.val, by omega⟩ l))
  else (if h = 0 then k1_pay8 x (ix2 ⟨256 * i.val + r.val, by omega⟩ l) else k1_pay9 x (ix2 ⟨256 * i.val + r.val, by omega⟩ l))

/-- The first scratch buffer by its own coordinates. -/
def stacked (q : Vec Ideal S1x2048x128 .f32) (x : Vec Ideal S1x1x2048x128 .bf16) : S8x512x256.Idx → Elt Ideal .bf16 := fun y =>
  queries q x ⟨(y 0).val, (y 0).isLt⟩ ⟨(y 1).val / 256, by have h : (y 1).val < 512 := (y 1).isLt; omega⟩
    ⟨(y 2).val / 128, by have h : (y 2).val < 256 := (y 2).isLt; omega⟩ ⟨(y 1).val % 256, by omega⟩
    ⟨(y 2).val % 128, by omega⟩

theorem qpiece (q : Vec Ideal S1x2048x128 .f32) (x : Vec Ideal S1x1x2048x128 .bf16) (i : Fin 8) (h p : Fin 2)
    (inb : ∀ a, ![i.val, 256 * h.val, 128 * p.val] a + S1x256x128.size a ≤ S8x512x256.size a) (P : Vec Ideal S1x256x128 .bf16)
    (hP : ∀ r l, P (ix3 0 r l) = queries q x i h p r l) (z : S1x256x128.Idx) :
    P z = stacked q x ((Rect.unit (s := S8x512x256) ![i.val, 256 * h.val, 128 * p.val] S1x256x128.size inb).emb z) := by
  have h0 : (z 0).val = 0 := Nat.lt_one_iff.mp (z 0).isLt
  have h1 : (z 1).val < 256 := (z 1).isLt
  have h2 : (z 2).val < 128 := (z 2).isLt
  have e : z = ix3 0 (z 1) (z 2) := by
    funext a
    match a with
    | ⟨0, _⟩ => exact Fin.ext h0
    | ⟨1, _⟩ => rfl
    | ⟨2, _⟩ => rfl
  rw [show P z = P (ix3 0 (z 1) (z 2)) from congrArg P e, hP (z 1) (z 2)]
  unfold stacked
  congr 1
  · exact Fin.ext (show i.val = i.val + 1 * (z 0).val by omega)
  · exact Fin.ext (show h.val = (256 * h.val + 1 * (z 1).val) / 256 by omega)
  · exact Fin.ext (show p.val = (128 * p.val + 1 * (z 2).val) / 128 by omega)
  · exact Fin.ext (show (z 1).val = (256 * h.val + 1 * (z 1).val) % 256 by omega)
  · exact Fin.ext (show (z 2).val = (128 * p.val + 1 * (z 2).val) % 128 by omega)

/-- The second scratch buffer: the keys, and beside them the marks of their blocks. -/
def keys (k : Vec Ideal S1x1x2048x128 .f32) (s : Fin 2048) (j : Fin 256) : EReal :=
  if h : j.val < 128 then k (ix4 0 0 s ⟨j.val, h⟩) else marks (ix2 s ⟨j.val - 128, by omega⟩)

/-- The product of a pair of positions' query and key for one of a pair's two heads. -/
def pairScore (Q : Fin 2048 → Fin 128 → ℝ) (K : Fin 2048 → Fin 128 → ℝ) (h : Fin 2) (t s : Fin 2048) : ℝ :=
  (∑ d : Fin 64, Q t ⟨64 * h.val + d.val, by omega⟩ * K s ⟨64 * h.val + d.val, by omega⟩) * (1 / 8)

open scoped Classical in
/-- The bias lanes: zero for a block the choice keeps, minus infinity for the others. -/
def biased (B : Fin 2 → Fin 2048 → ℕ → Prop) (t : Fin 2048) (l : Fin 128) : EReal :=
  if h : l.val < 16 then (if B ⟨l.val / 8, by omega⟩ t (l.val % 8) then 0 else ⊥) else 0

open scoped Classical in
theorem dot (q : Vec Ideal S1x2048x128 .f32) (k : Vec Ideal S1x1x2048x128 .f32) (x : Vec Ideal S1x1x2048x128 .bf16)
    (Q : Fin 2048 → Fin 128 → ℝ) (K : Fin 2048 → Fin 128 → ℝ) (B : Fin 2 → Fin 2048 → ℕ → Prop)
    (hq : ∀ s l, q (ix3 0 s l) = ((Q s l : ℝ) : EReal)) (hk : ∀ s l, k (ix4 0 0 s l) = ((K s l : ℝ) : EReal))
    (hx : ∀ s l, x (ix4 0 0 s l) = biased B s l)
    (i : Fin 8) (h : Fin 2) (r : Fin 256) (s : Fin 2048) :
    ∑ j : Fin 256, queries q x i h ⟨j.val / 128, by omega⟩ r ⟨j.val % 128, by omega⟩ * keys k s j
      = (if B h ⟨256 * i.val + r.val, by omega⟩ (s.val / 256) then ((pairScore Q K h ⟨256 * i.val + r.val, by omega⟩ s : ℝ) : EReal) else ⊥) := by
  have key : ∀ l : Fin 128, queries q x i h 0 r l * k (ix4 0 0 s l)
      = ((if l.val / 64 = h.val then Q ⟨256 * i.val + r.val, by omega⟩ l * K s l * (1 / 8) else 0 : ℝ) : EReal) := by
    intro l
    unfold queries
    rw [if_pos rfl, hk]
    match h with
    | 0 =>
      rw [if_pos rfl, kept0, hq]
      by_cases hl : l.val < 64
      · rw [if_pos hl, if_pos (show l.val / 64 = (0 : Fin 2).val from (show l.val / 64 = 0 by omega)), ← EReal.coe_mul, ← EReal.coe_mul]
        exact congrArg _ (by ring)
      · rw [if_neg hl, if_neg (show ¬ l.val / 64 = (0 : Fin 2).val from (show ¬ l.val / 64 = 0 by omega)), zero_mul, EReal.coe_zero]
    | 1 =>
      rw [if_neg (by decide), kept1, hq]
      by_cases hl : l.val < 64
      · rw [if_pos hl, if_neg (show ¬ l.val / 64 = (1 : Fin 2).val from (show ¬ l.val / 64 = 1 by omega)), zero_mul, EReal.coe_zero]
      · rw [if_neg hl, if_pos (show l.val / 64 = (1 : Fin 2).val from (show l.val / 64 = 1 by omega)), ← EReal.coe_mul, ← EReal.coe_mul]
        exact congrArg _ (by ring)
  have lane : ∑ l : Fin 128, queries q x i h 1 r l * marks (ix2 s l)
      = (if B h ⟨256 * i.val + r.val, by omega⟩ (s.val / 256) then 0 else ⊥) := by
    have hs : s.val / 256 < 8 := by omega
    unfold queries
    simp only [show ¬ (1 : Fin 2) = 0 by decide, if_false, marks_at]
    match h with
    | 0 =>
      simp only [if_true, bias0]
      refine (Finset.sum_eq_single (⟨s.val / 256, by omega⟩ : Fin 128) (fun l _ hl => ?_) (by simp)).trans ?_
      · have : l.val ≠ s.val / 256 := fun e => hl (Fin.ext e)
        by_cases h8 : l.val < 8
        · rw [if_neg (c := l.val < 16 ∧ _) (by omega), mul_zero]
        · rw [if_neg h8, zero_mul]
      · rw [if_pos hs, if_pos ⟨by simp only []; omega, Nat.mod_eq_of_lt hs⟩, mul_one, hx]
        unfold biased
        rw [dif_pos (by simp only []; omega)]
        refine if_congr ?_ rfl rfl
        rw [show (⟨(⟨s.val / 256, by omega⟩ : Fin 128).val / 8, by simp only []; omega⟩ : Fin 2) = 0 from Fin.ext (show s.val / 256 / 8 = 0 by omega)]
        simp only [Nat.mod_eq_of_lt hs]
    | 1 =>
      simp only [show ¬ (1 : Fin 2) = 0 by decide, if_false, bias1]
      refine (Finset.sum_eq_single (⟨8 + s.val / 256, by omega⟩ : Fin 128) (fun l _ hl => ?_) (by simp)).trans ?_
      · have : l.val ≠ 8 + s.val / 256 := fun e => hl (Fin.ext e)
        by_cases h8 : 8 ≤ l.val ∧ l.val < 16
        · rw [if_neg (c := l.val < 16 ∧ _) (by omega), mul_zero]
        · rw [if_neg h8, zero_mul]
      · have e8 : (8 + s.val / 256) % 8 = s.val / 256 := by omega
        rw [if_pos ⟨by simp only []; omega, by simp only []; omega⟩, if_pos ⟨by simp only []; omega, e8⟩, mul_one, hx]
        unfold biased
        rw [dif_pos (by simp only []; omega)]
        refine if_congr ?_ rfl rfl
        rw [show (⟨(⟨8 + s.val / 256, by omega⟩ : Fin 128).val / 8, by simp only []; omega⟩ : Fin 2) = 1 from Fin.ext (show (8 + s.val / 256) / 8 = 1 by omega)]
        simp only [e8]
  refine (Fin.sum_univ_add (a := 128) (b := 128) (fun j : Fin (128 + 128) =>
    queries q x i h ⟨j.val / 128, by omega⟩ r ⟨j.val % 128, by omega⟩ * keys k s j)).trans ?_
  refine (congrArg₂ (· + ·) (Finset.sum_congr rfl fun l _ => ?_) (Finset.sum_congr rfl fun l _ => ?_)).trans
    ((congrArg₂ (· + ·) (Finset.sum_congr rfl fun l _ => key l) lane).trans ?_)
  · unfold keys
    rw [dif_pos (show (Fin.castAdd 128 l).val < 128 from l.isLt)]
    congr 2
    · exact Fin.ext (show l.val / 128 = 0 by omega)
    · exact Fin.ext (show l.val % 128 = l.val by omega)
  · unfold keys
    rw [dif_neg (show ¬ (Fin.natAdd 128 l).val < 128 from fun h => absurd (show 128 + l.val < 128 from h) (by omega))]
    congr 2
    · exact Fin.ext (show (128 + l.val) / 128 = 1 by omega)
    · exact Fin.ext (show (128 + l.val) % 128 = l.val by omega)
    · exact congrArg _ (Fin.ext (show 128 + l.val - 128 = l.val by omega))
  · rw [← Cert.FoxIdeal.Soft.coe_sum, half, ← Finset.sum_mul]
    split
    · exact add_zero _
    · exact EReal.add_bot _

end Cert.MobaIdeal.Rows
end
end
-- ==== Proof.MobaChoose.lean ====
/- The choice of blocks: the first three of a stable sort by falling score are the positions that fewer than three others
   come before, where a position comes before another if its score is greater, or equal and it stands earlier. -/
module

public import Idealize.ShloMosaic.Lib.SortPrefix
public import Idealize.ShloMosaic.Lib.Pipeline.ValueKit
public import Idealize.ShloMosaic.Lib.Pointwise

@[expose] public section

noncomputable section

namespace Cert.MobaIdeal.Choose

open Idealize.ShloMosaic

variable (S : Fin 8 → EReal)

/-- Position `m` comes before position `n`. -/
def first (m n : Fin 8) : Bool := decide (S n < S m) || (decide (S m = S n) && decide (m < n))

/-- How many positions come before `n`. -/
def rank (n : Fin 8) : ℕ := (Finset.univ.filter fun m => first S m n = true).card

theorem total : StrictTotalBefore (first S) :=
  StrictTotalBefore.of_key_then_position (fun a b : EReal => decide (b < a)) S (fun a => by simp)
    (fun a b c hab hbc => by simp only [decide_eq_true_eq] at *; exact hbc.trans hab)
    (fun a b => by
      simp only [decide_eq_true_eq]
      rcases lt_trichotomy a b with h | h | h
      exacts [.inr (.inr h), .inr (.inl h), .inl h])

theorem stable_list (l : List (Fin 8)) (hl : l.Pairwise (· < ·)) :
    stableSort (fun k k' => decide (S k' < S k)) l = stableSort (first S) l := by
  induction l with
  | nil => rfl
  | cons a l ih =>
    rw [List.pairwise_cons] at hl
    unfold stableSort
    rw [ih hl.2]
    refine insertBefore_congr _ _ _ _ fun b hb => ?_
    have hab := hl.1 b ((perm_stableSort _ _).mem_iff.mp hb)
    unfold first
    rw [decide_eq_false (not_lt.mpr hab.le), Bool.and_false, Bool.or_false]

theorem stable : sortedFrom (fun k k' => decide (S k' < S k)) = sortedFrom (first S) := by
  have e : sortPositions 8 (fun k k' => decide (S k' < S k)) = sortPositions 8 (first S) :=
    stable_list S _ (List.pairwise_lt_finRange 8)
  funext k
  unfold sortedFrom
  rw [List.get_of_eq e]
  rfl

theorem before_iff (i j : Fin 8) : first S (sortedFrom (first S) i) (sortedFrom (first S) j) = true ↔ i < j := by
  have hB := total S
  have no : ∀ i j : Fin 8, i < j → first S (sortedFrom (first S) j) (sortedFrom (first S) i) = false :=
    sortedFrom_noInversion (first S) (first S) (fun a b h => hB.asymm a b h) (fun _ _ h => h) hB.negTrans
  constructor
  · intro h
    by_contra hn
    rcases lt_or_eq_of_le (not_lt.mp hn) with hlt | rfl
    · rw [no _ _ hlt] at h; exact absurd h (by decide)
    · rw [hB.irrefl] at h; exact absurd h (by decide)
  · intro h
    rcases hB.total (sortedFrom (first S) i) (sortedFrom (first S) j)
      (fun e => h.ne (sortedFrom_injective _ e)) with h' | h'
    · exact h'
    · rw [no _ _ h] at h'; exact absurd h' (by decide)

/-- The position a stable sort puts at place `j` has exactly `j` positions before it. -/
theorem rank_sorted (j : Fin 8) : rank S (sortedFrom (first S) j) = j.val := by
  unfold rank
  have e : (Finset.univ.filter fun m => first S m (sortedFrom (first S) j) = true)
      = (Finset.univ.filter fun i : Fin 8 => i < j).image (sortedFrom (first S)) := by
    ext m
    simp only [Finset.mem_filter, Finset.mem_univ, true_and, Finset.mem_image]
    constructor
    · intro h
      obtain ⟨i, rfl⟩ := sortedFrom_surjective (first S) m
      exact ⟨i, (before_iff S i j).1 h, rfl⟩
    · rintro ⟨i, hi, rfl⟩
      exact (before_iff S i j).2 hi
  rw [e, Finset.card_image_of_injective _ (sortedFrom_injective _)]
  clear e
  revert j
  decide

/-- The three first places of the stable sort hold the positions of rank below three. -/
theorem chosen (n : Fin 8) :
    (∃ j : Fin 3, sortedFrom (fun k k' => decide (S k' < S k)) ⟨j.val, by omega⟩ = n) ↔ rank S n < 3 := by
  rw [stable]
  constructor
  · rintro ⟨j, rfl⟩
    rw [rank_sorted]
    exact j.isLt
  · intro h
    obtain ⟨i, rfl⟩ := sortedFrom_surjective (first S) n
    rw [rank_sorted] at h
    exact ⟨⟨i.val, h⟩, rfl⟩

/-- The mean of a block's keys, column by column. -/
def mean (k : Fin 2048 → Fin 512 → EReal) (n : Fin 8) (c : Fin 512) : EReal :=
  Ideal.div (∑ r : Fin 256, k ⟨n.val * 256 + r.val, by omega⟩ c) (Ideal.ofBits .f32 0x43800000#32)

/-- The score of a block for a head and a position: the query against the mean of its keys for a block before the
    position's own, minus infinity for the others. -/
def pick (q k : Fin 2048 → Fin 512 → EReal) (h : Fin 8) (t : Fin 2048) (n : Fin 8) : EReal :=
  if n.val < t.val / 256 then ∑ d : Fin 64, q t ⟨h.val * 64 + d.val, by omega⟩ * mean k n ⟨h.val * 64 + d.val, by omega⟩ else ⊥

/-- A block is kept for a head and a position: no past block, or one of the three chosen. -/
def Kept (q k : Fin 2048 → Fin 512 → EReal) (h : Fin 8) (t : Fin 2048) (n : ℕ) : Prop :=
  ∀ hn : n < t.val / 256, rank (pick q k h t) ⟨n, by omega⟩ < 3

/-- The head's columns out of the 512. -/
theorem ofHead (h : Fin 8) (f : Fin 512 → EReal) :
    ∑ l : Fin 512, (if l.val / 64 = h.val then f l else 0) = ∑ d : Fin 64, f ⟨h.val * 64 + d.val, by omega⟩ := by
  rw [← Finset.sum_filter]
  refine Finset.sum_nbij' (fun l => ⟨l.val % 64, by omega⟩) (fun d => ⟨h.val * 64 + d.val, by omega⟩) (fun _ _ => Finset.mem_univ _)
    (fun d _ => ?_) (fun l hl => ?_) (fun d _ => ?_) (fun l hl => ?_)
  · rw [Finset.mem_filter]
    exact ⟨Finset.mem_univ _, show (h.val * 64 + d.val) / 64 = h.val by omega⟩
  · have := (Finset.mem_filter.mp hl).2
    exact Fin.ext (show h.val * 64 + l.val % 64 = l.val by omega)
  · exact Fin.ext (show (h.val * 64 + d.val) % 64 = d.val by omega)
  · have := (Finset.mem_filter.mp hl).2
    exact congrArg f (Fin.ext (show l.val = h.val * 64 + l.val % 64 by omega))

/-- Eight bits added as words and compared with three. -/
theorem count (b : Fin 8 → BitVec 1) :
    IntOp.cmpi .slt (0#32 + BitVec.setWidth 32 (b 0) + BitVec.setWidth 32 (b 1) + BitVec.setWidth 32 (b 2) + BitVec.setWidth 32 (b 3)
      + BitVec.setWidth 32 (b 4) + BitVec.setWidth 32 (b 5) + BitVec.setWidth 32 (b 6) + BitVec.setWidth 32 (b 7)) 3#32
      = if (Finset.univ.filter fun m => b m = 1#1).card < 3 then 1#1 else 0#1 := by
  have two : ∀ x : BitVec 1, x = 0#1 ∨ x = 1#1 := by decide
  have e : (Finset.univ.filter fun m => b m = 1#1).card = ∑ m, if b m = 1#1 then 1 else 0 := by rw [Finset.card_filter]
  rw [e]
  simp only [Fin.sum_univ_eight]
  generalize b 0 = b0; generalize b 1 = b1; generalize b 2 = b2; generalize b 3 = b3
  generalize b 4 = b4; generalize b 5 = b5; generalize b 6 = b6; generalize b 7 = b7
  revert b0 b1 b2 b3 b4 b5 b6 b7
  decide +kernel

end Cert.MobaIdeal.Choose
end
end
-- ==== Proof.MobaPrep.lean ====
/- The preparation of the block attention: for a head, a position and a block its result holds zero where the block is kept
   and minus infinity where not. Kept are the position's own block and all after it, and the past blocks that fewer than three
   others come before in the order of the scores. -/
module

public import proofs.«01_k».proof.Proof.Gen.MobaIdeal.Frame
public import proofs.«01_k».proof.Proof.MobaRows
public import proofs.«01_k».proof.Proof.MobaChoose
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MobaIdeal.Prep

open Cert.MobaIdeal Cert.MobaIdeal.Gen Idealize.ShloMosaic Idealize.ShloMosaic.TcCoe Idealize.SL.Sem

abbrev keysOf (x : Vec Ideal S1x1x2048x512 .f32) : Fin 2048 → Fin 512 → EReal := fun s c => x (ix4 0 0 s c)
abbrev queriesOf (x : Vec Ideal S1x2048x512 .f32) : Fin 2048 → Fin 512 → EReal := fun s c => x (ix3 0 s c)

theorem less (n o : Fin 8) : IntOp.cmpi .slt (BitVec.ofNat 32 n.val) (BitVec.ofNat 32 o.val) = if n.val < o.val then 1#1 else 0#1 := by
  revert n o
  decide +kernel

theorem atLeast (n o : Fin 8) : IntOp.cmpi .sge (BitVec.ofNat 32 n.val) (BitVec.ofNat 32 o.val) = if n.val < o.val then 0#1 else 1#1 := by
  revert n o
  decide +kernel

theorem more (n o : Fin 8) : IntOp.cmpi .sgt (BitVec.ofNat 32 n.val) (BitVec.ofNat 32 o.val) = if o.val < n.val then 1#1 else 0#1 := by
  revert n o
  decide +kernel

theorem kb (x : Vec Ideal S1x1x2048x512 .f32) (h n : Fin 8) (l : Fin 512) :
    k0_pay3 x (ix2 ⟨h.val * 8 + n.val, by omega⟩ l) = if l.val / 64 = h.val then Choose.mean (keysOf x) n l else 0 := by
  have e : ∀ l : Fin 512, Rows.floorDiv (BitVec.ofNat 32 l.val) 64#32 = BitVec.ofNat 32 (l.val / 64) := by decide +kernel
  pointwise [k0_pay3]
  change Scalar.select (IntOp.cmpi .eq (Rows.floorDiv (BitVec.ofNat 32 l.val) 64#32) (BitVec.ofNat 32 h.val)) _ _ = _
  rw [e, Rows.eq_small _ _ (by omega) (by omega), Cert.FoxIdeal.Soft.select_if]
  rfl

/-- A position's own block. -/
theorem own (h n : Fin 8) (t : Fin 2048) : k0_pay5 (ix3 h n t) = BitVec.ofNat 32 (t.val / 256) := by
  pointwise [k0_pay5]
  exact Rows.floor256 t

theorem p7 (q : Vec Ideal S1x2048x512 .f32) (k : Vec Ideal S1x1x2048x512 .f32) (h n : Fin 8) (t : Fin 2048) :
    k0_pay7 (k0_pay3 k) (k0_pay4 q) (constant S64x2048 .f32 0x00000000#32) (ix3 h n t)
      = Choose.pick (queriesOf q) (keysOf k) h t n := by
  pointwise [k0_pay7, k0_pay6, k0_pay4]
  rw [own, less n ⟨t.val / 256, by omega⟩, Cert.FoxIdeal.Soft.select_if, Cert.FoxIdeal.Soft.minus_inf]
  unfold Choose.pick
  refine if_congr Iff.rfl ?_ rfl
  rw [← Choose.ofHead h fun l => queriesOf q t l * Choose.mean (keysOf k) n l]
  refine Finset.sum_congr rfl fun l _ => ?_
  rw [kb, ite_mul, zero_mul, mul_comm]

/-- One comparison of the rank: position `m` comes before position `n`. -/
theorem bit (S : Fin 8 → EReal) (m n : Fin 8) :
    IntOp.ori (BitVec.ofBool (decide (S n < S m)))
      (IntOp.andi (BitVec.ofBool (decide (S m = S n))) (IntOp.cmpi .sgt (BitVec.ofNat 32 n.val) (BitVec.ofNat 32 m.val))) = 1#1
      ↔ Choose.first S m n = true := by
  rw [more]
  unfold Choose.first
  by_cases h1 : S n < S m <;> by_cases h2 : S m = S n <;> by_cases h3 : m < n <;>
    simp [h1, h2, h3, IntOp.ori, IntOp.andi]

/-- What is kept of the blocks, from their masked scores. -/
theorem keep (a : FVec Ideal S64x512 .f32) (b : FVec Ideal S2048x512 .f32) (c : FVec Ideal S64x2048 .f32) (h n : Fin 8) (t : Fin 2048) :
    k0_pay18 k0_pay5 (iota .tc S8x8x2048 32 [1] iota_S8x8x2048_d1_w32) k0_pay6 (k0_pay7 a b c)
      (k0_pay13 (iota .tc S8x8x2048 32 [1] iota_S8x8x2048_d1_w32) (k0_pay7 a b c) (k0_pay8 a b c) (k0_pay10 a b c) (k0_pay11 a b c) k0_pay12)
      (k0_pay15 (k0_pay7 a b c)) (k0_pay16 (k0_pay7 a b c)) k0_pay17 (ix2 ⟨h.val * 8 + n.val, by omega⟩ t)
      = if n.val < t.val / 256 → Choose.rank (fun m => k0_pay7 a b c (ix3 h m t)) n < 3 then 0 else ⊥ := by
  pointwise [k0_pay18, k0_pay17, k0_pay16, k0_pay15, k0_pay14, k0_pay13, k0_pay12, k0_pay11, k0_pay10, k0_pay9, k0_pay8, k0_pay6]
  generalize hS : (fun m : Fin 8 => k0_pay7 a b c (ix3 h m t)) = S
  have e : ∀ m, k0_pay7 a b c (ix3 h m t) = S m := fun m => congrFun hS m
  simp only [e]
  rw [own]
  have cnt := Choose.count fun m => IntOp.ori (BitVec.ofBool (decide (S n < S m)))
      (IntOp.andi (BitVec.ofBool (decide (S m = S n))) (IntOp.cmpi .sgt (BitVec.ofNat 32 n.val) (BitVec.ofNat 32 m.val)))
  simp only [bit] at cnt
  refine (congrArg (fun w => Scalar.select (IntOp.ori (IntOp.andi _ w) _) _ _) cnt).trans ?_
  rw [less n ⟨t.val / 256, by omega⟩, atLeast n ⟨t.val / 256, by omega⟩]
  show Scalar.select _ (0 : EReal) ⊥ = _
  unfold Choose.rank
  by_cases h1 : n.val < t.val / 256 <;> by_cases h2 : (Finset.univ.filter fun m => Choose.first S m n = true).card < 3 <;>
    simp [h1, h2, IntOp.ori, IntOp.andi, Scalar.select]

variable (q : Vec Ideal S1x2048x512 .f32) (k : Vec Ideal S1x1x2048x512 .f32)

/-- The kept blocks of the four pairs, by head and block. -/
def bias : FVec Ideal S64x2048 .f32 := k0_pay18 (k0_pay27 q k) (k0_pay26 q k) (k0_pay28 q k) (k0_pay29 q k) (k0_pay30 q k)
  (k0_pay31 q k) (k0_pay32 q k) (k0_pay33 q k)

open scoped Classical in
theorem bias_at (h n : Fin 8) (t : Fin 2048) :
    bias q k (ix2 ⟨h.val * 8 + n.val, by omega⟩ t) = if Choose.Kept (queriesOf q) (keysOf k) h t n.val then 0 else ⊥ := by
  refine (keep (k0_pay3 (View.ld k r0_0)) (k0_pay4 (View.ld q r0_1)) _ h n t).trans (if_congr ?_ rfl rfl)
  have e1 : keysOf (View.ld k r0_0) = keysOf k := by
    funext s l
    show View.ld k r0_0 (ix4 0 0 s l) = k (ix4 0 0 s l)
    pointwise []
  have e2 : queriesOf (View.ld q r0_1) = queriesOf q := by
    funext s l
    show View.ld q r0_1 (ix3 0 s l) = q (ix3 0 s l)
    pointwise []
  have e : (fun m => k0_pay7 (k0_pay3 (View.ld k r0_0)) (k0_pay4 (View.ld q r0_1)) (k0_pay23 q k) (ix3 h m t))
      = Choose.pick (queriesOf q) (keysOf k) h t := by
    funext m
    rw [← e1, ← e2]
    exact p7 _ _ h m t
  rw [e]
  rfl

/-- The result as one function: a pair's 16 rows turned into its first 16 lanes. -/
def lanes : S1x4x2048x128.Idx → Elt Ideal .bf16 := fun y =>
  if h : (y 3).val < 16 then bias q k (ix2 ⟨(y 1).val * 16 + (y 3).val, by have h1 : (y 1).val < 4 := (y 1).isLt; omega⟩ ⟨(y 2).val, (y 2).isLt⟩)
  else 0

/-- A pair's store is its block of lanes. -/
theorem store (p : Fin 4) (inb : ∀ a, ![0, p.val, 0, 0] a + S1x1x2048x128.size a ≤ S1x4x2048x128.size a)
    (P : Vec Ideal S1x1x2048x128 .bf16)
    (hP : ∀ (j : Fin 2048) (l : Fin 128), P (ix4 0 0 j l) = if h : l.val < 16 then bias q k (ix2 ⟨p.val * 16 + l.val, by omega⟩ j) else 0)
    (x : S1x1x2048x128.Idx) :
    P x = lanes q k ((Rect.unit (s := S1x4x2048x128) ![0, p.val, 0, 0] S1x1x2048x128.size inb).emb x) := by
  have e : x = ix4 0 0 (x 2) (x 3) := by
    funext a
    match a with
    | ⟨0, _⟩ => exact Fin.ext (Nat.lt_one_iff.mp (x 0).isLt)
    | ⟨1, _⟩ => exact Fin.ext (Nat.lt_one_iff.mp (x 1).isLt)
    | ⟨2, _⟩ => rfl
    | ⟨3, _⟩ => rfl
  rw [show P x = P (ix4 0 0 (x 2) (x 3)) from congrArg P e, hP (x 2) (x 3)]
  unfold lanes
  have h1 : (x 1).val = 0 := Nat.lt_one_iff.mp (x 1).isLt
  have h3 : 0 + 1 * (x 3).val = (x 3).val := by omega
  by_cases h : (x 3).val < 16
  · refine (dif_pos h).trans (Eq.trans ?_ (dif_pos (show 0 + 1 * (x 3).val < 16 by omega)).symm)
    congr 1
    funext a
    match a with
    | ⟨0, _⟩ => exact Fin.ext (show p.val * 16 + (x 3).val = (p.val + 1 * (x 1).val) * 16 + (0 + 1 * (x 3).val) by omega)
    | ⟨1, _⟩ => exact Fin.ext (show (x 2).val = 0 + 1 * (x 2).val by omega)
  · rw [dif_neg h]
    split
    · rename_i hh
      exact absurd (lt_of_eq_of_lt h3.symm hh) h
    · rfl

theorem piece (p : Fin 4) (j : Fin 2048) (l : Fin 128) :
    out0_2 q k (ix4 0 p j l) = if h : l.val < 16 then bias q k (ix2 ⟨p.val * 16 + l.val, by omega⟩ j) else 0 := by
  unfold out0_2
  refine View.canon_apply_of_pieces (lanes q k) _ ?_ _ (cover0_2 _ _ _ _ _)
  refine View.PiecesOf.mem ⟨store q k 3 inb_S1x4x2048x128_S1x1x2048x128_0_3_0_0 _ fun j l => ?_,
    store q k 2 inb_S1x4x2048x128_S1x1x2048x128_0_2_0_0 _ fun j l => ?_,
    store q k 1 inb_S1x4x2048x128_S1x1x2048x128_0_1_0_0 _ fun j l => ?_,
    store q k 0 inb_S1x4x2048x128_S1x1x2048x128_0_0_0_0 _ fun j l => ?_, trivial⟩
  · show k0_pay2 (bias q k) _ = _
    generalize bias q k = P
    pointwise [k0_pay2]
  · unfold k0_pay21
    show k0_pay1 (extractStridedSlice S16x2048 ![32, 0] (bias q k) slices_S64x2048_o32_0_S16x2048) k0_pay22 _ = _
    generalize bias q k = P
    pointwise [k0_pay1, k0_pay22]
  · unfold k0_pay20
    generalize hP : k0_pay18 (k0_pay27 q k) (k0_pay26 q k) (k0_pay28 q k) (k0_pay29 q k) (k0_pay30 q k) (k0_pay31 q k) (k0_pay32 q k) (k0_pay33 q k) = P
    rw [show bias q k = P from hP]
    pointwise []
  · unfold k0_pay19
    generalize hP : k0_pay18 (k0_pay27 q k) (k0_pay26 q k) (k0_pay28 q k) (k0_pay29 q k) (k0_pay30 q k) (k0_pay31 q k) (k0_pay32 q k) (k0_pay33 q k) = P
    rw [show bias q k = P from hP]
    pointwise []

/-- What the preparation leaves for a pair of heads. -/
theorem kx (p : Fin 4) (t : Fin 2048) (l : Fin 128) :
    out0_2 q k (ix4 0 p t l) = Rows.biased (fun h t n => Choose.Kept (queriesOf q) (keysOf k) ⟨2 * p.val + h.val, by omega⟩ t n) t l := by
  rw [piece]
  unfold Rows.biased
  by_cases h : l.val < 16
  · rw [dif_pos h, dif_pos h, ← bias_at q k ⟨2 * p.val + l.val / 8, by omega⟩ ⟨l.val % 8, by omega⟩ t]
    congr 1
    funext a
    match a with
    | ⟨0, _⟩ => exact Fin.ext (show p.val * 16 + l.val = (2 * p.val + l.val / 8) * 8 + l.val % 8 by omega)
    | ⟨1, _⟩ => rfl
  · rw [dif_neg h, dif_neg h]

end Cert.MobaIdeal.Prep
end
end
-- ==== Proof.MobaTile.lean ====
/- The tiles of the block-sparse attention: the rows each of the eight tiles stores, opened to the softmax of MobaSoftmax.lean
   over the tile's own key positions (masked to the causal ones) and the positions before them. -/
module

public import proofs.«01_k».proof.Proof.Gen.MobaIdeal.Frame
public import proofs.«01_k».proof.Proof.FoxRefRead
public import proofs.«01_k».proof.Proof.MobaSoftmax
public import Idealize.ShloMosaic.Lib.Pipeline.ValueKit
public import Idealize.ShloMosaic.Lib.Pointwise

@[expose] public section

set_option maxRecDepth 16384

noncomputable section

namespace Cert.MobaIdeal.Tile

open Cert.MobaIdeal Cert.MobaIdeal.Gen Idealize.ShloMosaic Idealize.ShloMosaic.TcCoe Idealize.SL.Sem

/-- The mask is minus infinity. -/
theorem mask : (Named.named (F := Ideal) (φ := .f32) κ "mask" 0xF149F2CA#32 : EReal) = ⊥ := rfl

theorem causal (r : Fin 512) (c : Fin 256) : k1_pay54 (ix2 r c) = if c.val ≤ r.val % 256 then 1#1 else 0#1 := by
  pointwise [k1_pay54]
  rw [← Cert.FoxIdeal.Soft.sle_small _ _ (by omega) (by omega)]
  congr 1
  revert r
  decide +kernel

theorem halves (r : Fin 256) (d : Fin 128) : k1_pay55 (ix2 r d) = if d.val < 64 then 1#1 else 0#1 := by
  pointwise [k1_pay55]
  revert d
  decide +kernel

section tiles

variable (q : Vec Ideal S1x512x256 .bf16) (kd : Vec Ideal S256x256 .bf16) (vd : Vec Ideal S256x128 .bf16) (r : Fin 256) (d : Fin 128)

/-- One row of scores against the tile's own keys, masked. -/
def own (r' : Fin 512) (c : Fin 256) : EReal :=
  Scalar.select (k1_pay54 (ix2 r' c)) (∑ x, q (ix3 0 r' x) * kd (ix2 c x)) (Named.named (F := Ideal) (φ := .f32) κ "mask" 0xF149F2CA#32)

/-- What the first tile stores: in the first 64 columns the row of the first head, in the others the second head's. -/
def start : EReal :=
  Scalar.select (k1_pay55 (ix2 r d)) (Cert.FoxIdeal.Soft.first (fun c => own q kd ⟨r.val, by omega⟩ c) fun c => vd (ix2 c d))
    (Cert.FoxIdeal.Soft.first (fun c => own q kd ⟨256 + r.val, by omega⟩ c) fun c => vd (ix2 c d))

/-- What a later tile stores. -/
def tile {lo : ℕ} (kp : Vec Ideal ⟨2, ![lo, 256]⟩ .bf16) (vp : Vec Ideal ⟨2, ![lo, 128]⟩ .bf16) : EReal :=
  Scalar.select (k1_pay55 (ix2 r d))
    (Cert.FoxIdeal.Soft.later (fun c => own q kd ⟨r.val, by omega⟩ c) (fun c => vd (ix2 c d))
      (fun c : Fin lo => ∑ x, q (ix3 0 ⟨r.val, by omega⟩ x) * kp (ix2 c x)) fun c => vp (ix2 c d))
    (Cert.FoxIdeal.Soft.later (fun c => own q kd ⟨256 + r.val, by omega⟩ c) (fun c => vd (ix2 c d))
      (fun c : Fin lo => ∑ x, q (ix3 0 ⟨256 + r.val, by omega⟩ x) * kp (ix2 c x)) fun c => vp (ix2 c d))

theorem tile0 : k1_pay56 k1_pay54 q kd vd (ix3 0 r d) = start q kd vd r d := by
  unfold start Cert.FoxIdeal.Soft.first
  rw [← Cert.FoxIdeal.Soft.minus_inf]
  pointwise [k1_pay56, k1_pay55, own]

theorem tile1 (kp : Vec Ideal S256x256 .bf16) (vp : Vec Ideal S256x128 .bf16) :
    k1_pay60 k1_pay55 (k1_pay57 q) (k1_pay58 k1_pay54 q kd) (k1_pay59 k1_pay54 q kd) kp vd vp (ix3 0 r d) = tile q kd vd r d kp vp := by
  unfold tile Cert.FoxIdeal.Soft.later
  rw [← Cert.FoxIdeal.Soft.minus_inf]
  pointwise [k1_pay60, k1_pay59, k1_pay58, k1_pay57, own]

theorem tile2 (kp : Vec Ideal S512x256 .bf16) (vp : Vec Ideal S512x128 .bf16) :
    k1_pay63 k1_pay54 k1_pay55 (k1_pay61 q) (k1_pay62 q kd) (Named.named κ "mask" 0xF149F2CA#32) kp vd vp (ix3 0 r d) = tile q kd vd r d kp vp := by
  unfold tile Cert.FoxIdeal.Soft.later
  rw [← Cert.FoxIdeal.Soft.minus_inf]
  pointwise [k1_pay63, k1_pay62, k1_pay61, own]

theorem tile3 (kp : Vec Ideal S768x256 .bf16) (vp : Vec Ideal S768x128 .bf16) :
    k1_pay65 k1_pay54 k1_pay55 (k1_pay64 q) kd kp vd vp (ix3 0 r d) = tile q kd vd r d kp vp := by
  unfold tile Cert.FoxIdeal.Soft.later
  rw [← Cert.FoxIdeal.Soft.minus_inf]
  pointwise [k1_pay65, k1_pay64, own]

theorem tile4 (kp : Vec Ideal S1024x256 .bf16) (vp : Vec Ideal S1024x128 .bf16) :
    k1_pay66 k1_pay54 k1_pay55 q kd kp vd vp (ix3 0 r d) = tile q kd vd r d kp vp := by
  unfold tile Cert.FoxIdeal.Soft.later
  rw [← Cert.FoxIdeal.Soft.minus_inf]
  pointwise [k1_pay66, own]

theorem tile5 (kp : Vec Ideal S1280x256 .bf16) (vp : Vec Ideal S1280x128 .bf16) :
    k1_pay68 (k1_pay67 k1_pay54 k1_pay55 q kd kp vd vp) (ix3 0 r d) = tile q kd vd r d kp vp := by
  unfold tile Cert.FoxIdeal.Soft.later
  rw [← Cert.FoxIdeal.Soft.minus_inf]
  pointwise [k1_pay68, k1_pay67, own]

theorem tile6 (kp : Vec Ideal S1536x256 .bf16) (vp : Vec Ideal S1536x128 .bf16) :
    k1_pay72 k1_pay55 (k1_pay70 k1_pay54 q kd kp vd vp) (k1_pay71 k1_pay54 q kd kp vd vp) (ix3 0 r d) = tile q kd vd r d kp vp := by
  unfold tile Cert.FoxIdeal.Soft.later
  rw [← Cert.FoxIdeal.Soft.minus_inf]
  pointwise [k1_pay72, k1_pay71, k1_pay70, k1_pay69, own]

theorem tile7 (kp : Vec Ideal S1792x256 .bf16) (vp : Vec Ideal S1792x128 .bf16) :
    k1_pay1 k1_pay55 (k1_pay79 k1_pay54 q kd kp) (k1_pay80 k1_pay54 q kd kp vd vp) (ix3 0 r d) = tile q kd vd r d kp vp := by
  unfold tile Cert.FoxIdeal.Soft.later
  rw [← Cert.FoxIdeal.Soft.minus_inf]
  pointwise [k1_pay1, k1_pay80, k1_pay79, k1_pay78, k1_pay77, k1_pay76, k1_pay75, k1_pay74, k1_pay73, own]

end tiles

/-- The rows a later tile stores, from the scores of its row pairs. -/
theorem tile_eq {lo : ℕ} (q : Vec Ideal S1x512x256 .bf16) (kd : Vec Ideal S256x256 .bf16) (vd : Vec Ideal S256x128 .bf16)
    (kp : Vec Ideal ⟨2, ![lo, 256]⟩ .bf16) (vp : Vec Ideal ⟨2, ![lo, 128]⟩ .bf16) (r : Fin 256) (d : Fin 128)
    (σ : Fin 2 → ℕ → ℝ) (K : Fin 2 → ℕ → Prop) (w : ℕ → EReal)
    (hK : ∀ h, K h (lo + r.val))
    (hd : ∀ (h : Fin 2) (c : Fin 256), ∑ x, q (ix3 0 ⟨256 * h.val + r.val, by omega⟩ x) * kd (ix2 c x) = Soft.sc (σ h) (K h) (lo + c.val))
    (hp : ∀ (h : Fin 2) (c : Fin lo), ∑ x, q (ix3 0 ⟨256 * h.val + r.val, by omega⟩ x) * kp (ix2 c x) = Soft.sc (σ h) (K h) c.val)
    (hvd : ∀ c : Fin 256, vd (ix2 c d) = w (lo + c.val)) (hvp : ∀ c : Fin lo, vp (ix2 c d) = w c.val) :
    tile q kd vd r d kp vp = Soft.krow (σ ⟨d.val / 64, by omega⟩) (K ⟨d.val / 64, by omega⟩) w (lo + r.val) := by
  unfold tile own
  rw [halves, Cert.FoxIdeal.Soft.select_if]
  simp only [mask, causal, Cert.FoxIdeal.Soft.select_if]
  split
  · rename_i h
    rw [show (⟨d.val / 64, by omega⟩ : Fin 2) = 0 from Fin.ext (show d.val / 64 = 0 by omega)]
    refine Soft.later_eq _ _ _ _ _ _ _ r (hK 0) (fun c => ?_) (fun c => ?_) hvd hvp
    · rw [← hd 0 c]
      refine if_congr (by rw [Nat.mod_eq_of_lt r.isLt]) ?_ rfl
      exact Finset.sum_congr rfl fun x _ => by congr 3; exact Fin.ext (by simp)
    · rw [← hp 0 c]
      exact Finset.sum_congr rfl fun x _ => by congr 3; exact Fin.ext (by simp)
  · rename_i h
    rw [show (⟨d.val / 64, by omega⟩ : Fin 2) = 1 from Fin.ext (show d.val / 64 = 1 by omega)]
    refine Soft.later_eq _ _ _ _ _ _ _ r (hK 1) (fun c => ?_) (fun c => ?_) hvd hvp
    · rw [← hd 1 c]
      exact if_congr (by rw [Nat.add_mod_left, Nat.mod_eq_of_lt r.isLt]) rfl rfl
    · rw [← hp 1 c]
      rfl

theorem start_eq (q : Vec Ideal S1x512x256 .bf16) (kd : Vec Ideal S256x256 .bf16) (vd : Vec Ideal S256x128 .bf16)
    (r : Fin 256) (d : Fin 128) (σ : Fin 2 → ℕ → ℝ) (K : Fin 2 → ℕ → Prop) (w : ℕ → EReal)
    (hK : ∀ h, K h (0 + r.val))
    (hd : ∀ (h : Fin 2) (c : Fin 256), ∑ x, q (ix3 0 ⟨256 * h.val + r.val, by omega⟩ x) * kd (ix2 c x) = Soft.sc (σ h) (K h) (0 + c.val))
    (hvd : ∀ c : Fin 256, vd (ix2 c d) = w (0 + c.val)) :
    start q kd vd r d = Soft.krow (σ ⟨d.val / 64, by omega⟩) (K ⟨d.val / 64, by omega⟩) w (0 + r.val) := by
  simp only [zero_add] at hd hvd hK ⊢
  unfold start own
  rw [halves, Cert.FoxIdeal.Soft.select_if]
  simp only [mask, causal, Cert.FoxIdeal.Soft.select_if]
  split
  · rename_i h
    rw [show (⟨d.val / 64, by omega⟩ : Fin 2) = 0 from Fin.ext (show d.val / 64 = 0 by omega)]
    refine Soft.first_eq _ _ _ _ _ r (hK 0) (fun c => ?_) hvd
    rw [← hd 0 c]
    refine if_congr (by rw [Nat.mod_eq_of_lt r.isLt]) ?_ rfl
    exact Finset.sum_congr rfl fun x _ => by congr 3; exact Fin.ext (by simp)
  · rename_i h
    rw [show (⟨d.val / 64, by omega⟩ : Fin 2) = 1 from Fin.ext (show d.val / 64 = 1 by omega)]
    refine Soft.first_eq _ _ _ _ _ r (hK 1) (fun c => ?_) hvd
    rw [← hd 1 c]
    exact if_congr (by rw [Nat.add_mod_left, Nat.mod_eq_of_lt r.isLt]) rfl rfl

end Cert.MobaIdeal.Tile
end
end
-- ==== Proof.MobaPoint.lean ====
/- What the attention body stores at a grid point: for each head of the pair and each row, the softmax over the kept
   positions up to it of the pair's scores, weighting the values. The scratch buffers are read back from the body's stores. -/
module

public import proofs.«01_k».proof.Proof.Gen.MobaIdeal.Frame
public import proofs.«01_k».proof.Proof.MobaTile
public import proofs.«01_k».proof.Proof.MobaRows
public import Idealize.ShloMosaic.Lib.Pipeline.ValueKit
public import Idealize.ShloMosaic.Lib.Pointwise
public import Idealize.ShloMosaic.Lib.Pipeline.ReadBack

@[expose] public section

set_option maxRecDepth 16384

noncomputable section

namespace Cert.MobaIdeal.Point

open Cert.MobaIdeal Cert.MobaIdeal.Gen Idealize.ShloMosaic Idealize.ShloMosaic.TcCoe Idealize.SL.Sem
open Cert.MobaIdeal.Rows Cert.MobaIdeal.Tile

/-- The stores into the first scratch buffer, last first. -/
abbrev queryStores (q : Vec Ideal S1x2048x128 .f32) (x : Vec Ideal S1x1x2048x128 .bf16) :
    List (View.Piece (Elt Ideal) S8x512x256 .bf16) :=
  [⟨Rect.unit (s := S8x512x256) ![7, 256, 128] S1x256x128.size inb_S8x512x256_S1x256x128_7_256_128, k1_pay53 (k1_pay9 x)⟩,
    ⟨Rect.unit (s := S8x512x256) ![7, 256, 0] S1x256x128.size inb_S8x512x256_S1x256x128_7_256_0, k1_pay52 (k1_pay5 q)⟩,
    ⟨Rect.unit (s := S8x512x256) ![7, 0, 128] S1x256x128.size inb_S8x512x256_S1x256x128_7_0_128, k1_pay51 (k1_pay8 x)⟩,
    ⟨Rect.unit (s := S8x512x256) ![7, 0, 0] S1x256x128.size inb_S8x512x256_S1x256x128_7_0_0, k1_pay50 (k1_pay4 q)⟩,
    ⟨Rect.unit (s := S8x512x256) ![6, 256, 128] S1x256x128.size inb_S8x512x256_S1x256x128_6_256_128, k1_pay49 (k1_pay48 (k1_pay9 x))⟩,
    ⟨Rect.unit (s := S8x512x256) ![6, 256, 0] S1x256x128.size inb_S8x512x256_S1x256x128_6_256_0, k1_pay47 (k1_pay5 q)⟩,
    ⟨Rect.unit (s := S8x512x256) ![6, 0, 128] S1x256x128.size inb_S8x512x256_S1x256x128_6_0_128, k1_pay46 (k1_pay8 x)⟩,
    ⟨Rect.unit (s := S8x512x256) ![6, 0, 0] S1x256x128.size inb_S8x512x256_S1x256x128_6_0_0, k1_pay45 (k1_pay4 q)⟩,
    ⟨Rect.unit (s := S8x512x256) ![5, 256, 128] S1x256x128.size inb_S8x512x256_S1x256x128_5_256_128, k1_pay44 (k1_pay9 x)⟩,
    ⟨Rect.unit (s := S8x512x256) ![5, 256, 0] S1x256x128.size inb_S8x512x256_S1x256x128_5_256_0, k1_pay43 (k1_pay5 q)⟩,
    ⟨Rect.unit (s := S8x512x256) ![5, 0, 128] S1x256x128.size inb_S8x512x256_S1x256x128_5_0_128, k1_pay42 (k1_pay8 x)⟩,
    ⟨Rect.unit (s := S8x512x256) ![5, 0, 0] S1x256x128.size inb_S8x512x256_S1x256x128_5_0_0, k1_pay41 (k1_pay40 (k1_pay4 q))⟩,
    ⟨Rect.unit (s := S8x512x256) ![4, 256, 128] S1x256x128.size inb_S8x512x256_S1x256x128_4_256_128, k1_pay39 (k1_pay9 x)⟩,
    ⟨Rect.unit (s := S8x512x256) ![4, 256, 0] S1x256x128.size inb_S8x512x256_S1x256x128_4_256_0, k1_pay38 (k1_pay5 q)⟩,
    ⟨Rect.unit (s := S8x512x256) ![4, 0, 128] S1x256x128.size inb_S8x512x256_S1x256x128_4_0_128, k1_pay37 (k1_pay8 x)⟩,
    ⟨Rect.unit (s := S8x512x256) ![4, 0, 0] S1x256x128.size inb_S8x512x256_S1x256x128_4_0_0, k1_pay36 (k1_pay4 q)⟩,
    ⟨Rect.unit (s := S8x512x256) ![3, 256, 128] S1x256x128.size inb_S8x512x256_S1x256x128_3_256_128, k1_pay35 (k1_pay9 x)⟩,
    ⟨Rect.unit (s := S8x512x256) ![3, 256, 0] S1x256x128.size inb_S8x512x256_S1x256x128_3_256_0, k1_pay34 (k1_pay5 q)⟩,
    ⟨Rect.unit (s := S8x512x256) ![3, 0, 128] S1x256x128.size inb_S8x512x256_S1x256x128_3_0_128, k1_pay33 (k1_pay8 x)⟩,
    ⟨Rect.unit (s := S8x512x256) ![3, 0, 0] S1x256x128.size inb_S8x512x256_S1x256x128_3_0_0, k1_pay32 (k1_pay31 (k1_pay4 q))⟩,
    ⟨Rect.unit (s := S8x512x256) ![2, 256, 128] S1x256x128.size inb_S8x512x256_S1x256x128_2_256_128, k1_pay30 (k1_pay9 x)⟩,
    ⟨Rect.unit (s := S8x512x256) ![2, 256, 0] S1x256x128.size inb_S8x512x256_S1x256x128_2_256_0, k1_pay29 (k1_pay5 q)⟩,
    ⟨Rect.unit (s := S8x512x256) ![2, 0, 128] S1x256x128.size inb_S8x512x256_S1x256x128_2_0_128, k1_pay28 (k1_pay8 x)⟩,
    ⟨Rect.unit (s := S8x512x256) ![2, 0, 0] S1x256x128.size inb_S8x512x256_S1x256x128_2_0_0, k1_pay27 (k1_pay4 q)⟩,
    ⟨Rect.unit (s := S8x512x256) ![1, 256, 128] S1x256x128.size inb_S8x512x256_S1x256x128_1_256_128, k1_pay26 (k1_pay9 x)⟩,
    ⟨Rect.unit (s := S8x512x256) ![1, 256, 0] S1x256x128.size inb_S8x512x256_S1x256x128_1_256_0, k1_pay25 (k1_pay5 q)⟩,
    ⟨Rect.unit (s := S8x512x256) ![1, 0, 128] S1x256x128.size inb_S8x512x256_S1x256x128_1_0_128, k1_pay24 (k1_pay23 (k1_pay8 x))⟩,
    ⟨Rect.unit (s := S8x512x256) ![1, 0, 0] S1x256x128.size inb_S8x512x256_S1x256x128_1_0_0, k1_pay22 (k1_pay4 q)⟩,
    ⟨Rect.unit (s := S8x512x256) ![0, 256, 128] S1x256x128.size inb_S8x512x256_S1x256x128_0_256_128, k1_pay21 (k1_pay9 x)⟩,
    ⟨Rect.unit (s := S8x512x256) ![0, 256, 0] S1x256x128.size inb_S8x512x256_S1x256x128_0_256_0, k1_pay20 (k1_pay5 q)⟩,
    ⟨Rect.unit (s := S8x512x256) ![0, 0, 128] S1x256x128.size inb_S8x512x256_S1x256x128_0_0_128, k1_pay19 (k1_pay8 x)⟩,
    ⟨Rect.unit (s := S8x512x256) ![0, 0, 0] S1x256x128.size inb_S8x512x256_S1x256x128_0_0_0, k1_pay18 (k1_pay4 q)⟩]

theorem queries_at (q : Vec Ideal S1x2048x128 .f32) (x : Vec Ideal S1x1x2048x128 .bf16) (y) :
    View.canon (queryStores q x) y = stacked q x y := by
  refine View.canon_apply_of_pieces (stacked q x) (queryStores q x) ?_ y
    (View.cover_of_tiled (queryStores q x) S1x256x128.size (by sl_kernel_rfl) y)
  refine View.PiecesOf.mem ⟨qpiece q x 7 1 1 inb_S8x512x256_S1x256x128_7_256_128 _ fun r l => by pointwise [k1_pay53, queries],
    qpiece q x 7 1 0 inb_S8x512x256_S1x256x128_7_256_0 _ fun r l => by pointwise [k1_pay52, queries],
    qpiece q x 7 0 1 inb_S8x512x256_S1x256x128_7_0_128 _ fun r l => by pointwise [k1_pay51, queries],
    qpiece q x 7 0 0 inb_S8x512x256_S1x256x128_7_0_0 _ fun r l => by pointwise [k1_pay50, queries],
    qpiece q x 6 1 1 inb_S8x512x256_S1x256x128_6_256_128 _ fun r l => by pointwise [k1_pay49, k1_pay48, queries],
    qpiece q x 6 1 0 inb_S8x512x256_S1x256x128_6_256_0 _ fun r l => by pointwise [k1_pay47, queries],
    qpiece q x 6 0 1 inb_S8x512x256_S1x256x128_6_0_128 _ fun r l => by pointwise [k1_pay46, queries],
    qpiece q x 6 0 0 inb_S8x512x256_S1x256x128_6_0_0 _ fun r l => by pointwise [k1_pay45, queries],
    qpiece q x 5 1 1 inb_S8x512x256_S1x256x128_5_256_128 _ fun r l => by pointwise [k1_pay44, queries],
    qpiece q x 5 1 0 inb_S8x512x256_S1x256x128_5_256_0 _ fun r l => by pointwise [k1_pay43, queries],
    qpiece q x 5 0 1 inb_S8x512x256_S1x256x128_5_0_128 _ fun r l => by pointwise [k1_pay42, queries],
    qpiece q x 5 0 0 inb_S8x512x256_S1x256x128_5_0_0 _ fun r l => by pointwise [k1_pay41, k1_pay40, queries],
    qpiece q x 4 1 1 inb_S8x512x256_S1x256x128_4_256_128 _ fun r l => by pointwise [k1_pay39, queries],
    qpiece q x 4 1 0 inb_S8x512x256_S1x256x128_4_256_0 _ fun r l => by pointwise [k1_pay38, queries],
    qpiece q x 4 0 1 inb_S8x512x256_S1x256x128_4_0_128 _ fun r l => by pointwise [k1_pay37, queries],
    qpiece q x 4 0 0 inb_S8x512x256_S1x256x128_4_0_0 _ fun r l => by pointwise [k1_pay36, queries],
    qpiece q x 3 1 1 inb_S8x512x256_S1x256x128_3_256_128 _ fun r l => by pointwise [k1_pay35, queries],
    qpiece q x 3 1 0 inb_S8x512x256_S1x256x128_3_256_0 _ fun r l => by pointwise [k1_pay34, queries],
    qpiece q x 3 0 1 inb_S8x512x256_S1x256x128_3_0_128 _ fun r l => by pointwise [k1_pay33, queries],
    qpiece q x 3 0 0 inb_S8x512x256_S1x256x128_3_0_0 _ fun r l => by pointwise [k1_pay32, k1_pay31, queries],
    qpiece q x 2 1 1 inb_S8x512x256_S1x256x128_2_256_128 _ fun r l => by pointwise [k1_pay30, queries],
    qpiece q x 2 1 0 inb_S8x512x256_S1x256x128_2_256_0 _ fun r l => by pointwise [k1_pay29, queries],
    qpiece q x 2 0 1 inb_S8x512x256_S1x256x128_2_0_128 _ fun r l => by pointwise [k1_pay28, queries],
    qpiece q x 2 0 0 inb_S8x512x256_S1x256x128_2_0_0 _ fun r l => by pointwise [k1_pay27, queries],
    qpiece q x 1 1 1 inb_S8x512x256_S1x256x128_1_256_128 _ fun r l => by pointwise [k1_pay26, queries],
    qpiece q x 1 1 0 inb_S8x512x256_S1x256x128_1_256_0 _ fun r l => by pointwise [k1_pay25, queries],
    qpiece q x 1 0 1 inb_S8x512x256_S1x256x128_1_0_128 _ fun r l => by pointwise [k1_pay24, k1_pay23, queries],
    qpiece q x 1 0 0 inb_S8x512x256_S1x256x128_1_0_0 _ fun r l => by pointwise [k1_pay22, queries],
    qpiece q x 0 1 1 inb_S8x512x256_S1x256x128_0_256_128 _ fun r l => by pointwise [k1_pay21, queries],
    qpiece q x 0 1 0 inb_S8x512x256_S1x256x128_0_256_0 _ fun r l => by pointwise [k1_pay20, queries],
    qpiece q x 0 0 1 inb_S8x512x256_S1x256x128_0_0_128 _ fun r l => by pointwise [k1_pay19, queries],
    qpiece q x 0 0 0 inb_S8x512x256_S1x256x128_0_0_0 _ fun r l => by pointwise [k1_pay18, queries], trivial⟩

/-- The stores into the second scratch buffer, last first. -/
abbrev keyStores (k : Vec Ideal S1x1x2048x128 .f32) :
    List (View.Piece (Elt Ideal) S2048x256 .bf16) :=
  [⟨Rect.unit (s := S2048x256) ![0, 128] S2048x128.size inb_S2048x256_S2048x128_0_128, k1_pay16 marks⟩,
    ⟨Rect.unit (s := S2048x256) ![0, 0] S2048x128.size inb_S2048x256_S2048x128_0_0, k1_pay15 k⟩]

/-- The second scratch buffer by its own coordinates. -/
def sided (k : Vec Ideal S1x1x2048x128 .f32) : S2048x256.Idx → Elt Ideal .bf16 :=
  fun y => keys k ⟨(y 0).val, (y 0).isLt⟩ ⟨(y 1).val, (y 1).isLt⟩

theorem kpiece (k : Vec Ideal S1x1x2048x128 .f32) (p : Fin 2)
    (inb : ∀ a, ![0, 128 * p.val] a + S2048x128.size a ≤ S2048x256.size a) (P : Vec Ideal S2048x128 .bf16)
    (hP : ∀ s l, P (ix2 s l) = keys k s ⟨128 * p.val + l.val, by omega⟩) (z : S2048x128.Idx) :
    P z = sided k ((Rect.unit (s := S2048x256) ![0, 128 * p.val] S2048x128.size inb).emb z) := by
  have e : z = ix2 (z 0) (z 1) := by
    funext a
    match a with
    | ⟨0, _⟩ => rfl
    | ⟨1, _⟩ => rfl
  rw [show P z = P (ix2 (z 0) (z 1)) from congrArg P e, hP (z 0) (z 1)]
  unfold sided
  congr 1
  · exact Fin.ext (show (z 0).val = 0 + 1 * (z 0).val by omega)
  · exact Fin.ext (show 128 * p.val + (z 1).val = 128 * p.val + 1 * (z 1).val by omega)

theorem keys_at (k : Vec Ideal S1x1x2048x128 .f32) (y) :
    View.canon (keyStores k) y = sided k y := by
  refine View.canon_apply_of_pieces (sided k) (keyStores k) ?_ y
    (View.cover_of_tiled (keyStores k) S2048x128.size (by sl_kernel_rfl) y)
  refine View.PiecesOf.mem ⟨kpiece k 1 inb_S2048x256_S2048x128_0_128 _ fun s l => ?_,
    kpiece k 0 inb_S2048x256_S2048x128_0_0 _ fun s l => ?_, trivial⟩
  · unfold keys
    rw [dif_neg (show ¬ 128 * (1 : Fin 2).val + l.val < 128 from (show ¬ 128 * 1 + l.val < 128 by omega))]
    pointwise [k1_pay16]
  · unfold keys
    rw [dif_pos (show 128 * (0 : Fin 2).val + l.val < 128 from (show 128 * 0 + l.val < 128 by omega))]
    pointwise [k1_pay15]

/-- The third scratch buffer: the values. -/
def plain (v : Vec Ideal S1x1x2048x128 .f32) : S2048x128.Idx → Elt Ideal .bf16 :=
  fun y => v (ix4 0 0 ⟨(y 0).val, (y 0).isLt⟩ ⟨(y 1).val, (y 1).isLt⟩)

abbrev valueStores (v : Vec Ideal S1x1x2048x128 .f32) : List (View.Piece (Elt Ideal) S2048x128 .bf16) :=
  [⟨Rect.unit (s := S2048x128) ![0, 0] S2048x128.size inb_S2048x128_S2048x128_0_0, k1_pay17 v⟩]

theorem values_at (v : Vec Ideal S1x1x2048x128 .f32) (y) : View.canon (valueStores v) y = plain v y := by
  refine View.canon_apply_of_pieces (plain v) (valueStores v) ?_ y
    (View.cover_of_tiled (valueStores v) S2048x128.size (by sl_kernel_rfl) y)
  refine View.PiecesOf.mem ⟨fun z => ?_, trivial⟩
  have e : z = ix2 (z 0) (z 1) := by
    funext a
    match a with
    | ⟨0, _⟩ => rfl
    | ⟨1, _⟩ => rfl
  have h : ∀ s l, k1_pay17 v (ix2 s l) = v (ix4 0 0 s l) := fun s l => by pointwise [k1_pay17]
  refine (congrArg (k1_pay17 v) e).trans ((h (z 0) (z 1)).trans ?_)
  unfold plain
  congr 1
  funext a
  match a with
  | ⟨0, _⟩ => rfl
  | ⟨1, _⟩ => rfl
  | ⟨2, _⟩ => exact Fin.ext (show (z 0).val = 0 + 1 * (z 0).val by omega)
  | ⟨3, _⟩ => exact Fin.ext (show (z 1).val = 0 + 1 * (z 1).val by omega)

/-- A row of numbers continued by zero. -/
def along {α : Type} [Zero α] (f : Fin 2048 → α) (n : ℕ) : α := if h : n < 2048 then f ⟨n, h⟩ else 0

section body

variable (q : Vec Ideal S1x2048x128 .f32) (k v : Vec Ideal S1x1x2048x128 .f32) (x : Vec Ideal S1x1x2048x128 .bf16)
  (Q : Fin 2048 → Fin 128 → ℝ) (K : Fin 2048 → Fin 128 → ℝ) (B : Fin 2 → Fin 2048 → ℕ → Prop)
  (hq : ∀ s l, q (ix3 0 s l) = ((Q s l : ℝ) : EReal)) (hk : ∀ s l, k (ix4 0 0 s l) = ((K s l : ℝ) : EReal))
  (hx : ∀ s l, x (ix4 0 0 s l) = biased B s l)
  (AA : (Z : LoadRect S8x512x256) → Z.shape.Idx → Elt Ideal .bf16)
  (BB : (Z : LoadRect S2048x256) → Z.shape.Idx → Elt Ideal .bf16)
  (CC : (Z : LoadRect S2048x128) → Z.shape.Idx → Elt Ideal .bf16)
  (hA : ∀ Z j, AA Z j = stacked q x (Z.idx j)) (hB : ∀ Z j, BB Z j = sided k (Z.idx j))
  (hC : ∀ Z j, CC Z j = plain v (Z.idx j))

include hq hk hx hA hB in
/-- The score of a loaded row with a loaded key. -/
theorem score (i : Fin 8) (inbq : ∀ a, ![i.val, 0, 0] a + S1x512x256.size a ≤ S8x512x256.size a) (r : Fin 256) (lo n : ℕ)
    (inbk : ∀ a, ![lo, 0] a + ![n, 256] a ≤ S2048x256.size a) (h : Fin 2) (c : Fin n) :
    ∑ j : Fin 256, (AA (Rect.unit (s := S8x512x256) ![i.val, 0, 0] S1x512x256.size inbq).toLoadRect
        (ix3 (0 : Fin 1) ⟨256 * h.val + r.val, by omega⟩ j) : EReal)
      * (BB (Rect.unit (s := S2048x256) ![lo, 0] ![n, 256] inbk).toLoadRect (ix2 c j) : EReal)
      = Soft.sc (along (pairScore Q K h ⟨256 * i.val + r.val, by omega⟩)) (fun n => B h ⟨256 * i.val + r.val, by omega⟩ (n / 256)) (lo + c.val) := by
  have hlo : lo + n ≤ 2048 := inbk 0
  have hc : lo + c.val < 2048 := by omega
  unfold Soft.sc along
  rw [dif_pos hc]
  refine Eq.trans ?_ (dot q k x Q K B hq hk hx i h r ⟨lo + c.val, hc⟩)
  refine Finset.sum_congr rfl fun j _ => congrArg₂ (· * ·) ((hA _ _).trans ?_) ((hB _ _).trans ?_)
  · unfold stacked
    congr 1
    · exact Fin.ext (show (0 + 1 * (256 * h.val + r.val)) / 256 = h.val by omega)
    · exact Fin.ext (show (0 + 1 * j.val) / 128 = j.val / 128 by omega)
    · exact Fin.ext (show (0 + 1 * (256 * h.val + r.val)) % 256 = r.val by omega)
    · exact Fin.ext (show (0 + 1 * j.val) % 128 = j.val % 128 by omega)
  · unfold sided
    congr 1
    · exact Fin.ext (show lo + 1 * c.val = lo + c.val by omega)
    · exact Fin.ext (show 0 + 1 * j.val = j.val by omega)

include hC in
theorem value (lo n : ℕ) (inbk : ∀ a, ![lo, 0] a + ![n, 128] a ≤ S2048x128.size a) (c : Fin n) (d : Fin 128) :
    CC (Rect.unit (s := S2048x128) ![lo, 0] ![n, 128] inbk).toLoadRect (ix2 c d)
      = along (fun s => (v (ix4 0 0 s d) : EReal)) (lo + c.val) := by
  have hlo : lo + n ≤ 2048 := inbk 0
  have hc : lo + c.val < 2048 := by omega
  unfold along
  rw [dif_pos hc]
  refine (hC _ _).trans ?_
  unfold plain
  congr 1
  funext a
  match a with
  | ⟨0, _⟩ => rfl
  | ⟨1, _⟩ => rfl
  | ⟨2, _⟩ => exact Fin.ext (show lo + 1 * c.val = lo + c.val by omega)
  | ⟨3, _⟩ => exact Fin.ext (show 0 + 1 * d.val = d.val by omega)

/-- What the body leaves: the weighted values of every row. -/
def rows : S1x2048x128.Idx → Elt Ideal .bf16 := fun y =>
  Soft.krow (along (pairScore Q K ⟨(y 2).val / 64, by have h : (y 2).val < 128 := (y 2).isLt; omega⟩ ⟨(y 1).val, (y 1).isLt⟩))
    (fun n => B ⟨(y 2).val / 64, by have h : (y 2).val < 128 := (y 2).isLt; omega⟩ ⟨(y 1).val, (y 1).isLt⟩ (n / 256))
    (along fun s => (v (ix4 0 0 s ⟨(y 2).val, (y 2).isLt⟩) : EReal)) (y 1).val

theorem opiece (i : Fin 8) (inb : ∀ a, ![0, 256 * i.val, 0] a + S1x256x128.size a ≤ S1x2048x128.size a)
    (P : Vec Ideal S1x256x128 .bf16)
    (hP : ∀ (r : Fin 256) (d : Fin 128), P (ix3 0 r d)
      = Soft.krow (along (pairScore Q K ⟨d.val / 64, by omega⟩ ⟨256 * i.val + r.val, by omega⟩))
        (fun n => B ⟨d.val / 64, by omega⟩ ⟨256 * i.val + r.val, by omega⟩ (n / 256))
        (along fun s => (v (ix4 0 0 s d) : EReal)) (256 * i.val + r.val)) (z : S1x256x128.Idx) :
    P z = rows v Q K B ((Rect.unit (s := S1x2048x128) ![0, 256 * i.val, 0] S1x256x128.size inb).emb z) := by
  have h0 : (z 0).val = 0 := Nat.lt_one_iff.mp (z 0).isLt
  have e : z = ix3 0 (z 1) (z 2) := by
    funext a
    match a with
    | ⟨0, _⟩ => exact Fin.ext h0
    | ⟨1, _⟩ => rfl
    | ⟨2, _⟩ => rfl
  rw [show P z = P (ix3 0 (z 1) (z 2)) from congrArg P e, hP (z 1) (z 2)]
  unfold rows
  have e1 : (((Rect.unit (s := S1x2048x128) ![0, 256 * i.val, 0] S1x256x128.size inb).emb z) 1).val = 256 * i.val + (z 1).val :=
    show 256 * i.val + 1 * (z 1).val = _ by omega
  have e2 : (((Rect.unit (s := S1x2048x128) ![0, 256 * i.val, 0] S1x256x128.size inb).emb z) 2).val = (z 2).val :=
    show 0 + 1 * (z 2).val = _ by omega
  simp only [e1, e2]
  rfl

end body

variable (V : (c : Dev nD) → (b : Ref sig .tc) → Buf (Elt Ideal) ((c : Thread nD τ).loc b))

set_option maxHeartbeats 4000000 in
/-- The body's result at a grid point, from the point's four blocks. -/
theorem point (c : Dev nD) (t : Fin cfg1.N) (Q : Fin 2048 → Fin 128 → ℝ) (K : Fin 2048 → Fin 128 → ℝ)
    (B : Fin 2 → Fin 2048 → ℕ → Prop)
    (hq : ∀ s l, (iblk1 V c 0 t : Vec Ideal S1x2048x128 .f32) (ix3 0 s l) = ((Q s l : ℝ) : EReal))
    (hk : ∀ s l, (iblk1 V c 1 t : Vec Ideal S1x1x2048x128 .f32) (ix4 0 0 s l) = ((K s l : ℝ) : EReal))
    (hx : ∀ s l, (iblk1 V c 3 t : Vec Ideal S1x1x2048x128 .bf16) (ix4 0 0 s l) = biased B s l)
    (hown : ∀ (h : Fin 2) (t : Fin 2048), B h t (t.val / 256)) (y) :
    outsAt1 (F := Ideal) V c t y = rows (iblk1 V c 2 t) Q K B y := by
  unfold outsAt1
  frame_out
  revert hq hk hx
  generalize iblk1 V c 0 t = q
  generalize iblk1 V c 1 t = k
  generalize iblk1 V c 2 t = v
  generalize iblk1 V c 3 t = x
  intro hq hk hx
  generalize hA : View.readCov (Val := Elt Ideal) (View.whole cc1_scratch0) _ = AA
  generalize hB : View.readCov (Val := Elt Ideal) (View.whole cc1_scratch1) _ = BB
  generalize hC : View.readCov (Val := Elt Ideal) (View.whole cc1_scratch2) _ = CC
  have hA' : ∀ (Z : LoadRect S8x512x256) j, AA Z j = stacked q x (Z.idx j) := fun Z j => by
    rw [← hA]
    exact (congrFun (View.readCov_eq_canon' _ _ _) _).trans (queries_at q x _)
  have hB' : ∀ (Z : LoadRect S2048x256) j, BB Z j = sided k (Z.idx j) := fun Z j => by
    rw [← hB]
    exact (congrFun (View.readCov_eq_canon' _ _ _) _).trans (keys_at k _)
  have hC' : ∀ (Z : LoadRect S2048x128) j, CC Z j = plain v (Z.idx j) := fun Z j => by
    rw [← hC]
    exact (congrFun (View.readCov_eq_canon' _ _ _) _).trans (values_at v _)
  clear hA hB hC
  have hv := value v CC hC'
  have own : ∀ (i : Fin 8) inbq inbk (r : Fin 256) (h : Fin 2) (c : Fin 256), _ := fun i inbq inbk r h c =>
    score q k x Q K B hq hk hx AA BB hA' hB' i inbq r (256 * i.val) 256 inbk h c
  have before : ∀ (i : Fin 8) inbq inbk (r : Fin 256) (h : Fin 2) (c : Fin (256 * i.val)), _ := fun i inbq inbk r h c =>
    (score q k x Q K B hq hk hx AA BB hA' hB' i inbq r 0 (256 * i.val) inbk h c).trans (by rw [zero_add])
  have ownk : ∀ (i : Fin 8) (r : Fin 256) (h : Fin 2), B h ⟨256 * i.val + r.val, by omega⟩ ((256 * i.val + r.val) / 256) :=
    fun i r h => hown h _
  have vbefore : ∀ (n : ℕ) inb (c : Fin n) (d : Fin 128), _ := fun n inb c d => (hv 0 n inb c d).trans (by rw [zero_add])
  refine View.canon_apply_of_pieces (rows v Q K B) _ ?_ y (View.cover_of_tiled _ (s := S1x2048x128) S1x256x128.size (by sl_kernel_rfl) y)
  refine View.PiecesOf.mem ⟨opiece v Q K B 7 inb_S1x2048x128_S1x256x128_0_1792_0 _ fun r d => ?_,
    opiece v Q K B 6 inb_S1x2048x128_S1x256x128_0_1536_0 _ fun r d => ?_,
    opiece v Q K B 5 inb_S1x2048x128_S1x256x128_0_1280_0 _ fun r d => ?_,
    opiece v Q K B 4 inb_S1x2048x128_S1x256x128_0_1024_0 _ fun r d => ?_,
    opiece v Q K B 3 inb_S1x2048x128_S1x256x128_0_768_0 _ fun r d => ?_,
    opiece v Q K B 2 inb_S1x2048x128_S1x256x128_0_512_0 _ fun r d => ?_,
    opiece v Q K B 1 inb_S1x2048x128_S1x256x128_0_256_0 _ fun r d => ?_,
    opiece v Q K B 0 inb_S1x2048x128_S1x256x128_0_0_0 _ fun r d => ?_, trivial⟩
  · exact (tile7 _ _ _ r d _ _).trans (tile_eq _ _ _ _ _ r d _ _ _ (ownk 7 r) (own 7 inb_S8x512x256_S1x512x256_7_0_0 inb_S2048x256_S256x256_1792_0 r)
      (before 7 inb_S8x512x256_S1x512x256_7_0_0 inb_S2048x256_S1792x256_0_0 r) (fun c => hv 1792 256 inb_S2048x128_S256x128_1792_0 c d) fun c => vbefore 1792 inb_S2048x128_S1792x128_0_0 c d)
  · exact (tile6 _ _ _ r d _ _).trans (tile_eq _ _ _ _ _ r d _ _ _ (ownk 6 r) (own 6 inb_S8x512x256_S1x512x256_6_0_0 inb_S2048x256_S256x256_1536_0 r)
      (before 6 inb_S8x512x256_S1x512x256_6_0_0 inb_S2048x256_S1536x256_0_0 r) (fun c => hv 1536 256 inb_S2048x128_S256x128_1536_0 c d) fun c => vbefore 1536 inb_S2048x128_S1536x128_0_0 c d)
  · exact (tile5 _ _ _ r d _ _).trans (tile_eq _ _ _ _ _ r d _ _ _ (ownk 5 r) (own 5 inb_S8x512x256_S1x512x256_5_0_0 inb_S2048x256_S256x256_1280_0 r)
      (before 5 inb_S8x512x256_S1x512x256_5_0_0 inb_S2048x256_S1280x256_0_0 r) (fun c => hv 1280 256 inb_S2048x128_S256x128_1280_0 c d) fun c => vbefore 1280 inb_S2048x128_S1280x128_0_0 c d)
  · exact (tile4 _ _ _ r d _ _).trans (tile_eq _ _ _ _ _ r d _ _ _ (ownk 4 r) (own 4 inb_S8x512x256_S1x512x256_4_0_0 inb_S2048x256_S256x256_1024_0 r)
      (before 4 inb_S8x512x256_S1x512x256_4_0_0 inb_S2048x256_S1024x256_0_0 r) (fun c => hv 1024 256 inb_S2048x128_S256x128_1024_0 c d) fun c => vbefore 1024 inb_S2048x128_S1024x128_0_0 c d)
  · exact (tile3 _ _ _ r d _ _).trans (tile_eq _ _ _ _ _ r d _ _ _ (ownk 3 r) (own 3 inb_S8x512x256_S1x512x256_3_0_0 inb_S2048x256_S256x256_768_0 r)
      (before 3 inb_S8x512x256_S1x512x256_3_0_0 inb_S2048x256_S768x256_0_0 r) (fun c => hv 768 256 inb_S2048x128_S256x128_768_0 c d) fun c => vbefore 768 inb_S2048x128_S768x128_0_0 c d)
  · exact (tile2 _ _ _ r d _ _).trans (tile_eq _ _ _ _ _ r d _ _ _ (ownk 2 r) (own 2 inb_S8x512x256_S1x512x256_2_0_0 inb_S2048x256_S256x256_512_0 r)
      (before 2 inb_S8x512x256_S1x512x256_2_0_0 inb_S2048x256_S512x256_0_0 r) (fun c => hv 512 256 inb_S2048x128_S256x128_512_0 c d) fun c => vbefore 512 inb_S2048x128_S512x128_0_0 c d)
  · exact (tile1 _ _ _ r d _ _).trans (tile_eq _ _ _ _ _ r d _ _ _ (ownk 1 r) (own 1 inb_S8x512x256_S1x512x256_1_0_0 inb_S2048x256_S256x256_256_0 r)
      (before 1 inb_S8x512x256_S1x512x256_1_0_0 inb_S2048x256_S256x256_0_0 r) (fun c => hv 256 256 inb_S2048x128_S256x128_256_0 c d) fun c => vbefore 256 inb_S2048x128_S256x128_0_0 c d)
  · exact (tile0 _ _ _ r d).trans (start_eq _ _ _ r d _ _ _ (ownk 0 r) (own 0 inb_S8x512x256_S1x512x256_0_0_0 inb_S2048x256_S256x256_0_0 r) fun c => hv 0 256 inb_S2048x128_S256x128_0_0 c d)

end Cert.MobaIdeal.Point
end
end
-- ==== Proof.MobaRefRead.lean ====
/- The reference of the block attention read as a softmax row over the kept positions: its scores of the blocks, the three
   blocks its sort puts first, and its masked scores of the positions, on real queries and keys. -/
module

public import proofs.«01_k».proof.Proof.Gen.MobaRefIdeal.Read
public import proofs.«01_k».proof.Proof.FoxRefRead
public import proofs.«01_k».proof.Proof.MobaPrep
public import proofs.«01_k».proof.Proof.MobaChoose
public import Idealize.ShloMosaic.Lib.Pipeline.ValueKit
public import Idealize.ShloMosaic.Lib.Pointwise

@[expose] public section

set_option maxRecDepth 16384

noncomputable section

namespace Cert.MobaRefIdeal.Rows

open Cert.MobaRefIdeal Cert.MobaRefIdeal.Read Idealize.ShloMosaic Idealize.ShloMosaic.TcCoe Cert.FoxRefIdeal.Rows Cert.MobaIdeal

variable (x0 : (⟨S8x2048x512, .f32⟩ : BufTy).Contents (Elt Ideal)) (x1 : (⟨S4x8x2048x512, .f32⟩ : BufTy).Contents (Elt Ideal)) (x2 : (⟨S4x8x2048x512, .f32⟩ : BufTy).Contents (Elt Ideal))

theorem own (t : Fin 2048) : val_main_v13 (F := Ideal) (ix1 t) = BitVec.ofNat 32 (t.val / 256) := by
  pointwise [val_main_v13, val_main_call0_v13, val_main_call0_v12, val_main_call0_c_0, val_main_call0_v11, val_main_call0_v10, val_main_call0_v9, val_main_call0_c, val_main_call0_v8, val_main_call0_v7, val_main_call0_v6, val_main_call0_v5, val_main_call0_v4, val_main_call0_v3, val_main_call0_v2, val_main_call0_v1, val_main_call0_v0, val_main_c, val_main_v11]
  change Scalar.select
      (IntOp.andi (IntOp.cmpi .ne (if BitVec.ofNat 32 t.val = 0 then 0 else if (BitVec.ofNat 32 t.val).msb = true then -1 else 1)
          (if (256#32 : BitVec 32) = 0 then 0 else if BitVec.msb 256#32 = true then -1 else 1))
        (IntOp.cmpi .ne (IntOp.remsi ArithUnit.host (BitVec.ofNat 32 t.val) 256#32) 0#32))
      (IntOp.subi (IntOp.divsi ArithUnit.host (BitVec.ofNat 32 t.val) 256#32) 1#32)
      (IntOp.divsi ArithUnit.host (BitVec.ofNat 32 t.val) 256#32) = _
  revert t
  decide +kernel

/-- The reference's masked score of a block. -/
theorem picks (b : Fin 8) (t : Fin 2048) (h n : Fin 8) :
    val_main_v22 (F := Ideal) x0 x1 (ix4 b t h n) = Choose.pick (plane x0 b) (layer x1 b) h t n := by
  pointwise [val_main_v22, val_main_call1_v0, val_main_call1_v1, val_main_call1_v2, val_main_cst_1, val_main_v21, val_main_v20, val_main_v19, val_main_v18, val_main_v17, val_main_v16, val_main_v15, val_main_v14, val_main_v12, val_main_v10, val_main_v9, val_main_cst_0, val_main_v8, val_main_cst, val_main_v7, val_main_v3, val_main_v2, val_main_v1, val_main_v0]
  change Scalar.select _ _ (Ideal.ofBits .f32 0xFF800000#32) = _
  rw [own, Prep.less n ⟨t.val / 256, by omega⟩, FoxIdeal.Soft.select_if, FoxIdeal.Soft.minus_inf]
  unfold Choose.pick
  refine if_congr Iff.rfl (Finset.sum_congr rfl fun d _ => mul_comm _ _) rfl

/-- The indices of the sort's first places, as the sort of one row's positions. -/
theorem topk (gt : EReal → EReal → BitVec 1) (x : S8x2048x8x8.Idx → EReal) (b : Fin 8) (t : Fin 2048) (h : Fin 8) (j : Fin 3) :
    (Host.topK S8x2048x8x3 3 gt x Gen.sliceFits_S8x2048x8x8_S8x2048x8x3).2 (ix4 b t h j)
      = BitVec.ofNat 32 (sortedFrom (fun m n : Fin 8 => gt (x (ix4 b t h m)) (x (ix4 b t h n)) == 1#1) ⟨j.val, by omega⟩).val := by
  have al : ∀ (i m : Fin 8), ((ix4 b t h i : S8x2048x8x8.Idx).along 3 m) = ix4 b t h m := fun i m => funext fun a => match a with
    | ⟨0, _⟩ => rfl
    | ⟨1, _⟩ => rfl
    | ⟨2, _⟩ => rfl
    | ⟨3, _⟩ => rfl
  have e : (fun m n : Fin 8 => gt (x ((ix4 b t h ⟨j.val, by omega⟩ : S8x2048x8x8.Idx).along 3 m))
      (x ((ix4 b t h ⟨j.val, by omega⟩ : S8x2048x8x8.Idx).along 3 n)) == 1#1)
      = fun m n : Fin 8 => gt (x (ix4 b t h m)) (x (ix4 b t h n)) == 1#1 := by
    funext m n
    rw [al, al]
  pointwise [Host.topK, Host.sort2]
  rw [← e]
  rfl

/-- The block the sort puts at place `j`. -/
theorem place (b : Fin 8) (t : Fin 2048) (h : Fin 8) (j : Fin 3) : val_main_indices (F := Ideal) x0 x1 (ix4 b t h j)
    = BitVec.ofNat 32 (sortedFrom (fun m n : Fin 8 => decide (Choose.pick (plane x0 b) (layer x1 b) h t n
        < Choose.pick (plane x0 b) (layer x1 b) h t m)) ⟨j.val, by omega⟩).val := by
  unfold val_main_indices
  rw [topk]
  refine congrArg (fun B : Fin 8 → Fin 8 → Bool => BitVec.ofNat 32 (sortedFrom B ⟨j.val, by omega⟩).val) (funext fun m => funext fun n => ?_)
  rw [picks, picks]
  generalize Choose.pick (plane x0 b) (layer x1 b) h t m = u
  generalize Choose.pick (plane x0 b) (layer x1 b) h t n = v
  show (BitVec.ofBool (decide (v < u)) == 1#1) = decide (v < u)
  by_cases hlt : v < u <;> simp [hlt]

theorem any (b : Fin 3 → BitVec 1) : Finset.fold IntOp.ori 0#1 b Finset.univ = if ∃ j, b j = 1#1 then 1#1 else 0#1 := by
  have e : Finset.fold IntOp.ori 0#1 b Finset.univ = IntOp.ori (b 0) (IntOp.ori (b 1) (IntOp.ori (b 2) 0#1)) := rfl
  rw [e]
  have hx : (∃ j, b j = 1#1) ↔ b 0 = 1#1 ∨ b 1 = 1#1 ∨ b 2 = 1#1 := by
    constructor
    · rintro ⟨j, hj⟩
      match j with
      | 0 => exact .inl hj
      | 1 => exact .inr (.inl hj)
      | 2 => exact .inr (.inr hj)
    · rintro (h | h | h)
      exacts [⟨0, h⟩, ⟨1, h⟩, ⟨2, h⟩]
  rw [if_congr hx rfl rfl]
  generalize b 0 = u; generalize b 1 = v; generalize b 2 = w
  clear e hx
  revert u v w
  decide

/-- Whether a block is among the three. -/
theorem among (b : Fin 8) (t : Fin 2048) (h n : Fin 8) : val_main_v28 (F := Ideal) x0 x1 (ix4 b t h n)
    = if Choose.rank (Choose.pick (plane x0 b) (layer x1 b) h t) n < 3 then 1#1 else 0#1 := by
  pointwise [val_main_v28, val_main_c_2]
  rw [any]
  refine if_congr ?_ rfl rfl
  rw [← Choose.chosen]
  refine exists_congr fun j => ?_
  pointwise [val_main_v27, val_main_v26, val_main_v25, val_main_v24, val_main_v23, val_main_v12]
  rw [place, Rows.eq_small _ _ (by omega) (by omega), Fin.ext_iff]
  by_cases hn : (sortedFrom (fun m n : Fin 8 => decide (Choose.pick (plane x0 b) (layer x1 b) h t n
        < Choose.pick (plane x0 b) (layer x1 b) h t m)) ⟨j.val, by omega⟩).val = n.val <;> simp [hn]

/-- The score of a key position for a query position. -/
def score (q k : Fin 8 → Fin 2048 → Fin 512 → EReal) (b h : Fin 8) (t : Fin 2048) (s : ℕ) : ℝ :=
  (∑ d : Fin 64, (q b t ⟨h.val * 64 + d.val, by omega⟩).toReal *
    (if hs : s < 2048 then (k b ⟨s, hs⟩ ⟨h.val * 64 + d.val, by omega⟩).toReal else 0)) * (1 / 8)

open scoped Classical in
/-- The reference's masked score of a position. -/
theorem scores (hq : ∀ b s c, ∃ r : ℝ, plane x0 b s c = r) (hk : ∀ b s c, ∃ r : ℝ, layer x1 b s c = r)
    (b : Fin 8) (t s : Fin 2048) (h : Fin 8) : val_main_v55 (F := Ideal) x0 x1 (ix4 b h t s) =
      if s.val ≤ t.val then Soft.sc (score (plane x0) (layer x1) b h t)
        (fun n => Choose.Kept (plane x0 b) (layer x1 b) h t (n / 256)) s.val else ⊥ := by
  pointwise [val_main_v55, val_main_call2_v0, val_main_call2_v1, val_main_cst_4, val_main_v54, val_main_v53, val_main_v52, val_main_v51, val_main_v50, val_main_v49, val_main_v48, val_main_v47, val_main_v46, val_main_v45, val_main_v44, val_main_cst_3, val_main_v43, val_main_v42, val_main_v41, val_main_v40, val_main_v39, val_main_v38, val_main_v37, val_main_v36, val_main_v35, val_main_v34, val_main_v33, val_main_v32, val_main_v31, val_main_v30, val_main_v29, val_main_v18, val_main_v17, val_main_v16, val_main_v15, val_main_v14, val_main_v12, val_main_v11, val_main_v3, val_main_v2, val_main_v1, val_main_v0]
  change Scalar.select _ _ (Ideal.ofBits .f32 0xFF800000#32) = _
  have e : ∀ d : Fin 64, x0 (ix3 b t ⟨h.val * 64 + d.val, by omega⟩) * x1 (ix4 3 b s ⟨h.val * 64 + d.val, by omega⟩)
      = (((plane x0 b t ⟨h.val * 64 + d.val, by omega⟩).toReal * (layer x1 b s ⟨h.val * 64 + d.val, by omega⟩).toReal : ℝ) : EReal) := by
    intro d
    obtain ⟨r, hr⟩ := hq b t ⟨h.val * 64 + d.val, by omega⟩
    obtain ⟨r', hr'⟩ := hk b s ⟨h.val * 64 + d.val, by omega⟩
    rw [hr, hr', EReal.toReal_coe, EReal.toReal_coe, EReal.coe_mul, ← hr, ← hr']
  rw [Finset.sum_congr rfl fun d _ => e d, ← FoxIdeal.Soft.coe_sum, FoxIdeal.Soft.eighth, ← EReal.coe_mul, FoxIdeal.Soft.minus_inf, among, own,
    Rows.eq_small _ _ (by omega) (by omega), Prep.less ⟨s.val / 256, by omega⟩ ⟨t.val / 256, by omega⟩,
    FoxIdeal.Soft.sle_small _ _ s.isLt t.isLt]
  by_cases hst : s.val ≤ t.val
  · have hle : s.val / 256 ≤ t.val / 256 := Nat.div_le_div_right hst
    rw [if_pos hst, if_pos hst]
    unfold Soft.sc
    have hv : score (plane x0) (layer x1) b h t s.val = (∑ d : Fin 64, (plane x0 b t ⟨h.val * 64 + d.val, by omega⟩).toReal
        * (layer x1 b s ⟨h.val * 64 + d.val, by omega⟩).toReal) * (1 / 8) := by
      unfold score
      simp only [s.isLt, dif_pos]
    rw [hv]
    rcases lt_or_eq_of_le hle with hlt | heq
    · have hK : Choose.Kept (plane x0 b) (layer x1 b) h t (s.val / 256)
          ↔ Choose.rank (Choose.pick (plane x0 b) (layer x1 b) h t) ⟨s.val / 256, by omega⟩ < 3 := ⟨fun H => H hlt, fun H _ => H⟩
      rw [if_congr hK rfl rfl, if_pos hlt, if_neg hlt.ne]
      split <;> rfl
    · have hK : Choose.Kept (plane x0 b) (layer x1 b) h t (s.val / 256) := fun H => absurd H (by omega)
      rw [if_pos hK, if_pos heq]
      rw [(by decide : ∀ w : BitVec 1, IntOp.andi (IntOp.ori w 1#1) 1#1 = 1#1)]
      rfl
  · rw [if_neg hst, if_neg hst]
    generalize IntOp.ori _ _ = w
    rw [(by decide : ∀ w : BitVec 1, IntOp.andi w 0#1 = 0#1) w]
    rfl

theorem largest (b : Fin 8) (t : Fin 2048) (h : Fin 8) :
    val_main_v56 (F := Ideal) x0 x1 (ix3 b h t)
      = Finset.fold max ⊥ (fun s => val_main_v55 (F := Ideal) x0 x1 (ix4 b h t s)) Finset.univ := by
  rw [← FoxIdeal.Soft.minus_inf]
  pointwise [val_main_v56, val_main_cst_5]

theorem weight (b : Fin 8) (t s : Fin 2048) (h : Fin 8) :
    val_main_v62 (F := Ideal) x0 x1 (ix4 b h t s) = Ideal.exp (val_main_v55 (F := Ideal) x0 x1 (ix4 b h t s)
      - Finset.fold max ⊥ (fun s => val_main_v55 (F := Ideal) x0 x1 (ix4 b h t s)) Finset.univ) := by
  rw [val_main_v62_apply, val_main_v61_apply, val_main_v60_apply, val_main_v59_apply, val_main_v58_apply,
    val_main_v57_apply, val_main_cst_6_apply,
    show idx_main_v59 (idx_main_v60 (ix4 b h t s)) = ix3 b h t from funext fun a => match a with
      | ⟨0, _⟩ => rfl
      | ⟨1, _⟩ => rfl
      | ⟨2, _⟩ => rfl, largest]
  show Ideal.exp (_ - max (Ideal.ofBits .f32 0xFF800000#32) _) = _
  rw [FoxIdeal.Soft.minus_inf, max_eq_right bot_le]

theorem prob (b : Fin 8) (t s : Fin 2048) (h : Fin 8) :
    val_main_v66 (F := Ideal) x0 x1 (ix4 b h t s) = Ideal.div (val_main_v62 (F := Ideal) x0 x1 (ix4 b h t s))
      (∑ s, val_main_v62 (F := Ideal) x0 x1 (ix4 b h t s)) := by
  rw [val_main_v66_apply, val_main_v65_apply, val_main_v64_apply,
    show idx_main_v64 (idx_main_v65 (ix4 b h t s)) = ix3 b h t from funext fun a => match a with
      | ⟨0, _⟩ => rfl
      | ⟨1, _⟩ => rfl
      | ⟨2, _⟩ => rfl, val_main_v63_apply,
    show val_main_cst_7 (F := Ideal) (Shape.Idx.first Gen.h_S_) = (0 : EReal) from by pointwise [val_main_cst_7], zero_add,
    Finset.sum_congr rfl fun k _ => congrArg (val_main_v62 (F := Ideal) x0 x1) (show idx_main_v63 (ix3 b h t) k = ix4 b h t k from
      funext fun a => match a with
        | ⟨0, _⟩ => rfl
        | ⟨1, _⟩ => rfl
        | ⟨2, _⟩ => rfl
        | ⟨3, _⟩ => rfl)]
  rfl

theorem out (b : Fin 8) (t : Fin 2048) (c : Fin 512) :
    val_main_v70 (F := Ideal) x0 x1 x2 (ix3 b t c)
      = ∑ s, layer x2 b s c * val_main_v66 (F := Ideal) x0 x1 (ix4 b ⟨c.val / 64, by omega⟩ t s) := by
  pointwise [val_main_v70, val_main_v69, val_main_v68, val_main_v67, val_main_v6, val_main_v5, val_main_v4]

/-- The reference's result is the softmax row over the kept positions. -/
theorem result (hq : ∀ b s c, ∃ r : ℝ, plane x0 b s c = r) (hk : ∀ b s c, ∃ r : ℝ, layer x1 b s c = r)
    (b : Fin 8) (t : Fin 2048) (c : Fin 512) :
    val_main_v70 (F := Ideal) x0 x1 x2 (ix3 b t c)
      = Soft.krow (score (plane x0) (layer x1) b ⟨c.val / 64, by omega⟩ t)
          (fun n => Choose.Kept (plane x0 b) (layer x1 b) ⟨c.val / 64, by omega⟩ t (n / 256)) (FoxIdeal.Soft.column (layer x2) b c) t.val := by
  rw [out]
  simp only [prob, weight]
  exact Soft.whole_eq _ _ _ _ _ t (fun H => absurd H (lt_irrefl _))
    (fun s => scores _ _ hq hk b t s _) (fun s => by simp [FoxIdeal.Soft.column, s.isLt])

end Cert.MobaRefIdeal.Rows
end
end
-- ==== Proof.MobaValue.lean ====
/- The value of the block attention: after the preparation the prepared array marks the blocks each head keeps; each
   grid point of the attention then writes its batch's rows and its pair's columns, and these are the reference's. -/
module

public import proofs.«01_k».proof.Proof.MobaPrep
public import proofs.«01_k».proof.Proof.MobaPoint
public import proofs.«01_k».proof.Proof.MobaFinite
public import proofs.«01_k».proof.Proof.MobaRefRead
public import Idealize.ShloMosaic.Lib.Pipeline.ValueKit
public import Idealize.ShloMosaic.Lib.Pointwise
public import proofs.«01_k».proof.Defs
public import Idealize.ShloMosaic.Lib.Claim

@[expose] public section

set_option maxRecDepth 16384

noncomputable section

namespace Cert.MobaIdeal.Result

open Cert.MobaIdeal Cert.MobaIdeal.Gen Idealize.ShloMosaic Idealize.ShloMosaic.TcCoe Idealize.SL.Sem
open Idealize.ShloMosaic.Pipeline (Dat)
open Cert.FoxRefIdeal.Rows (layer plane)

/-- The block each window of the preparation stages: the batch's queries, its keys of layer 3, and its prepared array. -/
theorem idx0 : ∀ t : Fin cfg0.N, win0_0.index t = ![t.val, 0, 0] ∧ win0_1.index t = ![3, t.val, 0, 0]
    ∧ win0_2.index t = ![t.val, 0, 0, 0] :=
  (by decide +kernel : ∀ t : Fin grid0.N, _)

/-- The block each window of the attention stages: a batch's and a pair's columns. -/
theorem idx1 : ∀ t : Fin cfg1.N, win1_0.index t = ![t.val / 4, 0, t.val % 4] ∧ win1_1.index t = ![3, t.val / 4, 0, t.val % 4]
    ∧ win1_2.index t = ![3, t.val / 4, 0, t.val % 4] ∧ win1_3.index t = ![t.val / 4, t.val % 4, 0, 0]
    ∧ win1_4.index t = ![t.val / 4, 0, t.val % 4] :=
  (by decide +kernel : ∀ t : Fin grid1.N, _)

variable (m : (ℓ : Loc nD τ sig) → Buf (Elt Ideal) ℓ) (ρ : Dev nD → PrngReg)

/-- The arguments, as the reference's readings name them. -/
abbrev queriesOf (c : Dev nD) : Fin 8 → Fin 2048 → Fin 512 → EReal := plane (m ((c : Thread nD τ).loc main_arg0))
abbrev keysOf (c : Dev nD) : Fin 8 → Fin 2048 → Fin 512 → EReal := layer (m ((c : Thread nD τ).loc main_arg1))
abbrev valuesOf (c : Dev nD) : Fin 8 → Fin 2048 → Fin 512 → EReal := layer (m ((c : Thread nD τ).loc main_arg2))

/-- The array the preparation leaves: in a pair's first 16 lanes the kept blocks of its two heads. -/
def prepared (c : Dev nD) : S8x4x2048x128.Idx → Elt Ideal .bf16 := fun y =>
  Rows.biased (fun h t n => Choose.Kept (queriesOf m c ⟨(y 0).val, (y 0).isLt⟩) (keysOf m c ⟨(y 0).val, (y 0).isLt⟩)
    ⟨2 * (y 1).val + h.val, by have h : (y 1).val < 4 := (y 1).isLt; omega⟩ t n) ⟨(y 2).val, (y 2).isLt⟩ ⟨(y 3).val, (y 3).isLt⟩

theorem prep_point (c : Dev nD) (t : Fin cfg0.N) (y) :
    out0_2 (iblk0 (V0 m ρ) c 0 t) (iblk0 (V0 m ρ) c 1 t) y = prepared m c (((cfg0.win 2).blk t).view.emb y) := by
  have ht : t.val < 8 := t.isLt
  idx_vars y
  obtain rfl : y0 = 0 := Fin.ext (by omega)
  rw [show ((cfg0.win 2).blk t).view.emb (ix4 0 y1 y2 y3) = ix4 (⟨t.val, ht⟩ : Fin 8) y1 y2 y3 by blk_ext [idx0 t]]
  refine (Prep.kx (iblk0 (V0 m ρ) c 0 t) (iblk0 (V0 m ρ) c 1 t) y1 y2 y3).trans ?_
  have e0 : Prep.queriesOf (iblk0 (V0 m ρ) c 0 t) = queriesOf m c ⟨t.val, ht⟩ := by
    funext s l
    show (iblk0 (V0 m ρ) c 0 t : Vec Ideal S1x2048x512 .f32) (ix3 0 s l) = _
    blk_point [iblk0, V0, plane, idx0 t]
  have e1 : Prep.keysOf (iblk0 (V0 m ρ) c 1 t) = keysOf m c ⟨t.val, ht⟩ := by
    funext s l
    show (iblk0 (V0 m ρ) c 1 t : Vec Ideal S1x1x2048x512 .f32) (ix4 0 0 s l) = _
    blk_point [iblk0, V0, layer, idx0 t]
  rw [e0, e1]
  rfl

theorem prep_final (c : Dev nD) : (dat0 (V0 m ρ) c).arrAt 2 cfg0.N = prepared m c := by
  refine (dat0 (V0 m ρ) c).arrAt_eq_of_covers 2 _ (by decide +kernel) fun t _ y => ?_
  blk_simp
  rw [after0_2]
  exact prep_point m ρ c t y

/-- A row of the softmax reads only the positions up to its own. -/
theorem row_congr (σ σ' : ℕ → ℝ) (K K' : ℕ → Prop) (v v' : ℕ → EReal) (t : ℕ) (hσ : ∀ s, s ≤ t → σ s = σ' s)
    (hK : K = K') (hv : ∀ s, s ≤ t → v s = v' s) : Soft.krow σ K v t = Soft.krow σ' K' v' t := by
  subst hK
  have e : ∀ s ∈ Finset.range (t + 1), s ≤ t := fun s hs => by have := Finset.mem_range.1 hs; omega
  unfold Soft.krow Soft.wt
  exact congrArg₂ (· * ·) (Finset.sum_congr rfl fun s hs => by rw [hσ s (e s hs), hv s (e s hs)])
    (congrArg (fun x : ℝ => ((x⁻¹ : ℝ) : EReal)) (Finset.sum_congr rfl fun s hs => by rw [hσ s (e s hs)]))

theorem attn_point (c : Dev nD) (hq : ∀ b s j, ∃ r : ℝ, queriesOf m c b s j = r) (hk : ∀ b s j, ∃ r : ℝ, keysOf m c b s j = r)
    (t : Fin cfg1.N) (y) :
    outsAt1 (F := Ideal) (V1 m ρ) c t y
      = Cert.MobaRefIdeal.Read.val_main_v70 (F := Ideal) (m ((c : Thread nD τ).loc main_arg0)) (m ((c : Thread nD τ).loc main_arg1))
        (m ((c : Thread nD τ).loc main_arg2)) (((cfg1.win 4).blk t).view.emb y) := by
  have ht : t.val < 32 := t.isLt
  have e0 : V1 m ρ c (Pipeline.arrRef spec1 0) = m ((c : Thread nD τ).loc main_arg0) := W1_args m ρ c main_arg0 (by decide)
  have e1 : V1 m ρ c (Pipeline.arrRef spec1 1) = m ((c : Thread nD τ).loc main_arg1) := W1_args m ρ c main_arg1 (by decide)
  have e2 : V1 m ρ c (Pipeline.arrRef spec1 2) = m ((c : Thread nD τ).loc main_arg2) := W1_args m ρ c main_arg2 (by decide)
  have e3 : V1 m ρ c (Pipeline.arrRef spec1 3) = prepared m c := (hF0 m ρ c 2).symm.trans (prep_final m ρ c)
  rw [Point.point (V1 m ρ) c t
    (fun s l => (queriesOf m c ⟨t.val / 4, by omega⟩ s ⟨t.val % 4 * 128 + l.val, by omega⟩).toReal)
    (fun s l => (keysOf m c ⟨t.val / 4, by omega⟩ s ⟨t.val % 4 * 128 + l.val, by omega⟩).toReal)
    (fun h s n => Choose.Kept (queriesOf m c ⟨t.val / 4, by omega⟩) (keysOf m c ⟨t.val / 4, by omega⟩) ⟨2 * (t.val % 4) + h.val, by omega⟩ s n)
    ?_ ?_ ?_ fun h s H => absurd H (lt_irrefl _)]
  · idx_vars y
    obtain rfl : y0 = 0 := Fin.ext (by omega)
    rw [show ((cfg1.win 4).blk t).view.emb (ix3 0 y1 y2)
      = ix3 (⟨t.val / 4, by omega⟩ : Fin 8) y1 (⟨t.val % 4 * 128 + y2.val, by omega⟩ : Fin 512) by blk_ext [idx1 t]]
    rw [Cert.MobaRefIdeal.Rows.result _ _ _ hq hk]
    refine row_congr _ _ _ _ _ _ _ (fun s hs => ?_) ?_ fun s hs => ?_
    · have hs2 : s < 2048 := Nat.lt_of_le_of_lt hs y1.isLt
      unfold Point.along
      rw [dif_pos hs2]
      unfold Rows.pairScore Cert.MobaRefIdeal.Rows.score
      refine congrArg (· * ((1 / 8 : ℝ))) (Finset.sum_congr rfl fun d _ => congrArg₂ (· * ·)
        (congrArg EReal.toReal (congrArg (queriesOf m c _ _) (Fin.ext ?_))) ?_)
      · show t.val % 4 * 128 + (64 * (y2.val / 64) + d.val) = (t.val % 4 * 128 + y2.val) / 64 * 64 + d.val
        omega
      · rw [dif_pos hs2]
        refine congrArg EReal.toReal (congrArg (keysOf m c _ _) (Fin.ext ?_))
        show t.val % 4 * 128 + (64 * (y2.val / 64) + d.val) = (t.val % 4 * 128 + y2.val) / 64 * 64 + d.val
        omega
    · funext n
      refine congrArg (fun h => Choose.Kept _ _ h _ _) (Fin.ext ?_)
      show 2 * (t.val % 4) + y2.val / 64 = (t.val % 4 * 128 + y2.val) / 64
      omega
    · have hs2 : s < 2048 := Nat.lt_of_le_of_lt hs y1.isLt
      unfold Point.along Cert.FoxIdeal.Soft.column
      rw [dif_pos hs2, dif_pos hs2]
      unfold iblk1
      rw [e2]
      blk_point [layer, idx1 t]
  · intro s l
    obtain ⟨r, hr⟩ := hq ⟨t.val / 4, by omega⟩ s ⟨t.val % 4 * 128 + l.val, by omega⟩
    rw [hr, EReal.toReal_coe, ← hr]
    unfold iblk1
    rw [e0]
    blk_point [plane, idx1 t]
  · intro s l
    obtain ⟨r, hr⟩ := hk ⟨t.val / 4, by omega⟩ s ⟨t.val % 4 * 128 + l.val, by omega⟩
    rw [hr, EReal.toReal_coe, ← hr]
    unfold iblk1
    rw [e1]
    blk_point [layer, idx1 t]
  · intro s l
    unfold iblk1
    rw [e3]
    show prepared m c (((cfg1.win 3).blk t).view.emb (ix4 0 0 s l)) = _
    rw [show ((cfg1.win 3).blk t).view.emb (ix4 0 0 s l)
      = ix4 (⟨t.val / 4, by omega⟩ : Fin 8) (⟨t.val % 4, by omega⟩ : Fin 4) s l by blk_ext [idx1 t]]
    rfl

theorem attn_final (c : Dev nD) (hq : ∀ b s j, ∃ r : ℝ, queriesOf m c b s j = r) (hk : ∀ b s j, ∃ r : ℝ, keysOf m c b s j = r) : (dat1 (V1 m ρ) c).arrAt 4 cfg1.N
      = Cert.MobaRefIdeal.Read.val_main_v70 (F := Ideal) (m ((c : Thread nD τ).loc main_arg0)) (m ((c : Thread nD τ).loc main_arg1))
        (m ((c : Thread nD τ).loc main_arg2)) := by
  refine (dat1 (V1 m ρ) c).arrAt_eq_of_covers 4 _ (by decide +kernel) fun t _ y => ?_
  blk_simp
  rw [after1_4]
  exact attn_point m ρ c hq hk t y

/-! ## The run -/

section run

open Idealize.ShloMosaic.Tactic Idealize.SL Idealize.SL.RA Idealize.SL.BI
open scoped Idealize.SL.BI
open Idealize.SL.BI.BIBase Idealize.SL.BI.Laws Idealize.SL.ProofMode Idealize.ShloMosaic.Rounds
open Idealize.ShloMosaic.Pipeline (cellOf)

local notation "𝕄" => MT nD τ sig Unit (Elt Ideal) ℕ (UR sig nD τ) ℕ

-- the launch theorem's implicit arguments are found by unfolding plain definitions in a metavariable's type
set_option backward.isDefEq.respectTransparency.types false in
/-- Every run of the two regions ends with the attention's array as its pipeline leaves it and the arguments unchanged. -/
theorem run_main : θ_run defs (onTc (τ := τ) (main (F := Ideal))) ⟨m, fun _ => 0, ρ⟩ (fun r => ∀ c : Dev nD,
      r.2.mem ((c.tc : Thread nD τ).loc main_v1) = (dat1 (V1 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => fun c =>
      ⟨(h c _ (mem_uc main_v1 (by decide))).trans (hF1 m ρ c 4).symm,
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end run

/-- The claim's two runs end with the same result. -/
theorem algebraic : Cert.algebraic_MobaIdeal_MobaRefIdeal_pre_finite_moba := by
  intro m g m' g' hpre hagree
  refine ⟨fun c => Cert.MobaRefIdeal.Read.val_main_v70 (F := Ideal) (m ((c : Thread nD τ).loc main_arg0))
    (m ((c : Thread nD τ).loc main_arg1)) (m ((c : Thread nD τ).loc main_arg2)), ?_, ?_⟩
  · refine (θ_run _ _ _).mono (fun r h c => ?_) (run_main m g)
    obtain ⟨hq, hk⟩ := Cert.Pre_finite_moba.Decode.read _ _ _ (hpre c)
    exact ⟨(h c).1.trans (attn_final m g c hq hk), (h c).2⟩
  · refine (θ_run _ _ _).mono (fun r h c => ?_) (Cert.MobaRefIdeal.Value.run m' g')
    refine ⟨(h c).1.trans ?_, (h c).2⟩
    rw [Cert.MobaRefIdeal.Read.val_main_v70_eq, (hagree c).1, (hagree c).2.1, (hagree c).2.2]

end Cert.MobaIdeal.Result

end
-- ==== Proof.PoolFinite.lean ====
/- The precondition of the pool call's value claim, read: the rows are numbers. -/
module

public import proofs.«01_k».proof.Pre_finite_pool
public import proofs.«01_k».proof.Proof.FoxFinite
public import Idealize.ShloMosaic.Lib.ReduceAll
public import Idealize.ShloMosaic.Lib.Pointwise
public import Idealize.ShloMosaic.Lib.Decide

@[expose] public section

set_option maxRecDepth 16384

noncomputable section

namespace Cert.Pre_finite_pool.Decode

open Idealize.ShloMosaic Cert.Pre_finite_pool
open Cert.Pre_finite.Decode (number)

instance facts : Facts where
  bcast_S_S8x2048x512 := by decide
  reducesTo_S8x2048x512_S_d0_1_2 := by decide
  h_S_ := by decide

theorem read (a0 : FVec Ideal S8x2048x512 .f32) (a1 : FVec Ideal S4x128x128 .f32) (a2 : FVec Ideal S512 .f32)
    (h : fn (F := Ideal) a0 a1 a2 = fun _ => 1#1) : ∀ b s c, ∃ r : ℝ, a0 (ix3 b s c) = (r : EReal) := by
  have e := congrFun h (fun a => a.elim0)
  simp only [fn] at e
  have one : Subsingleton S_.Idx := ⟨fun i j => funext fun a => a.elim0⟩
  exact fun b s c => number _ (Host.reduce_andi_all _ _ _ _ _ e (ix3 b s c))

end Cert.Pre_finite_pool.Decode

end
-- ==== Proof.PoolSum.lean ====
/- Window sums. Doubling: a row that holds the sum of the last d rows, plus the row d earlier, holds the sum of the
   last 2d rows. The reference's form: the sum of the last w numbers is the difference of two prefix sums. -/
module

public import proofs.«01_k».proof.Proof.FoxSoftmax

@[expose] public section

noncomputable section

namespace Cert.PoolIdeal.Window

open Idealize.ShloMosaic Finset

/-- The sum of the last `d` of the entries `0 … t` of a column of 2048 entries. -/
def win (d : ℕ) (u : Fin 2048 → EReal) (t : ℕ) : EReal :=
  ∑ j ∈ range d, if h : j ≤ t ∧ t < 2048 then u ⟨t - j, by omega⟩ else 0

theorem double {e g : ℕ → EReal} {d r : ℕ} (h1 : g r = ∑ j ∈ range d, e (r - j))
    (h2 : g (r - d) = ∑ j ∈ range d, e (r - d - j)) : g r + g (r - d) = ∑ j ∈ range (d + d), e (r - j) := by
  rw [Finset.sum_range_add, h1, h2]
  congr 1
  exact Finset.sum_congr rfl fun j _ => congrArg e (by omega)

theorem prefix_sub (u : ℕ → ℝ) (t w : ℕ) : (∑ j ∈ range w, if j ≤ t then u (t - j) else 0)
    = ∑ s ∈ range (t + 1), u s - ∑ s ∈ range (t + 1 - w), u s := by
  induction w with
  | zero => simp
  | succ w ih =>
    rw [Finset.sum_range_succ, ih]
    by_cases h : w ≤ t
    · have e : ∑ s ∈ range (t + 1 - w), u s = ∑ s ∈ range (t - w), u s + u (t - w) := by
        rw [show t + 1 - w = t - w + 1 by omega, Finset.sum_range_succ]
      rw [if_pos h, e, show t + 1 - (w + 1) = t - w by omega]
      ring
    · rw [if_neg h, show t + 1 - w = t + 1 - (w + 1) by omega]
      ring

/-- A column of numbers, its entries past the end zero. -/
def col (u : Fin 2048 → EReal) (s : ℕ) : ℝ := if h : s < 2048 then (u ⟨s, h⟩).toReal else 0

theorem col_coe (u : Fin 2048 → EReal) (hu : ∀ s, ∃ r : ℝ, u s = r) (s : ℕ) (h : s < 2048) : (col u s : EReal) = u ⟨s, h⟩ := by
  obtain ⟨r, hr⟩ := hu ⟨s, h⟩
  rw [col, dif_pos h, hr, EReal.toReal_coe]

/-- The sum of the first `n` entries. -/
def pre (u : Fin 2048 → EReal) (n : ℕ) : ℝ := ∑ s ∈ range n, col u s

theorem win_eq (u : Fin 2048 → EReal) (hu : ∀ s, ∃ r : ℝ, u s = r) (d : ℕ) (t : Fin 2048) :
    win d u t.val = (pre u (t.val + 1) : EReal) - (pre u (t.val + 1 - d) : EReal) := by
  rw [← EReal.coe_sub, pre, pre, ← prefix_sub, FoxIdeal.Soft.coe_sum]
  unfold win
  refine Finset.sum_congr rfl fun j _ => ?_
  by_cases h : j ≤ t.val
  · rw [dif_pos ⟨h, t.isLt⟩, if_pos h, col_coe u hu]
  · rw [dif_neg (fun h' => h h'.1), if_neg h, EReal.coe_zero]

/-- The number of rows in the window, as both sides compute it. -/
def cnt (W : BitVec 32) (t : ℕ) : EReal :=
  FloatOps.sitofp (F := Ideal) .f32 (IntOp.minsi W (IntOp.addi (IntOp.addi 0#32 (BitVec.ofNat 32 t)) 1#32))

end Cert.PoolIdeal.Window

end
-- ==== Proof.PoolPoint.lean ====
/- One grid point of the pool call. The scratch holds 16 rows of history and the 2048 rows; each pass adds to every row
   the row d earlier, d = 1, 2, 4, 8, so a row ends with the sum of the last 2, 4, 8 or 16 rows. With a zero history
   that is the window sum of the rows so far. -/
module

public import proofs.«01_k».proof.Proof.Gen.PoolIdeal.Frame
public import proofs.«01_k».proof.Proof.PoolSum
public import Idealize.ShloMosaic.Lib.Pipeline.ValueKit
public import Idealize.ShloMosaic.Lib.Pointwise
public import Idealize.ShloMosaic.Lib.Pipeline.ReadBack

@[expose] public section

set_option maxRecDepth 16384

noncomputable section

namespace Cert.PoolIdeal.Point

open Cert.PoolIdeal Cert.PoolIdeal.Gen Idealize.ShloMosaic Idealize.ShloMosaic.TcCoe Idealize.SL.Sem
open Cert.PoolIdeal.Window Finset

local notation "Pieces" => List (View.Piece (Elt Ideal) S1x2064x128 EltTy.f32)

/-- Row `r`, channel `c` of what a list of stores leaves in the scratch. -/
def rd (L : Pieces) (c : Fin 128) (r : ℕ) : EReal := if h : r < 2064 then View.canon L (ix3 0 ⟨r, h⟩ c) else 0

theorem rd_hit (o n : ℕ) (inb) (w) (L : Pieces) (c : Fin 128) (y : Fin n) (hon : o + n ≤ 2064) :
    rd ((⟨Rect.unit (s := S1x2064x128) ![0, o, 0] ![1, n, 128] inb, w⟩ : View.Piece (Elt Ideal) S1x2064x128 EltTy.f32) :: L) c (o + y.val)
      = w (ix3 (0 : Fin 1) y c) := by
  have hy := y.isLt
  rw [rd, dif_pos (by omega)]
  rw [← View.canon_cons_emb (Rect.unit (s := S1x2064x128) ![0, o, 0] ![1, n, 128] inb) w L (ix3 (0 : Fin 1) y c)]
  congr 1
  funext a
  match a with
  | ⟨0, _⟩ => rfl
  | ⟨1, _⟩ => exact Fin.ext (show o + y.val = o + 1 * y.val by omega)
  | ⟨2, _⟩ => exact Fin.ext (show c.val = 0 + 1 * c.val by omega)

theorem rd_miss (o n : ℕ) (inb) (w) (L : Pieces) (c : Fin 128) (r : ℕ) (h : r < o) :
    rd ((⟨Rect.unit (s := S1x2064x128) ![0, o, 0] ![1, n, 128] inb, w⟩ : View.Piece (Elt Ideal) S1x2064x128 EltTy.f32) :: L) c r = rd L c r := by
  unfold rd
  by_cases hr : r < 2064
  · rw [dif_pos hr, dif_pos hr, View.canon_cons_of_not_mem]
    rw [Rect.mem_set_unit]
    intro hm
    have := (hm 1).1
    change o ≤ r at this
    omega
  · rw [dif_neg hr, dif_neg hr]

theorem rd_read {sig : RefSig} {κ : Kind} {sp : Space} (v : View sig κ sp S1x2064x128 EltTy.f32) (o n : ℕ) (inb) (L : Pieces) (c : Fin 128)
    (y : Fin n) (hon : o + n ≤ 2064) :
    v.readCov L (Rect.unit (s := S1x2064x128) ![0, o, 0] ![1, n, 128] inb).toLoadRect (ix3 (0 : Fin 1) y c) = rd L c (o + y.val) := by
  have hy := y.isLt
  rw [View.readCov_eq_canon', rd, dif_pos (by omega)]
  show View.canon L _ = _
  congr 1
  funext a
  match a with
  | ⟨0, _⟩ => rfl
  | ⟨1, _⟩ => exact Fin.ext (show o + 1 * y.val = o + y.val by omega)
  | ⟨2, _⟩ => exact Fin.ext (show 0 + 1 * c.val = c.val by omega)

/-- The scratch's channel `c` holds, from row `d - 1` on, the sum of the last `d` rows of `e`. -/
def Holds (L : Pieces) (c : Fin 128) (e : ℕ → EReal) (d : ℕ) : Prop :=
  ∀ r, r < 2064 → d ≤ r + 1 → rd L c r = ∑ j ∈ range d, e (r - j)

theorem pass {sig : RefSig} {κ : Kind} {sp : Space} (v : View sig κ sp S1x2064x128 EltTy.f32) (d n : ℕ) (hdn : d + n = 2064) (inb inb0) (w)
    (L : Pieces) (c : Fin 128) (e : ℕ → EReal) (h : Holds L c e d)
    (hw : ∀ y : Fin n, w (ix3 (0 : Fin 1) y c)
      = v.readCov L (Rect.unit (s := S1x2064x128) ![0, d, 0] ![1, n, 128] inb).toLoadRect (ix3 (0 : Fin 1) y c)
        + v.readCov L (Rect.unit (s := S1x2064x128) ![0, 0, 0] ![1, n, 128] inb0).toLoadRect (ix3 (0 : Fin 1) y c)) :
    Holds ((⟨Rect.unit (s := S1x2064x128) ![0, d, 0] ![1, n, 128] inb, w⟩ : View.Piece (Elt Ideal) S1x2064x128 EltTy.f32) :: L) c e (d + d) := by
  intro r hr hd
  obtain ⟨y, rfl⟩ : ∃ y : Fin n, r = d + y.val := ⟨⟨r - d, by omega⟩, by simp only []; omega⟩
  rw [rd_hit d n inb w L c y (by omega), hw, rd_read v d n inb L c y (by omega), rd_read v 0 n inb0 L c y (by omega),
    show 0 + y.val = d + y.val - d by omega]
  exact double (h _ hr (by omega)) (h _ (by omega) (by omega))

/-- The rows under 16 rows of zeros. -/
def under (u : Fin 2048 → EReal) (r : ℕ) : EReal := if h : 16 ≤ r ∧ r < 2064 then u ⟨r - 16, by omega⟩ else 0

theorem base (u : Fin 2048 → EReal) (w : Vec Ideal S1x2048x128 .f32) (z : Vec Ideal S1x16x128 .f32) (c : Fin 128)
    (hu : ∀ s, w (ix3 0 s c) = u s) (hz : ∀ r, z (ix3 0 r c) = 0) (inb inb0) (L : Pieces) :
    Holds ((⟨Rect.unit (s := S1x2064x128) ![0, 16, 0] ![1, 2048, 128] inb, w⟩ : View.Piece (Elt Ideal) S1x2064x128 EltTy.f32)
      :: (⟨Rect.unit (s := S1x2064x128) ![0, 0, 0] ![1, 16, 128] inb0, z⟩ : View.Piece (Elt Ideal) S1x2064x128 EltTy.f32) :: L) c (under u) 1 := by
  intro r hr _
  rw [Finset.sum_range_one, Nat.sub_zero, under]
  by_cases h : 16 ≤ r
  · rw [dif_pos ⟨h, hr⟩, ← hu]
    have := rd_hit 16 2048 inb w ((⟨Rect.unit (s := S1x2064x128) ![0, 0, 0] ![1, 16, 128] inb0, z⟩ : View.Piece (Elt Ideal) S1x2064x128 EltTy.f32) :: L)
      c ⟨r - 16, by omega⟩ (by omega)
    rwa [show 16 + (⟨r - 16, by omega⟩ : Fin 2048).val = r from by show 16 + (r - 16) = r; omega] at this
  · rw [dif_neg (fun h' => h h'.1), rd_miss _ _ _ _ _ _ _ (by omega)]
    have := rd_hit 0 16 inb0 z L c ⟨r, by omega⟩ (by omega)
    rwa [Nat.zero_add, hz] at this

theorem held {sig : RefSig} {κ : Kind} {sp : Space} (v : View sig κ sp S1x2064x128 EltTy.f32) (inb) (L : Pieces) (c : Fin 128)
    (u : Fin 2048 → EReal) (d : ℕ) (hd : d ≤ 16) (h : Holds L c (under u) d) (t : Fin 2048) :
    v.readCov L (Rect.unit (s := S1x2064x128) ![0, 16, 0] ![1, 2048, 128] inb).toLoadRect (ix3 (0 : Fin 1) t c) = win d u t.val := by
  have ht := t.isLt
  rw [rd_read v 16 2048 inb L c t (by omega), h _ (by omega) (by omega)]
  refine Finset.sum_congr rfl fun j hj => ?_
  have hj := Finset.mem_range.1 hj
  rw [under]
  by_cases h : j ≤ t.val
  · rw [dif_pos ⟨by omega, by omega⟩, dif_pos ⟨h, ht⟩]
    exact congrArg u (Fin.ext (show 16 + t.val - j - 16 = t.val - j by omega))
  · rw [dif_neg (by omega), dif_neg (fun h' => h h'.1)]

/-- One entry of a group's result from the window sums `a`, the rows `u`, the weights `w` and the scale `s`. -/
def entry (W : BitVec 32) (a u : Vec Ideal S1x2048x128 .f32) (w : Vec Ideal S1x128x128 .bf16) (s : Vec Ideal S1x128 .f32) (t : Fin 2048) (c : Fin 128) :
    EReal := (∑ k : Fin 128, (Ideal.div (a (ix3 0 t k)) (cnt W t.val) - u (ix3 0 t k)) * w (ix3 0 k c)) * s (ix2 0 c)

section
variable (u a : Vec Ideal S1x2048x128 .f32) (w : Vec Ideal S1x128x128 .bf16) (s : Vec Ideal S1x128 .f32) (t : Fin 2048) (c : Fin 128)

theorem entry_0 : k0_pay8 (k0_pay7 u a) w s (ix3 0 t c) = entry 2#32 a u w s t c := by
  pointwise [k0_pay8, k0_pay7, k0_pay3, entry, cnt]
theorem entry_1 : k0_pay13 k0_pay3 u a w s (ix3 0 t c) = entry 4#32 a u w s t c := by
  pointwise [k0_pay13, k0_pay3, entry, cnt]
theorem entry_2 : k0_pay20 k0_pay3 u a w s (ix3 0 t c) = entry 8#32 a u w s t c := by
  pointwise [k0_pay20, k0_pay3, entry, cnt]
theorem entry_3 : k0_pay2 k0_pay3 u a w s (ix3 0 t c) = entry 16#32 a u w s t c := by
  pointwise [k0_pay2, k0_pay3, entry, cnt]
end

/-- One entry of the call's result over its blocks: the rows, the weights of the four groups and the scales. -/
def out (x0 : Vec Ideal S1x2048x512 .f32) (x2 : Vec Ideal S4x128x128 .bf16) (x3 : Vec Ideal S1x512 .f32) (g : Fin 4) (t : Fin 2048) (c : Fin 128) : EReal :=
  (∑ k : Fin 128, (Ideal.div (win (2 ^ (g.val + 1)) (fun s => x0 (ix3 0 s ⟨128 * g.val + k.val, by omega⟩)) t.val)
    (cnt (BitVec.ofNat 32 (2 ^ (g.val + 1))) t.val) - x0 (ix3 0 t ⟨128 * g.val + k.val, by omega⟩)) * x2 (ix3 g k c))
    * x3 (ix2 0 ⟨128 * g.val + c.val, by omega⟩)

theorem entry_out (x0 : Vec Ideal S1x2048x512 .f32) (x2 : Vec Ideal S4x128x128 .bf16) (x3 : Vec Ideal S1x512 .f32) (g : Fin 4)
    (i0 i2 i3) (a : Vec Ideal S1x2048x128 .f32)
    (ha : ∀ t k, a (ix3 0 t k) = win (2 ^ (g.val + 1)) (fun s => View.ld x0 (Rect.unit (s := S1x2048x512) ![0, 0, 128 * g.val] ![1, 2048, 128] i0) (ix3 (0 : Fin 1) s k)) t.val)
    (t : Fin 2048) (c : Fin 128) :
    entry (BitVec.ofNat 32 (2 ^ (g.val + 1))) a (View.ld x0 (Rect.unit (s := S1x2048x512) ![0, 0, 128 * g.val] ![1, 2048, 128] i0))
      (View.ld x2 (Rect.unit (s := S4x128x128) ![g.val, 0, 0] ![1, 128, 128] i2))
      (View.ld x3 (Rect.unit (s := S1x512) ![0, 128 * g.val] ![1, 128] i3)) t c = out x0 x2 x3 g t c := by
  have e0 : ∀ (s : Fin 2048) (k : Fin 128), View.ld x0 (Rect.unit (s := S1x2048x512) ![0, 0, 128 * g.val] ![1, 2048, 128] i0) (ix3 (0 : Fin 1) s k)
      = x0 (ix3 0 s ⟨128 * g.val + k.val, by omega⟩) := fun s k => congrArg x0 (funext fun b => match b with
    | ⟨0, _⟩ => rfl
    | ⟨1, _⟩ => Fin.ext (show 0 + 1 * s.val = s.val by omega)
    | ⟨2, _⟩ => Fin.ext (show 128 * g.val + 1 * k.val = 128 * g.val + k.val by omega))
  have e2 : ∀ k : Fin 128, View.ld x2 (Rect.unit (s := S4x128x128) ![g.val, 0, 0] ![1, 128, 128] i2) (ix3 (0 : Fin 1) k c)
      = x2 (ix3 g k c) := fun k => congrArg x2 (funext fun b => match b with
    | ⟨0, _⟩ => Fin.ext (show g.val + 1 * 0 = g.val by omega)
    | ⟨1, _⟩ => Fin.ext (show 0 + 1 * k.val = k.val by omega)
    | ⟨2, _⟩ => Fin.ext (show 0 + 1 * c.val = c.val by omega))
  have e3 : View.ld x3 (Rect.unit (s := S1x512) ![0, 128 * g.val] ![1, 128] i3) (ix2 (0 : Fin 1) c)
      = x3 (ix2 0 ⟨128 * g.val + c.val, by omega⟩) := congrArg x3 (funext fun b => match b with
    | ⟨0, _⟩ => rfl
    | ⟨1, _⟩ => Fin.ext (show 128 * g.val + 1 * c.val = 128 * g.val + c.val by omega))
  unfold entry out
  rw [e3]
  simp only [e0, e2, ha]

/-- The block the call leaves. -/
def block (x0 : Vec Ideal S1x2048x512 .f32) (x2 : Vec Ideal S4x128x128 .bf16) (x3 : Vec Ideal S1x512 .f32) : S1x2048x512.Idx → Elt Ideal .bf16 :=
  fun y => out x0 x2 x3 ⟨(y 2).val / 128, by have := (y 2).isLt; change (y 2).val < 512 at this; omega⟩ ⟨(y 1).val, (y 1).isLt⟩
    ⟨(y 2).val % 128, Nat.mod_lt _ (by decide)⟩

theorem opiece (x0 : Vec Ideal S1x2048x512 .f32) (x2 : Vec Ideal S4x128x128 .bf16) (x3 : Vec Ideal S1x512 .f32) (g : Fin 4)
    (inb : ∀ a, ![0, 0, 128 * g.val] a + S1x2048x128.size a ≤ S1x2048x512.size a) (P : Vec Ideal S1x2048x128 .bf16)
    (hP : ∀ t c, P (ix3 0 t c) = out x0 x2 x3 g t c) (z : S1x2048x128.Idx) :
    P z = block x0 x2 x3 ((Rect.unit (s := S1x2048x512) ![0, 0, 128 * g.val] S1x2048x128.size inb).emb z) := by
  have h0 : (z 0).val = 0 := Nat.lt_one_iff.mp (z 0).isLt
  have h2 : (z 2).val < 128 := (z 2).isLt
  have e : z = ix3 0 (z 1) (z 2) := by
    funext a
    match a with
    | ⟨0, _⟩ => exact Fin.ext h0
    | ⟨1, _⟩ => rfl
    | ⟨2, _⟩ => rfl
  rw [show P z = P (ix3 0 (z 1) (z 2)) from congrArg P e, hP (z 1) (z 2)]
  unfold block
  congr 1
  · exact Fin.ext (show g.val = (128 * g.val + 1 * (z 2).val) / 128 by omega)
  · exact Fin.ext (show (z 1).val = 0 + 1 * (z 1).val by omega)
  · exact Fin.ext (show (z 2).val = (128 * g.val + 1 * (z 2).val) % 128 by omega)

set_option maxHeartbeats 4000000 in
theorem point (c : Dev nD) (i : grid0.Coords) (arg1 : Memref sig .tc .vmem S1x2048x512 .f32) (harg1 : arg1.IsWhole) (arg2 : Memref sig .tc .vmem S1x16x512 .f32) (harg2 : arg2.IsWhole) (arg3 : Memref sig .tc .vmem S4x128x128 .bf16) (harg3 : arg3.IsWhole) (arg4 : Memref sig .tc .vmem S1x512 .f32) (harg4 : arg4.IsWhole) (arg5 : Memref sig .tc .vmem S1x2048x512 .bf16) (harg5 : arg5.IsWhole) (arg6 : Memref sig .tc .vmem S1x2064x128 .f32) (harg6 : arg6.IsWhole)
    (x0 : Vec Ideal S1x2048x512 .f32) (x1 : Vec Ideal S1x16x512 .f32) (x2 : Vec Ideal S4x128x128 .bf16) (x3 : Vec Ideal S1x512 .f32) (hz : ∀ y, x1 y = 0) (y) :
    out0_A_4 c i arg1 harg1 arg2 harg2 arg3 harg3 arg4 harg4 arg5 harg5 arg6 harg6 x0 x1 x2 x3 y = block x0 x2 x3 y := by
  unfold out0_A_4 kernelRun0_A
  dsimp only
  frame_out
  refine View.canon_apply_of_pieces (block x0 x2 x3) _ ?_ y (View.cover_of_tiled _ (s := S1x2048x512) S1x2048x128.size (by sl_kernel_rfl) y)
  refine View.PiecesOf.mem ⟨opiece x0 x2 x3 3 inb_S1x2048x512_S1x2048x128_0_0_384 _ fun t c => ?_,
    opiece x0 x2 x3 2 inb_S1x2048x512_S1x2048x128_0_0_256 _ fun t c => ?_,
    opiece x0 x2 x3 1 inb_S1x2048x512_S1x2048x128_0_0_128 _ fun t c => ?_,
    opiece x0 x2 x3 0 inb_S1x2048x512_S1x2048x128_0_0_0 _ fun t c => ?_, trivial⟩
  · refine (entry_3 _ _ _ _ t c).trans (entry_out x0 x2 x3 3 _ _ _ _ (fun t k => ?_) t c)
    refine held _ _ _ k _ 16 (by omega) ?_ t
    refine pass arg6.view 8 2056 rfl _ inb_S1x2064x128_S1x2056x128_0_0_0 _ _ k _ ?_ fun y => by pointwise [k0_pay1]
    refine pass arg6.view 4 2060 rfl _ inb_S1x2064x128_S1x2060x128_0_0_0 _ _ k _ ?_ fun y => by pointwise [k0_pay25]
    refine pass arg6.view 2 2062 rfl _ inb_S1x2064x128_S1x2062x128_0_0_0 _ _ k _ ?_ fun y => by pointwise [k0_pay24]
    refine pass arg6.view 1 2063 rfl _ inb_S1x2064x128_S1x2063x128_0_0_0 _ _ k _ ?_ fun y => by pointwise [k0_pay23]
    exact base _ _ _ k (fun s => by pointwise [k0_pay22]) (fun r => by pointwise [k0_pay21, hz]) _ _ _
  · refine (entry_2 _ _ _ _ t c).trans (entry_out x0 x2 x3 2 _ _ _ _ (fun t k => ?_) t c)
    refine held _ _ _ k _ 8 (by omega) ?_ t
    refine pass arg6.view 4 2060 rfl _ inb_S1x2064x128_S1x2060x128_0_0_0 _ _ k _ ?_ fun y => by pointwise [k0_pay19, k0_pay18]
    refine pass arg6.view 2 2062 rfl _ inb_S1x2064x128_S1x2062x128_0_0_0 _ _ k _ ?_ fun y => by pointwise [k0_pay17]
    refine pass arg6.view 1 2063 rfl _ inb_S1x2064x128_S1x2063x128_0_0_0 _ _ k _ ?_ fun y => by pointwise [k0_pay16]
    exact base _ _ _ k (fun s => by pointwise [k0_pay15]) (fun r => by pointwise [k0_pay14, hz]) _ _ _
  · refine (entry_1 _ _ _ _ t c).trans (entry_out x0 x2 x3 1 _ _ _ _ (fun t k => ?_) t c)
    refine held _ _ _ k _ 4 (by omega) ?_ t
    refine pass arg6.view 2 2062 rfl _ inb_S1x2064x128_S1x2062x128_0_0_0 _ _ k _ ?_ fun y => by pointwise [k0_pay12]
    refine pass arg6.view 1 2063 rfl _ inb_S1x2064x128_S1x2063x128_0_0_0 _ _ k _ ?_ fun y => by pointwise [k0_pay11]
    exact base _ _ _ k (fun s => by pointwise [k0_pay10]) (fun r => by pointwise [k0_pay9, hz]) _ _ _
  · refine (entry_0 _ _ _ _ t c).trans (entry_out x0 x2 x3 0 _ _ _ _ (fun t k => ?_) t c)
    refine held _ _ _ k _ 2 (by omega) ?_ t
    refine pass arg6.view 1 2063 rfl _ inb_S1x2064x128_S1x2063x128_0_0_0 _ _ k _ ?_ fun y => by pointwise [k0_pay6]
    exact base _ _ _ k (fun s => by pointwise [k0_pay5]) (fun r => by pointwise [k0_pay4, hz]) _ _ _

end Cert.PoolIdeal.Point

end
-- ==== Proof.PoolRefRead.lean ====
/- The pool call's reference, read at an index: the running sums are prefix sums of numbers, and the difference of two
   of them is the window sum. -/
module

public import proofs.«01_k».proof.Proof.Gen.PoolRefIdeal.Read
public import proofs.«01_k».proof.Proof.PoolSum
public import proofs.«01_k».proof.Proof.FoxRefRead
public import Idealize.ShloMosaic.Lib.Pointwise

@[expose] public section

set_option maxRecDepth 16384

noncomputable section

namespace Cert.PoolRefIdeal.Reading

open Idealize.ShloMosaic Cert.PoolRefIdeal Cert.PoolRefIdeal.Read
open Cert.PoolIdeal.Window Finset

variable (x0 : FVec Ideal S8x2048x512 .f32) (x1 : FVec Ideal S4x128x128 .f32) (x2 : FVec Ideal S512 .f32)

theorem zero_word : FloatOps.sitofp (F := Ideal) .f32 0#32 = (0 : EReal) := by
  show (((0#32 : BitVec 32).toInt : ℝ) : EReal) = 0
  simp

theorem running (b : Fin 8) (t : Fin 2048) (h : Fin 512) : val_main_v1 (F := Ideal) x0 (ix3 b t h) =
    ∑ j : Fin 2048, if hj : 2047 ≤ t.val + j.val then x0 (ix3 b ⟨t.val + j.val - 2047, by omega⟩ h) else 0 := by
  unfold val_main_v1 Host.reduceWindowAdd
  rw [Ideal.hostReduceWindowAdd_def]
  unfold Ideal.hostReduceWindowAdd Host.reduceWindow
  have z : val_main_call0_call0_v0 (F := Ideal) (Shape.Idx.first Gen.h_S_) = (0 : EReal) := by
    pointwise [val_main_call0_call0_v0, val_main_call0_call0_cst]
  simp only [z]
  refine (Cert.FoxIdeal.Soft.fold_add _ _).trans ?_
  let G : Fin 2048 → EReal := fun j => if hj : 2047 ≤ t.val + j.val then x0 (ix3 b ⟨t.val + j.val - 2047, by omega⟩ h) else 0
  refine (Finset.sum_congr rfl fun n _ =>
    (?_ : _ = G ((Shape.rowMajor (⟨3, ![1, 2048, 1]⟩ : Shape)).symm n (1 : Fin 3)))).trans ?_
  · let w := (Shape.rowMajor (⟨3, ![1, 2048, 1]⟩ : Shape)).symm n
    show _ = G (w (1 : Fin 3))
    have h0 : (w (0 : Fin 3)).val = 0 := Nat.lt_one_iff.mp (w (0 : Fin 3)).isLt
    have h2 : (w (2 : Fin 3)).val = 0 := Nat.lt_one_iff.mp (w (2 : Fin 3)).isLt
    have h1 : (w (1 : Fin 3)).val < 2048 := (w (1 : Fin 3)).isLt
    by_cases hj : 2047 ≤ t.val + (w (1 : Fin 3)).val
    · refine (dif_pos ?_).trans ?_
      · intro a
        match a with
        | ⟨0, _⟩ => exact ⟨Nat.zero_le _, show b.val * 1 + (w (0 : Fin 3)).val - 0 < 8 by omega⟩
        | ⟨1, _⟩ => exact ⟨show 2047 ≤ t.val * 1 + (w (1 : Fin 3)).val by omega, show t.val * 1 + (w (1 : Fin 3)).val - 2047 < 2048 by omega⟩
        | ⟨2, _⟩ => exact ⟨Nat.zero_le _, show h.val * 1 + (w (2 : Fin 3)).val - 0 < 512 by omega⟩
      · rw [show G (w (1 : Fin 3)) = x0 (ix3 b ⟨t.val + (w (1 : Fin 3)).val - 2047, by omega⟩ h) from dif_pos hj]
        congr 1
        funext a
        match a with
        | ⟨0, _⟩ => exact Fin.ext (show b.val * 1 + (w (0 : Fin 3)).val - 0 = b.val by omega)
        | ⟨1, _⟩ => exact Fin.ext (show t.val * 1 + (w (1 : Fin 3)).val - 2047 = t.val + (w (1 : Fin 3)).val - 2047 by omega)
        | ⟨2, _⟩ => exact Fin.ext (show h.val * 1 + (w (2 : Fin 3)).val - 0 = h.val by omega)
    · rw [show G (w (1 : Fin 3)) = 0 from dif_neg hj]
      refine dif_neg fun hin => hj ?_
      have := (hin (1 : Fin 3)).1
      change 2047 ≤ t.val * 1 + (w (1 : Fin 3)).val at this
      omega
  · rw [Equiv.sum_comp (Shape.rowMajor (⟨3, ![1, 2048, 1]⟩ : Shape)).symm fun w => G (w (1 : Fin 3))]
    refine Finset.sum_nbij' (fun w => w (1 : Fin 3)) (fun j => ix3 (0 : Fin 1) j (0 : Fin 1)) (fun _ _ => Finset.mem_univ _)
      (fun _ _ => Finset.mem_univ _) (fun w _ => funext fun a => ?_) (fun _ _ => rfl) (fun _ _ => rfl)
    match a with
    | ⟨0, _⟩ => exact Fin.ext (Nat.lt_one_iff.mp (w (0 : Fin 3)).isLt).symm
    | ⟨1, _⟩ => rfl
    | ⟨2, _⟩ => exact Fin.ext (Nat.lt_one_iff.mp (w (2 : Fin 3)).isLt).symm

section
variable (hx : ∀ b s c, ∃ r : ℝ, x0 (ix3 b s c) = (r : EReal))
include hx

/-- The running sum is the prefix sum. -/
theorem running_pre (b : Fin 8) (t : Fin 2048) (h : Fin 512) :
    val_main_v1 (F := Ideal) x0 (ix3 b t h) = (pre (fun s => x0 (ix3 b s h)) (t.val + 1) : EReal) := by
  have ht := t.isLt
  rw [running, pre, Cert.FoxIdeal.Soft.coe_sum]
  have e : ∀ j : Fin 2048, (if hj : 2047 ≤ t.val + j.val then x0 (ix3 b ⟨t.val + j.val - 2047, by omega⟩ h) else 0)
      = (fun n : ℕ => if 2047 ≤ t.val + n then ((col (fun s => x0 (ix3 b s h)) (t.val + n - 2047) : ℝ) : EReal) else 0) j.val := fun j => by
    by_cases hj : 2047 ≤ t.val + j.val
    · show _ = ite _ _ _
      rw [dif_pos hj, if_pos hj, col_coe _ (fun s => hx b s h)]
    · show _ = ite _ _ _
      rw [dif_neg hj, if_neg hj]
  rw [Finset.sum_congr rfl fun j _ => e j, Fin.sum_univ_eq_sum_range (fun n : ℕ => if 2047 ≤ t.val + n then ((col (fun s => x0 (ix3 b s h)) (t.val + n - 2047) : ℝ) : EReal) else 0) 2048]
  rw [← Finset.sum_filter]
  refine Finset.sum_nbij' (fun n => t.val + n - 2047) (fun s => 2047 + s - t.val) ?_ ?_ ?_ ?_ ?_
  · intro n hn
    simp only [Finset.mem_filter, Finset.mem_range] at hn ⊢
    omega
  · intro n hn
    simp only [Finset.mem_filter, Finset.mem_range] at hn ⊢
    omega
  · intro n hn
    simp only [Finset.mem_filter, Finset.mem_range] at hn ⊢
    omega
  · intro n hn
    simp only [Finset.mem_filter, Finset.mem_range] at hn ⊢
    omega
  · intro n hn
    rfl

theorem padded (b : Fin 8) (n : Fin 2049) (h : Fin 512) :
    val_main_v2 (F := Ideal) x0 (ix3 b n h) = (pre (fun s => x0 (ix3 b s h)) n.val : EReal) := by
  have hn := n.isLt
  have e : val_main_v2 (F := Ideal) x0 (ix3 b n h) = if h1 : 1 ≤ n.val ∧ n.val - 1 < 2048 then val_main_v1 (F := Ideal) x0 (ix3 b ⟨n.val - 1, h1.2⟩ h)
      else FloatOps.sitofp (F := Ideal) .f32 0#32 := by
    pointwise [val_main_v2, val_main_call1_v0, val_main_c]
  rw [e]
  by_cases h1 : 1 ≤ n.val
  · rw [dif_pos ⟨h1, by omega⟩, running_pre x0 hx]
    exact congrArg (fun i => ((pre (fun s => x0 (ix3 b s h)) i : ℝ) : EReal)) (Nat.sub_add_cancel h1)
  · rw [dif_neg (fun h' => h1 h'.1), zero_word, show n.val = 0 by omega]
    exact EReal.coe_zero.symm

/-- The difference of two running sums, `d` rows apart, is the window sum. -/
theorem difference (d : ℕ) (b : Fin 8) (t : Fin 2048) (h : Fin 512) (p : 1 + t.val < 2049) (q : d ≤ 1 + t.val ∧ 1 + t.val - d < 2049 → 1 + t.val - d < 2049) :
    val_main_v2 (F := Ideal) x0 (ix3 b ⟨1 + t.val, p⟩ h)
      - (if h1 : d ≤ 1 + t.val ∧ 1 + t.val - d < 2049 then val_main_v2 (F := Ideal) x0 (ix3 b ⟨1 + t.val - d, q h1⟩ h)
        else FloatOps.sitofp (F := Ideal) .f32 0#32) = win d (fun s => x0 (ix3 b s h)) t.val := by
  have ht := t.isLt
  rw [win_eq _ (fun s => hx b s h), padded x0 hx, Nat.add_comm t.val 1]
  congr 1
  by_cases h1 : d ≤ 1 + t.val
  · rw [dif_pos ⟨h1, by omega⟩, padded x0 hx]
  · rw [dif_neg (fun h' => h1 h'.1), zero_word, show 1 + t.val - d = 0 by omega]
    exact EReal.coe_zero.symm

/-- One entry of what the reference feeds its product. -/
def pooled (g : Fin 4) (b : Fin 8) (t : Fin 2048) (k : Fin 128) : EReal :=
  Ideal.div (win (2 ^ (g.val + 1)) (fun s => x0 (ix3 b s ⟨128 * g.val + k.val, by omega⟩)) t.val)
    (cnt (BitVec.ofNat 32 (2 ^ (g.val + 1))) t.val) - x0 (ix3 b t ⟨128 * g.val + k.val, by omega⟩)

omit hx in
theorem count (W : BitVec 32) (t : ℕ) :
    FloatOps.sitofp (F := Ideal) .f32 (IntOp.minsi W (IntOp.addi (BitVec.ofNat 32 t) 1#32)) = cnt W t := by
  unfold cnt
  rw [show IntOp.addi 0#32 (BitVec.ofNat 32 t) = BitVec.ofNat 32 t from BitVec.zero_add _]

theorem group (g : Fin 4) (b : Fin 8) (t : Fin 2048) (k : Fin 128) (i : Fin 512) (hi : i.val = 128 * g.val + k.val) (a : EReal)
    (ha : a = win (2 ^ (g.val + 1)) (fun s => x0 (ix3 b s i)) t.val) :
    Ideal.div a (FloatOps.sitofp (F := Ideal) .f32 (IntOp.minsi (BitVec.ofNat 32 (2 ^ (g.val + 1))) (IntOp.addi (BitVec.ofNat 32 t.val) 1#32)))
      - x0 (ix3 b t i) = pooled x0 g b t k := by
  have hk : 128 * g.val + k.val < 512 := by omega
  obtain rfl : i = ⟨128 * g.val + k.val, hk⟩ := Fin.ext hi
  rw [count, ha]
  rfl

theorem group_0 (b : Fin 8) (t : Fin 2048) (k : Fin 128) : val_main_v17 (F := Ideal) x0 (ix3 b t k) = pooled x0 0 b t k := by
  pointwise [val_main_v17, val_main_v16, val_main_v15, val_main_v14, val_main_v13, val_main_v12, val_main_v11, val_main_v10, val_main_v9,
    val_main_v8, val_main_v7, val_main_v6, val_main_v5, val_main_v4, val_main_v3, val_main_v0, val_main_c_2, val_main_c_1, val_main_c_0, val_main_call2_v0]
  exact group x0 hx 0 b t k _ (by simp) _ (difference x0 hx 2 b t _ _ fun h => h.2)

theorem group_1 (b : Fin 8) (t : Fin 2048) (k : Fin 128) : val_main_v32 (F := Ideal) x0 (ix3 b t k) = pooled x0 1 b t k := by
  pointwise [val_main_v32, val_main_v31, val_main_v30, val_main_v29, val_main_v28, val_main_v27, val_main_v26, val_main_v25, val_main_v24,
    val_main_v23, val_main_v22, val_main_v21, val_main_v20, val_main_v19, val_main_v18, val_main_v0, val_main_c_5, val_main_c_4, val_main_c_3, val_main_call3_v0]
  exact group x0 hx 1 b t k _ (by simp) _ (difference x0 hx 4 b t _ _ fun h => h.2)

theorem group_2 (b : Fin 8) (t : Fin 2048) (k : Fin 128) : val_main_v47 (F := Ideal) x0 (ix3 b t k) = pooled x0 2 b t k := by
  pointwise [val_main_v47, val_main_v46, val_main_v45, val_main_v44, val_main_v43, val_main_v42, val_main_v41, val_main_v40, val_main_v39,
    val_main_v38, val_main_v37, val_main_v36, val_main_v35, val_main_v34, val_main_v33, val_main_v0, val_main_c_8, val_main_c_7, val_main_c_6, val_main_call4_v0]
  exact group x0 hx 2 b t k _ (by simp) _ (difference x0 hx 8 b t _ _ fun h => h.2)

theorem group_3 (b : Fin 8) (t : Fin 2048) (k : Fin 128) : val_main_v62 (F := Ideal) x0 (ix3 b t k) = pooled x0 3 b t k := by
  pointwise [val_main_v62, val_main_v61, val_main_v60, val_main_v59, val_main_v58, val_main_v57, val_main_v56, val_main_v55, val_main_v54,
    val_main_v53, val_main_v52, val_main_v51, val_main_v50, val_main_v49, val_main_v48, val_main_v0, val_main_c_11, val_main_c_10, val_main_c_9, val_main_call5_v0]
  exact group x0 hx 3 b t k _ (by simp) _ (difference x0 hx 16 b t _ _ fun h => h.2)

theorem groups (b : Fin 8) (t : Fin 2048) (g : Fin 4) (k : Fin 128) : val_main_v67 (F := Ideal) x0 (ix4 b t g k) = pooled x0 g b t k := by
  match g with
  | 0 => exact Eq.trans (by pointwise [val_main_v67, val_main_v66, val_main_v65, val_main_v64, val_main_v63]) (group_0 x0 hx b t k)
  | 1 => exact Eq.trans (by pointwise [val_main_v67, val_main_v66, val_main_v65, val_main_v64, val_main_v63]) (group_1 x0 hx b t k)
  | 2 => exact Eq.trans (by pointwise [val_main_v67, val_main_v66, val_main_v65, val_main_v64, val_main_v63]) (group_2 x0 hx b t k)
  | 3 => exact Eq.trans (by pointwise [val_main_v67, val_main_v66, val_main_v65, val_main_v64, val_main_v63]) (group_3 x0 hx b t k)

/-- One entry of the reference's result. -/
theorem result (b : Fin 8) (t : Fin 2048) (g : Fin 4) (c : Fin 128) (i : Fin 512) (hi : i.val = 128 * g.val + c.val) :
    val_main_v74 (F := Ideal) x0 x1 x2 (ix3 b t i) = (∑ k : Fin 128, pooled x0 g b t k * x1 (ix3 g k c)) * x2 (ix1 i) := by
  have hc := c.isLt
  have e : val_main_v70 (F := Ideal) x0 x1 (ix3 b t i) = ∑ k : Fin 128, pooled x0 g b t k * x1 (ix3 g k c) := by
    rw [val_main_v70_apply, val_main_v69_apply, val_main_v68_apply]
    refine Finset.sum_congr rfl fun k _ => ?_
    rw [mul_comm, ← groups x0 hx b t g k]
    have hb := b.isLt
    have ht := t.isLt
    congr 1
    · congr 1
      funext a
      match a with
      | ⟨0, _⟩ => exact Fin.ext (show ((b.val * 2048 + t.val) * 512 + i.val) / 1048576 = b.val by omega)
      | ⟨1, _⟩ => exact Fin.ext (show ((b.val * 2048 + t.val) * 512 + i.val) / 512 % 2048 = t.val by omega)
      | ⟨2, _⟩ => exact Fin.ext (show ((b.val * 2048 + t.val) * 512 + i.val) / 128 % 4 = g.val by omega)
      | ⟨3, _⟩ => rfl
    · congr 1
      funext a
      match a with
      | ⟨0, _⟩ => exact Fin.ext (show ((b.val * 2048 + t.val) * 512 + i.val) / 128 % 4 = g.val by omega)
      | ⟨1, _⟩ => rfl
      | ⟨2, _⟩ => exact Fin.ext (show ((b.val * 2048 + t.val) * 512 + i.val) % 128 = c.val by omega)
  rw [← e]
  generalize hv : val_main_v70 (F := Ideal) x0 x1 = v
  pointwise [val_main_v74, val_main_v73, val_main_v72, val_main_v71, hv]

end

end Cert.PoolRefIdeal.Reading

end
-- ==== Proof.PoolValue.lean ====
/- The value of the pool call on the prompt: each grid point writes one batch row, and it is the reference's. -/
module

public import proofs.«01_k».proof.Proof.Gen.PoolIdeal.Value
public import proofs.«01_k».proof.Proof.PoolPoint
public import proofs.«01_k».proof.Proof.PoolRefRead
public import proofs.«01_k».proof.Proof.PoolFinite
public import proofs.«01_k».proof.Defs
public import Idealize.ShloMosaic.Lib.Claim

@[expose] public section

set_option maxRecDepth 16384

noncomputable section

namespace Cert.PoolIdeal.Result

open Cert.PoolIdeal Cert.PoolIdeal.Gen Idealize.ShloMosaic Idealize.ShloMosaic.TcCoe Idealize.SL.Sem
open Idealize.ShloMosaic.Pipeline (Dat)
open Cert.PoolRefIdeal.Read

variable (m : (ℓ : Loc nD τ sig) → Buf (Elt Ideal) ℓ)

/-- The block each window stages at a grid point: the batch row moves with the point, the weights and scales stay. -/
theorem idx : ∀ t : Fin cfg0.N, win0_0.index t = ![t.val, 0, 0] ∧ win0_1.index t = ![t.val, 0, 0] ∧ win0_2.index t = ![0, 0, 0]
    ∧ win0_3.index t = ![0, 0] ∧ win0_4.index t = ![t.val, 0, 0] :=
  (by decide +kernel : ∀ t : Fin grid0.N, _)

/-- The reference's result over the arguments. -/
abbrev REF (x0 : FVec Ideal S8x2048x512 .f32) (x1 : FVec Ideal S4x128x128 .f32) (x2 : FVec Ideal S512 .f32) :
    FVec Ideal S8x2048x512 .bf16 := val_main_v74 (F := Ideal) x0 x1 x2

/-- The prompt's history is zero. -/
theorem history (c : Dev nD) (t : Fin cfg0.N) (y : S1x16x512.Idx) : (iblk m c 1 t : Vec Ideal S1x16x512 .f32) y = (0 : EReal) := by
  have e : (iblk m c 1 t : Vec Ideal S1x16x512 .f32) y = FloatOps.ofBits (F := Ideal) .f32 0x00000000#32 := by
    blk_point [iblk, V, idx t]
  have z : FloatOps.ofBits (F := Ideal) .f32 0x00000000#32 = (0 : EReal) := by pointwise
  exact e.trans z

theorem rows (c : Dev nD) (t : Fin cfg0.N) (ht : t.val < 8) (s : Fin 2048) (l : Fin 512) :
    (iblk m c 0 t : Vec Ideal S1x2048x512 .f32) (ix3 0 s l) = m ((c : Thread nD τ).loc main_arg0) (ix3 (⟨t.val, ht⟩ : Fin 8) s l) := by
  blk_point [iblk, V, idx t]

theorem weights (c : Dev nD) (t : Fin cfg0.N) (g : Fin 4) (k l : Fin 128) :
    (iblk m c 2 t : Vec Ideal S4x128x128 .bf16) (ix3 g k l) = m ((c : Thread nD τ).loc main_arg1) (ix3 g k l) := by
  blk_point [iblk, V, idx t]

theorem scales (c : Dev nD) (t : Fin cfg0.N) (l : Fin 512) :
    (iblk m c 3 t : Vec Ideal S1x512 .f32) (ix2 0 l) = m ((c : Thread nD τ).loc main_arg2) (ix1 l) := by
  blk_point [iblk, V, idx t]

theorem point (c : Dev nD) (hx : ∀ b s l, ∃ r : ℝ, m ((c : Thread nD τ).loc main_arg0) (ix3 b s l) = (r : EReal)) (t : Fin cfg0.N) (y) :
    outsAt0 m c t y = REF (m ((c : Thread nD τ).loc main_arg0)) (m ((c : Thread nD τ).loc main_arg1)) (m ((c : Thread nD τ).loc main_arg2))
      (((cfg0.win 4).blk t).view.emb y) := by
  have ht : t.val < 8 := t.isLt
  idx_vars y
  obtain rfl : y0 = 0 := Fin.ext (by omega)
  rw [show ((cfg0.win 4).blk t).view.emb (ix3 0 y1 y2) = ix3 (⟨t.val, ht⟩ : Fin 8) y1 y2 by blk_ext [idx t]]
  unfold outsAt0
  rw [Point.point _ _ _ _ _ _ _ _ _ _ _ _ _ _ _ _ _ _ (history m c t)]
  unfold REF
  rw [Cert.PoolRefIdeal.Reading.result _ _ _ hx ⟨t.val, ht⟩ y1 ⟨y2.val / 128, by omega⟩ ⟨y2.val % 128, by omega⟩ y2
    (show y2.val = 128 * (y2.val / 128) + y2.val % 128 by omega)]
  show Point.out _ _ _ ⟨y2.val / 128, by omega⟩ y1 ⟨y2.val % 128, by omega⟩ = _
  unfold Point.out Cert.PoolRefIdeal.Reading.pooled
  simp only [rows m c t ht, weights, scales]
  congr 2
  exact congrArg ix1 (Fin.ext (show 128 * (y2.val / 128) + y2.val % 128 = y2.val by omega))

/-- The result array after the run is the reference's result. -/
theorem final (c : Dev nD) (hx : ∀ b s l, ∃ r : ℝ, m ((c : Thread nD τ).loc main_arg0) (ix3 b s l) = (r : EReal)) :
    (dats m 0 c).arrAt 4 (cfgs 0).N
      = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point m c hx t y

/-- The claim's two runs end with the same result. -/
theorem algebraic : Cert.algebraic_PoolIdeal_PoolRefIdeal_pre_finite_pool := by
  intro m g m' g' hpre hagree
  refine ⟨fun c => REF (m ((c : Thread nD τ).loc main_arg0)) (m ((c : Thread nD τ).loc main_arg1)) (m ((c : Thread nD τ).loc main_arg2)), ?_, ?_⟩
  · refine (θ_run _ _ _).mono (fun r h c => ?_) (Cert.PoolIdeal.Value.run_blocks m g)
    exact ⟨(h c).1.trans (final m c (Cert.Pre_finite_pool.Decode.read _ _ _ (hpre c))), (h c).2⟩
  · refine (θ_run _ _ _).mono (fun r h c => ?_) (Cert.PoolRefIdeal.Value.run m' g')
    refine ⟨(h c).1.trans ?_, (h c).2⟩
    rw [Cert.PoolRefIdeal.Read.val_main_v74_eq, (hagree c).1, (hagree c).2.1, (hagree c).2.2]

end Cert.PoolIdeal.Result

end
-- ==== Proof.ProjValue.lean ====
/- The value of the projection call: each block of 512 rows of each of its eight results is the reference's result read
   at those rows; the stacked results keep layers 0 to 2 of the arrays they update in place. The row scaling is read once
   (`row`), each result is a column range of one product with it. -/
module

public import proofs.«01_k».proof.Proof.Gen.ProjIdeal.Value
public import proofs.«01_k».proof.Proof.Gen.ProjRefIdeal.Read
public import Idealize.ShloMosaic.Lib.Pipeline.ValueKit
public import Idealize.ShloMosaic.Lib.Pointwise
public import proofs.«01_k».proof.Defs
public import Idealize.ShloMosaic.Lib.Claim

@[expose] public section

set_option maxRecDepth 16384

noncomputable section

namespace Cert.ProjIdeal.Result

open Cert.ProjIdeal Cert.ProjIdeal.Gen Idealize.ShloMosaic Idealize.ShloMosaic.TcCoe Idealize.SL.Sem
open Idealize.ShloMosaic.Pipeline (Dat)
open Cert.ProjRefIdeal.Read

variable (m : (ℓ : Loc nD τ sig) → Buf (Elt Ideal) ℓ)

/-- The block each window stages at a grid point: the row blocks move with the point (on layer 3 of a stacked array), the
    weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![3, t.val, 0]
    ∧ win0_7.index t = ![3, t.val, 0] ∧ win0_8.index t = ![t.val, 0] ∧ win0_9.index t = ![t.val, 0]
    ∧ win0_10.index t = ![3, t.val, 0] ∧ win0_11.index t = ![3, t.val, 0] ∧ win0_12.index t = ![3, t.val, 0] :=
  (by decide +kernel : ∀ t : Fin grid0.N, _)

/-- An array row at a grid point's block. -/
abbrev rowAt (t : Fin cfg0.N) (r : Fin 512) : Fin 16384 :=
  ⟨t.val * 512 + r.val, by have h := t.isLt; have e : cfg0.N = 32 := rfl; omega⟩

/-- The scaled rows a grid point multiplies are the reference's scaled rows. -/
theorem row (c : Dev nD) (t : Fin cfg0.N) (r : Fin 512) (j : Fin 1024) :
    k0_pay2 (F := Ideal) (iblk m c 0 t) (iblk m c 1 t) (ix2 r j)
      = val_main_v12 (F := Ideal) (m ((c : Thread nD τ).loc main_arg0)) (m ((c : Thread nD τ).loc main_arg1))
        (ix2 (rowAt t r) j) := by
  pointwise [k0_pay2, val_main_v12, val_main_v11, val_main_v10, val_main_v9, val_main_v8, val_main_v7,
    val_main_v6, val_main_v5, val_main_v4, val_main_v3, val_main_v2, val_main_v1, val_main_v0, val_main_cst, val_main_cst_0,
    val_main_cst_1]
  blk_point [iblk, V, idx t]

/-- The logarithm of the sigmoid, with the kernel's subtractions from zero and with the reference's negations and its test
    for an undefined value. -/
theorem log_sigmoid_eq (z : EReal) :
    0 - (max (0 - z) 0 + Ideal.log1p (Ideal.exp (0 - FloatOps.absf (F := Ideal) (φ := .f32) z)))
      = -(if -z ≠ -z then -z else max (-z) 0 + Ideal.log1p (Ideal.exp (-FloatOps.absf (F := Ideal) (φ := .f32) (-z)))) := by
  have h : FloatOps.absf (F := Ideal) (φ := .f32) (-z) = FloatOps.absf (F := Ideal) (φ := .f32) z := by
    show max (-z) (- -z) = max z (-z)
    rw [neg_neg, max_comm]
  rw [if_neg (by simp), h]
  simp only [zero_sub]

theorem point5 (c : Dev nD) (t : Fin cfg0.N) (y) : (outsAt0 m c t).1 y
    = val_main_v14 (F := Ideal) (m ((c : Thread nD τ).loc main_arg0)) (m ((c : Thread nD τ).loc main_arg1))
      (m ((c : Thread nD τ).loc main_arg2)) (((cfg0.win 5).blk t).view.emb y) := by
  unfold Gen.outsAt0
  frame_out
  idx_vars y
  pointwise [k0_pay3, row m c t, val_main_v13, val_main_v14]
  blk_point [iblk, V, idx t]

theorem point8 (c : Dev nD) (t : Fin cfg0.N) (y) : (outsAt0 m c t).2.2.2.1 y
    = val_main_v17 (F := Ideal) (m ((c : Thread nD τ).loc main_arg0)) (m ((c : Thread nD τ).loc main_arg1))
      (m ((c : Thread nD τ).loc main_arg2)) (((cfg0.win 8).blk t).view.emb y) := by
  unfold Gen.outsAt0
  frame_out
  idx_vars y
  pointwise [k0_pay6, row m c t, val_main_v13, val_main_v17]
  blk_point [iblk, V, idx t]

theorem point9 (c : Dev nD) (t : Fin cfg0.N) (y) : (outsAt0 m c t).2.2.2.2.1 y
    = val_main_v18 (F := Ideal) (m ((c : Thread nD τ).loc main_arg0)) (m ((c : Thread nD τ).loc main_arg1))
      (m ((c : Thread nD τ).loc main_arg2)) (((cfg0.win 9).blk t).view.emb y) := by
  unfold Gen.outsAt0
  frame_out
  idx_vars y
  pointwise [k0_pay7, row m c t, val_main_v13, val_main_v18]
  blk_point [iblk, V, idx t]

theorem point6 (c : Dev nD) (t : Fin cfg0.N) (y) : (outsAt0 m c t).2.1 y
    = val_main_v29 (F := Ideal) (m ((c : Thread nD τ).loc main_arg0)) (m ((c : Thread nD τ).loc main_arg1))
      (m ((c : Thread nD τ).loc main_arg2)) (m ((c : Thread nD τ).loc main_arg4))
      (((cfg0.win 6).blk t).view.emb y) := by
  unfold Gen.outsAt0
  frame_out
  idx_vars y
  rw [show ((cfg0.win 6).blk t).view.emb (ix3 y0 y1 y2) = ix3 (3 : Fin 4) (rowAt t y1) y2 by blk_ext [idx t]]
  pointwise [k0_pay4, row m c t, val_main_v13, val_main_v15, val_main_v27, val_main_v28, val_main_v29]
  blk_point [iblk, V, idx t]

theorem point7 (c : Dev nD) (t : Fin cfg0.N) (y) : (outsAt0 m c t).2.2.1 y
    = val_main_v32 (F := Ideal) (m ((c : Thread nD τ).loc main_arg0)) (m ((c : Thread nD τ).loc main_arg1))
      (m ((c : Thread nD τ).loc main_arg2)) (m ((c : Thread nD τ).loc main_arg5))
      (((cfg0.win 7).blk t).view.emb y) := by
  unfold Gen.outsAt0
  frame_out
  idx_vars y
  rw [show ((cfg0.win 7).blk t).view.emb (ix3 y0 y1 y2) = ix3 (3 : Fin 4) (rowAt t y1) y2 by blk_ext [idx t]]
  pointwise [k0_pay5, row m c t, val_main_v13, val_main_v16, val_main_v30, val_main_v31, val_main_v32]
  blk_point [iblk, V, idx t]

theorem point10 (c : Dev nD) (t : Fin cfg0.N) (y) : (outsAt0 m c t).2.2.2.2.2.1 y
    = val_main_v35 (F := Ideal) (m ((c : Thread nD τ).loc main_arg0)) (m ((c : Thread nD τ).loc main_arg1))
      (m ((c : Thread nD τ).loc main_arg2)) (m ((c : Thread nD τ).loc main_arg6))
      (((cfg0.win 10).blk t).view.emb y) := by
  unfold Gen.outsAt0
  frame_out
  idx_vars y
  rw [show ((cfg0.win 10).blk t).view.emb (ix3 y0 y1 y2) = ix3 (3 : Fin 4) (rowAt t y1) y2 by blk_ext [idx t]]
  pointwise [k0_pay8, row m c t, val_main_v13, val_main_v19, val_main_v33, val_main_v34, val_main_v35]
  blk_point [iblk, V, idx t]

theorem point11 (c : Dev nD) (t : Fin cfg0.N) (y) : (outsAt0 m c t).2.2.2.2.2.2.1 y
    = val_main_v38 (F := Ideal) (m ((c : Thread nD τ).loc main_arg0)) (m ((c : Thread nD τ).loc main_arg1))
      (m ((c : Thread nD τ).loc main_arg2)) (m ((c : Thread nD τ).loc main_arg7))
      (((cfg0.win 11).blk t).view.emb y) := by
  unfold Gen.outsAt0
  frame_out
  idx_vars y
  rw [show ((cfg0.win 11).blk t).view.emb (ix3 y0 y1 y2) = ix3 (3 : Fin 4) (rowAt t y1) y2 by blk_ext [idx t]]
  pointwise [k0_pay9, row m c t, val_main_v13, val_main_v20, val_main_v36, val_main_v37, val_main_v38]
  blk_point [iblk, V, idx t]

theorem point12 (c : Dev nD) (t : Fin cfg0.N) (y) : (outsAt0 m c t).2.2.2.2.2.2.2 y
    = val_main_v41 (F := Ideal) (m ((c : Thread nD τ).loc main_arg0)) (m ((c : Thread nD τ).loc main_arg1))
      (m ((c : Thread nD τ).loc main_arg2)) (m ((c : Thread nD τ).loc main_arg3)) (m ((c : Thread nD τ).loc main_arg8))
      (((cfg0.win 12).blk t).view.emb y) := by
  unfold Gen.outsAt0
  frame_out
  idx_vars y
  rw [show ((cfg0.win 12).blk t).view.emb (ix3 y0 y1 y2) = ix3 (3 : Fin 4) (rowAt t y1) y2 by blk_ext [idx t]]
  pointwise [k0_pay1, k0_pay10, k0_pay11, row m c t, val_main_v13, val_main_v21, val_main_v23, val_main_v24, val_main_v25,
    val_main_call0_v0, val_main_call0_call0_cst, val_main_call0_call0_v0, val_main_call0_call0_v1, val_main_call0_call0_v2,
    val_main_call0_call0_v3, val_main_call0_call0_v4, val_main_call0_call0_v5, val_main_call0_call0_v6, val_main_call0_call0_v7,
    val_main_call0_call0_v8, val_main_call0_call0_v9, val_main_call0_call0_v10, val_main_call0_call0_v11, val_main_call0_v1,
    val_main_v26, val_main_v39, val_main_v40, val_main_v41]
  refine (log_sigmoid_eq _).trans ?_
  blk_point [iblk, V, idx t]

theorem final5 (c : Dev nD) : (dats m 0 c).arrAt 5 (cfgs 0).N
    = val_main_v14 (F := Ideal) (m ((c : Thread nD τ).loc main_arg0)) (m ((c : Thread nD τ).loc main_arg1))
      (m ((c : Thread nD τ).loc main_arg2)) := by
  refine (dats m 0 c).arrAt_eq_of_covers 5 _ (by decide +kernel) fun t _ y => ?_
  blk_simp
  rw [after0_5]
  exact point5 m c t y

theorem final8 (c : Dev nD) : (dats m 0 c).arrAt 8 (cfgs 0).N
    = val_main_v17 (F := Ideal) (m ((c : Thread nD τ).loc main_arg0)) (m ((c : Thread nD τ).loc main_arg1))
      (m ((c : Thread nD τ).loc main_arg2)) := by
  refine (dats m 0 c).arrAt_eq_of_covers 8 _ (by decide +kernel) fun t _ y => ?_
  blk_simp
  rw [after0_8]
  exact point8 m c t y

theorem final9 (c : Dev nD) : (dats m 0 c).arrAt 9 (cfgs 0).N
    = val_main_v18 (F := Ideal) (m ((c : Thread nD τ).loc main_arg0)) (m ((c : Thread nD τ).loc main_arg1))
      (m ((c : Thread nD τ).loc main_arg2)) := by
  refine (dats m 0 c).arrAt_eq_of_covers 9 _ (by decide +kernel) fun t _ y => ?_
  blk_simp
  rw [after0_9]
  exact point9 m c t y

theorem final6 (c : Dev nD) : (dats m 0 c).arrAt 6 (cfgs 0).N
    = val_main_v29 (F := Ideal) (m ((c : Thread nD τ).loc main_arg0)) (m ((c : Thread nD τ).loc main_arg1))
      (m ((c : Thread nD τ).loc main_arg2)) (m ((c : Thread nD τ).loc main_arg4)) := by
  refine (dats m 0 c).arrAt_eq_of_coversWhere_of_agree 6 _ (fun β => 3 ≤ β 0) (by decide +kernel) (fun t _ y => ?_) fun j hj => ?_
  · blk_simp
    rw [after0_6]
    exact point6 m c t y
  · blk_simp [Pipeline.Window.cell_apply] at hj
    idx_vars j
    show V m c main_v6_1 (ix3 j0 j1 j2) = val_main_v29 (F := Ideal) _ _ _ _ (ix3 j0 j1 j2)
    entry_read
    pointwise [val_main_v29, val_main_v27]
    rw [dif_pos (show j0.val < 3 by omega)]

theorem final7 (c : Dev nD) : (dats m 0 c).arrAt 7 (cfgs 0).N
    = val_main_v32 (F := Ideal) (m ((c : Thread nD τ).loc main_arg0)) (m ((c : Thread nD τ).loc main_arg1))
      (m ((c : Thread nD τ).loc main_arg2)) (m ((c : Thread nD τ).loc main_arg5)) := by
  refine (dats m 0 c).arrAt_eq_of_coversWhere_of_agree 7 _ (fun β => 3 ≤ β 0) (by decide +kernel) (fun t _ y => ?_) fun j hj => ?_
  · blk_simp
    rw [after0_7]
    exact point7 m c t y
  · blk_simp [Pipeline.Window.cell_apply] at hj
    idx_vars j
    show V m c main_v6_2 (ix3 j0 j1 j2) = val_main_v32 (F := Ideal) _ _ _ _ (ix3 j0 j1 j2)
    entry_read
    pointwise [val_main_v32, val_main_v30]
    rw [dif_pos (show j0.val < 3 by omega)]

theorem final10 (c : Dev nD) : (dats m 0 c).arrAt 10 (cfgs 0).N
    = val_main_v35 (F := Ideal) (m ((c : Thread nD τ).loc main_arg0)) (m ((c : Thread nD τ).loc main_arg1))
      (m ((c : Thread nD τ).loc main_arg2)) (m ((c : Thread nD τ).loc main_arg6)) := by
  refine (dats m 0 c).arrAt_eq_of_coversWhere_of_agree 10 _ (fun β => 3 ≤ β 0) (by decide +kernel) (fun t _ y => ?_) fun j hj => ?_
  · blk_simp
    rw [after0_10]
    exact point10 m c t y
  · blk_simp [Pipeline.Window.cell_apply] at hj
    idx_vars j
    show V m c main_v6_5 (ix3 j0 j1 j2) = val_main_v35 (F := Ideal) _ _ _ _ (ix3 j0 j1 j2)
    entry_read
    pointwise [val_main_v35, val_main_v33]
    rw [dif_pos (show j0.val < 3 by omega)]

theorem final11 (c : Dev nD) : (dats m 0 c).arrAt 11 (cfgs 0).N
    = val_main_v38 (F := Ideal) (m ((c : Thread nD τ).loc main_arg0)) (m ((c : Thread nD τ).loc main_arg1))
      (m ((c : Thread nD τ).loc main_arg2)) (m ((c : Thread nD τ).loc main_arg7)) := by
  refine (dats m 0 c).arrAt_eq_of_coversWhere_of_agree 11 _ (fun β => 3 ≤ β 0) (by decide +kernel) (fun t _ y => ?_) fun j hj => ?_
  · blk_simp
    rw [after0_11]
    exact point11 m c t y
  · blk_simp [Pipeline.Window.cell_apply] at hj
    idx_vars j
    show V m c main_v6_6 (ix3 j0 j1 j2) = val_main_v38 (F := Ideal) _ _ _ _ (ix3 j0 j1 j2)
    entry_read
    pointwise [val_main_v38, val_main_v36]
    rw [dif_pos (show j0.val < 3 by omega)]

theorem final12 (c : Dev nD) : (dats m 0 c).arrAt 12 (cfgs 0).N
    = val_main_v41 (F := Ideal) (m ((c : Thread nD τ).loc main_arg0)) (m ((c : Thread nD τ).loc main_arg1))
      (m ((c : Thread nD τ).loc main_arg2)) (m ((c : Thread nD τ).loc main_arg3)) (m ((c : Thread nD τ).loc main_arg8)) := by
  refine (dats m 0 c).arrAt_eq_of_coversWhere_of_agree 12 _ (fun β => 3 ≤ β 0) (by decide +kernel) (fun t _ y => ?_) fun j hj => ?_
  · blk_simp
    rw [after0_12]
    exact point12 m c t y
  · blk_simp [Pipeline.Window.cell_apply] at hj
    idx_vars j
    show V m c main_v6_7 (ix3 j0 j1 j2) = val_main_v41 (F := Ideal) _ _ _ _ _ (ix3 j0 j1 j2)
    entry_read
    pointwise [val_main_v41, val_main_v39]
    rw [dif_pos (show j0.val < 3 by omega)]

set_option maxHeartbeats 3200000 in
/-- The claim's two runs end with the same results. -/
theorem algebraic : Cert.algebraic_ProjIdeal_ProjRefIdeal := by
  pair_intro
  · run_from Cert.ProjIdeal.Gen.run_main m g
  · run_from Cert.ProjRefIdeal.Value.run m' g'
    · exact (final5 m c).symm
    · exact (final8 m c).symm
    · exact (final9 m c).symm
    · rw [(hagree c).2.2.2.2.1]
      exact (final6 m c).symm
    · rw [(hagree c).2.2.2.2.2.1]
      exact (final7 m c).symm
    · rw [(hagree c).2.2.2.2.2.2.1]
      exact (final10 m c).symm
    · rw [(hagree c).2.2.2.2.2.2.2.1]
      exact (final11 m c).symm
    · rw [Cert.ProjRefIdeal.Read.val_main_v41_eq]
      simp only [hagree c]
      exact (final12 m c).symm

end Cert.ProjIdeal.Result

end
-- ==== Proof.SampleFfnValue.lean ====
/- The value of the feed-forward call of the sample group: one block holds all 256 rows. The kernel walks the hidden
   columns in eleven chunks as it does for the prompt group, whose sum over the chunks (`sum_chunks`) is used again. -/
module

public import proofs.«01_k».proof.Proof.Gen.SampleFfnIdeal.Value
public import proofs.«01_k».proof.Proof.Gen.SampleFfnRefIdeal.Read
public import proofs.«01_k».proof.Defs
public import proofs.«01_k».proof.Proof.FfnValue
public import Idealize.ShloMosaic.Lib.Pipeline.ValueKit
public import Idealize.ShloMosaic.Lib.Pointwise
public import Idealize.ShloMosaic.Lib.Claim

@[expose] public section

set_option maxRecDepth 16384

noncomputable section

namespace Cert.SampleFfnIdeal.Result

open Cert.SampleFfnIdeal Cert.SampleFfnIdeal.Gen Idealize.ShloMosaic Idealize.ShloMosaic.TcCoe Idealize.SL.Sem
open Idealize.ShloMosaic.Pipeline (Dat)
open Cert.SampleFfnRefIdeal.Read
open Cert.FfnIdeal.Result (unit sum_chunks)

/-! ## The two halves of the body: the residual plus the chunked product, and the final row scaling -/

section
variable {F : FTy → Type} [FloatOps F]

/-- The residual with all chunks added, from what the last printed part binds. -/
def accPay (v15 : FVec F S256x1024 .bf16) (v141 : FVec F S256x1024 .f32) (v144 : FVec F S256x256 .f32) (v145 : Vec F S1024x256 .bf16) (v152 : Vec F S256x1024 .bf16) (v156 : Vec F S1024x256 .bf16) (v159 : Vec F S1024x256 .bf16) (v166 : Vec F S256x1024 .bf16) : FVec F S256x1024 .f32 :=
  let v146 : FVec F S1024x256 .bf16 := shapeCast S1024x256 v145 shapeCasts_S1024x256_S1024x256
  let cst_72 : FVec F S256x256 .f32 := constant S256x256 .f32 0x00000000#32
  let v147 : FVec F S256x256 .f32 := matmul dot_S256x1024_S1024x256_S256x256_1_0_0_1_n_n none v15 v146 cst_72
  let v148 : FVec F S256x256 .f32 := logistic v144
  let v149 : FVec F S256x256 .f32 := mulf v144 v148
  let v150 : FVec F S256x256 .f32 := mulf v149 v147
  let v151 : FVec F S256x256 .bf16 := truncf .bf16 v150 bitsLt_bf16_f32
  let v153 : FVec F S256x1024 .bf16 := shapeCast S256x1024 v152 shapeCasts_S256x1024_S256x1024
  let cst_75 : FVec F S256x1024 .f32 := constant S256x1024 .f32 0x00000000#32
  let v154 : FVec F S256x1024 .f32 := matmul dot_S256x256_S256x1024_S256x1024_1_0_0_1_n_n none v151 v153 cst_75
  let v155 : FVec F S256x1024 .f32 := addf v141 v154
  let v157 : FVec F S1024x256 .bf16 := shapeCast S1024x256 v156 shapeCasts_S1024x256_S1024x256
  let cst_77 : FVec F S256x256 .f32 := constant S256x256 .f32 0x00000000#32
  let v158 : FVec F S256x256 .f32 := matmul dot_S256x1024_S1024x256_S256x256_1_0_0_1_n_n none v15 v157 cst_77
  let v160 : FVec F S1024x256 .bf16 := shapeCast S1024x256 v159 shapeCasts_S1024x256_S1024x256
  let cst_79 : FVec F S256x256 .f32 := constant S256x256 .f32 0x00000000#32
  let v161 : FVec F S256x256 .f32 := matmul dot_S256x1024_S1024x256_S256x256_1_0_0_1_n_n none v15 v160 cst_79
  let v162 : FVec F S256x256 .f32 := logistic v158
  let v163 : FVec F S256x256 .f32 := mulf v158 v162
  let v164 : FVec F S256x256 .f32 := mulf v163 v161
  let v165 : FVec F S256x256 .bf16 := truncf .bf16 v164 bitsLt_bf16_f32
  let v167 : FVec F S256x1024 .bf16 := shapeCast S256x1024 v166 shapeCasts_S256x1024_S256x1024
  let cst_82 : FVec F S256x1024 .f32 := constant S256x1024 .f32 0x00000000#32
  let v168 : FVec F S256x1024 .f32 := matmul dot_S256x256_S256x1024_S256x1024_1_0_0_1_n_n none v165 v167 cst_82
  let v169 : FVec F S256x1024 .f32 := addf v155 v168
  v169

/-- The final row scaling of the sum `v169` by the gains `v170`. -/
def scalePay (v169 : FVec F S256x1024 .f32) (v170 : Vec F S1x1024 .f32) : FVec F S256x1024 .f32 :=
  let v171 : FVec F S1x1024 .f32 := shapeCast S1x1024 v170 shapeCasts_S1x1024_S1x1024
  let v172 : FVec F S256x1024 .f32 := mulf v169 v169
  let v173 : FVec F S256 .f32 := multiReduction .add [1] S256 v172 0x00000000#32 reduces_S256x1024_S256 (.inl rfl) rfl
  let v174 : FVec F S256x1 .f32 := shapeCast S256x1 v173 shapeCasts_S256_S256x1
  let cst_86 : F .f32 := Scalar.ofBits .f32 0x44800000#32
  let v175 : FVec F S256x1 .f32 := broadcast S256x1 cst_86
  let v176 : FVec F S256x1 .f32 := divf v174 v175
  let cst_87 : F .f32 := Scalar.ofBits .f32 0x358637BD#32
  let v177 : FVec F S256x1 .f32 := broadcast S256x1 cst_87
  let v178 : FVec F S256x1 .f32 := addf v176 v177
  let v179 : FVec F S256x1 .f32 := rsqrt v178
  let v180 : FVec F S256x1024 .f32 := broadcastTo S256x1024 v179 broadcasts_S256x1_S256x1024
  let v181 : FVec F S256x1024 .f32 := mulf v169 v180
  let v182 : FVec F S256x1024 .f32 := broadcastTo S256x1024 v171 broadcasts_S1x1024_S256x1024
  let v183 : FVec F S256x1024 .f32 := mulf v181 v182
  v183

/-- The residual with all chunks added, over the input blocks. -/
def acc (x0 : Vec F S256x1024 .f32) (x1 : Vec F S1x1024 .f32) (x2 : Vec F S1024x5632 .bf16) (x3 : Vec F S2816x1024 .bf16)
    (x4 : Vec F S1x1024 .f32) : FVec F S256x1024 .f32 :=
  accPay (k0_pay13 x0 x1 x2 x3 x4) (k0_pay10 (k0_pay13 x0 x1 x2 x3 x4) (k0_pay8 (k0_pay13 x0 x1 x2 x3 x4) (k0_pay6 (k0_pay13 x0 x1 x2 x3 x4) (k0_pay2 (View.ld x0 r0_0) (View.ld x1 r0_1) (View.ld x2 r0_2) (View.ld x2 r0_3) (View.ld x3 r0_4)) (k0_pay3 (View.ld x0 r0_0) (View.ld x1 r0_1) (View.ld x2 r0_5)) (k0_pay4 (View.ld x0 r0_0) (View.ld x1 r0_1) (View.ld x2 r0_6)) (k0_pay5 (View.ld x0 r0_0) (View.ld x1 r0_1) (View.ld x2 r0_5)) (View.ld x3 r0_7) (View.ld x2 r0_8) (View.ld x2 r0_9) (View.ld x3 r0_10) (View.ld x2 r0_11) (View.ld x2 r0_12) (View.ld x3 r0_13)) (k0_pay7 (View.ld x2 r0_14)) (View.ld x2 r0_15) (View.ld x3 r0_16) (View.ld x2 r0_17) (View.ld x2 r0_18) (View.ld x3 r0_19)) (k0_pay9 (k0_pay13 x0 x1 x2 x3 x4) (View.ld x2 r0_20) (View.ld x2 r0_21)) (View.ld x3 r0_22) (View.ld x2 r0_23) (View.ld x2 r0_24) (View.ld x3 r0_25) (View.ld x2 r0_26) (View.ld x2 r0_27) (View.ld x3 r0_28)) (k0_pay11 (k0_pay13 x0 x1 x2 x3 x4) (View.ld x2 r0_29)) (View.ld x2 r0_30) (View.ld x3 r0_31) (View.ld x2 r0_32) (View.ld x2 r0_33) (View.ld x3 r0_34)

/-- One chunk: gate and upper projections of the scaled rows `h`, the gated product, and its output product. -/
def chunk (h : FVec F S256x1024 .bf16) (wg wu : Vec F S1024x256 .bf16) (wo : Vec F S256x1024 .bf16) : FVec F S256x1024 .f32 :=
  let g : FVec F S256x256 .f32 := matmul dot_S256x1024_S1024x256_S256x256_1_0_0_1_n_n none h
    (shapeCast S1024x256 wg shapeCasts_S1024x256_S1024x256) (constant S256x256 .f32 0x00000000#32)
  let u : FVec F S256x256 .f32 := matmul dot_S256x1024_S1024x256_S256x256_1_0_0_1_n_n none h
    (shapeCast S1024x256 wu shapeCasts_S1024x256_S1024x256) (constant S256x256 .f32 0x00000000#32)
  matmul dot_S256x256_S256x1024_S256x1024_1_0_0_1_n_n none (truncf .bf16 (mulf (mulf g (logistic g)) u) bitsLt_bf16_f32)
    (shapeCast S256x1024 wo shapeCasts_S256x1024_S256x1024) (constant S256x1024 .f32 0x00000000#32)

theorem acc_eq (x0 : Vec F S256x1024 .f32) (x1 : Vec F S1x1024 .f32) (x2 : Vec F S1024x5632 .bf16) (x3 : Vec F S2816x1024 .bf16)
    (x4 : Vec F S1x1024 .f32) : acc x0 x1 x2 x3 x4 =
    addf (addf (addf (addf (addf (addf (addf (addf (addf (addf (addf (View.ld x0 r0_0)
    (chunk (k0_pay13 x0 x1 x2 x3 x4) (View.ld x2 r0_2) (View.ld x2 r0_3) (View.ld x3 r0_4)))
    (chunk (k0_pay13 x0 x1 x2 x3 x4) (View.ld x2 r0_5) (View.ld x2 r0_6) (View.ld x3 r0_7)))
    (chunk (k0_pay13 x0 x1 x2 x3 x4) (View.ld x2 r0_8) (View.ld x2 r0_9) (View.ld x3 r0_10)))
    (chunk (k0_pay13 x0 x1 x2 x3 x4) (View.ld x2 r0_11) (View.ld x2 r0_12) (View.ld x3 r0_13)))
    (chunk (k0_pay13 x0 x1 x2 x3 x4) (View.ld x2 r0_14) (View.ld x2 r0_15) (View.ld x3 r0_16)))
    (chunk (k0_pay13 x0 x1 x2 x3 x4) (View.ld x2 r0_17) (View.ld x2 r0_18) (View.ld x3 r0_19)))
    (chunk (k0_pay13 x0 x1 x2 x3 x4) (View.ld x2 r0_20) (View.ld x2 r0_21) (View.ld x3 r0_22)))
    (chunk (k0_pay13 x0 x1 x2 x3 x4) (View.ld x2 r0_23) (View.ld x2 r0_24) (View.ld x3 r0_25)))
    (chunk (k0_pay13 x0 x1 x2 x3 x4) (View.ld x2 r0_26) (View.ld x2 r0_27) (View.ld x3 r0_28)))
    (chunk (k0_pay13 x0 x1 x2 x3 x4) (View.ld x2 r0_29) (View.ld x2 r0_30) (View.ld x3 r0_31)))
    (chunk (k0_pay13 x0 x1 x2 x3 x4) (View.ld x2 r0_32) (View.ld x2 r0_33) (View.ld x3 r0_34)) := rfl

theorem out_eq (x0 : Vec F S256x1024 .f32) (x1 : Vec F S1x1024 .f32) (x2 : Vec F S1024x5632 .bf16) (x3 : Vec F S2816x1024 .bf16)
    (x4 : Vec F S1x1024 .f32) : out0_5 x0 x1 x2 x3 x4 = View.canon [⟨r0_0, scalePay (acc x0 x1 x2 x3 x4) (View.ld x4 r0_1)⟩] := rfl

end

variable (m : (ℓ : Loc nD τ sig) → Buf (Elt Ideal) ℓ)

theorem chunk_at (h : FVec Ideal S256x1024 .bf16) (wg wu : FVec Ideal S1024x256 .bf16) (wo : FVec Ideal S256x1024 .bf16)
    (r : Fin 256) (l : Fin 1024) : chunk (F := Ideal) h wg wu wo (ix2 r l) = ∑ k : Fin 256,
      (∑ j : Fin 1024, h (ix2 r j) * wg (ix2 j k)) * Ideal.logistic (∑ j : Fin 1024, h (ix2 r j) * wg (ix2 j k))
        * (∑ j : Fin 1024, h (ix2 r j) * wu (ix2 j k)) * wo (ix2 k l) := by
  pointwise [chunk]

/-- A chunk whose loads start at hidden column `o` is the sum of the units from `o` on. -/
theorem chunk_unit (h : FVec Ideal S256x1024 .bf16) (x2 : FVec Ideal S1024x5632 .bf16) (x3 : FVec Ideal S2816x1024 .bf16)
    (wg wu : FVec Ideal S1024x256 .bf16) (wo : FVec Ideal S256x1024 .bf16) (r : Fin 256) (l : Fin 1024) (n : Fin 11)
    (hg : ∀ (j : Fin 1024) (k : Fin 256), wg (ix2 j k) = x2 (ix2 j ⟨n.val * 256 + k.val, by omega⟩))
    (hu : ∀ (j : Fin 1024) (k : Fin 256), wu (ix2 j k) = x2 (ix2 j ⟨2816 + (n.val * 256 + k.val), by omega⟩))
    (ho : ∀ k : Fin 256, wo (ix2 k l) = x3 (ix2 ⟨n.val * 256 + k.val, by omega⟩ l)) :
    chunk (F := Ideal) h wg wu wo (ix2 r l) = ∑ k : Fin 256, unit (fun j => h (ix2 r j)) x2 x3 l ⟨n.val * 256 + k.val, by omega⟩ := by
  rw [chunk_at]
  simp only [hg, hu, ho, unit]

/-- The eleven chunks are the one sum over the hidden columns. -/
theorem acc_at (x0 : FVec Ideal S256x1024 .f32) (x1 : FVec Ideal S1x1024 .f32) (x2 : FVec Ideal S1024x5632 .bf16)
    (x3 : FVec Ideal S2816x1024 .bf16) (x4 : FVec Ideal S1x1024 .f32) (r : Fin 256) (l : Fin 1024) :
    acc (F := Ideal) x0 x1 x2 x3 x4 (ix2 r l)
      = x0 (ix2 r l) + ∑ k : Fin 2816, unit (fun j => k0_pay13 (F := Ideal) x0 x1 x2 x3 x4 (ix2 r j)) x2 x3 l k := by
  rw [acc_eq, sum_chunks]
  generalize k0_pay13 (F := Ideal) x0 x1 x2 x3 x4 = h
  have e : ∀ (z w : FVec Ideal S256x1024 .f32), addf z w (ix2 r l) = z (ix2 r l) + w (ix2 r l) := fun _ _ => rfl
  simp only [e]
  refine Ideal.add_congr (Ideal.add_congr (Ideal.add_congr (Ideal.add_congr (Ideal.add_congr (Ideal.add_congr (Ideal.add_congr
    (Ideal.add_congr (Ideal.add_congr (Ideal.add_congr (Ideal.add_congr ?_
    (chunk_unit h x2 x3 _ _ _ r l 0 ?_ ?_ ?_)) (chunk_unit h x2 x3 _ _ _ r l 1 ?_ ?_ ?_)) (chunk_unit h x2 x3 _ _ _ r l 2 ?_ ?_ ?_))
    (chunk_unit h x2 x3 _ _ _ r l 3 ?_ ?_ ?_)) (chunk_unit h x2 x3 _ _ _ r l 4 ?_ ?_ ?_)) (chunk_unit h x2 x3 _ _ _ r l 5 ?_ ?_ ?_))
    (chunk_unit h x2 x3 _ _ _ r l 6 ?_ ?_ ?_)) (chunk_unit h x2 x3 _ _ _ r l 7 ?_ ?_ ?_)) (chunk_unit h x2 x3 _ _ _ r l 8 ?_ ?_ ?_))
    (chunk_unit h x2 x3 _ _ _ r l 9 ?_ ?_ ?_)) (chunk_unit h x2 x3 _ _ _ r l 10 ?_ ?_ ?_)
  · pointwise [r0_0]
  all_goals first | (intro j k; pointwise; blk_ext; done) | (intro k; pointwise; blk_ext; done)

/-- The block each window stages at a grid point: the row blocks move with the point, the weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The reference's residual before the final row scaling, at an index. -/
theorem ref_acc (x0 : FVec Ideal S256x1024 .f32) (x1 : FVec Ideal S1024 .f32) (x2 : FVec Ideal S1024x5632 .f32)
    (x3 : FVec Ideal S2816x1024 .f32) (r : Fin 256) (l : Fin 1024) :
    val_main_v19 (F := Ideal) x0 x1 x2 x3 (ix2 r l) = x0 (ix2 r l) + ∑ k : Fin 2816,
      (∑ j : Fin 1024, val_main_v12 (F := Ideal) x0 x1 (ix2 r j) * x2 (ix2 j ⟨k.val, by omega⟩))
      * Ideal.logistic (∑ j : Fin 1024, val_main_v12 (F := Ideal) x0 x1 (ix2 r j) * x2 (ix2 j ⟨k.val, by omega⟩))
      * (∑ j : Fin 1024, val_main_v12 (F := Ideal) x0 x1 (ix2 r j) * x2 (ix2 j ⟨2816 + k.val, by omega⟩)) * x3 (ix2 k l) := by
  pointwise [val_main_v19, val_main_v18, val_main_v17, val_main_v16, val_main_v15, val_main_v14, val_main_v13, val_main_call0_v0,
    val_main_call0_v1, val_main_call0_cst, val_main_call0_v2, val_main_call0_v3, val_main_call0_cst_0, val_main_call0_v4,
    val_main_call0_v5, Ideal.logistic]

/-- The residual of a grid point's rows is the reference's residual at those rows. -/
theorem acc_ref (c : Dev nD) (t : Fin cfg0.N) (r : Fin 256) (l : Fin 1024) :
    acc (F := Ideal) (iblk m c 0 t) (iblk m c 1 t) (iblk m c 2 t) (iblk m c 3 t) (iblk m c 4 t) (ix2 r l)
      = val_main_v19 (F := Ideal) (m ((c : Thread nD τ).loc main_arg0)) (m ((c : Thread nD τ).loc main_arg1))
        (m ((c : Thread nD τ).loc main_arg2)) (m ((c : Thread nD τ).loc main_arg3))
        (ix2 ⟨t.val * 256 + r.val, by have h := t.isLt; have e : cfg0.N = 1 := rfl; omega⟩ l) := by
  rw [ref_acc, acc_at]
  pointwise [unit, k0_pay13, k0_pay1, r0_0, r0_1, val_main_v12, val_main_v11, val_main_v10, val_main_v9, val_main_v8, val_main_v7,
    val_main_v6, val_main_v5, val_main_v4, val_main_v3, val_main_v2, val_main_v1, val_main_v0, val_main_cst, val_main_cst_0,
    val_main_cst_1]
  blk_point [iblk, V, idx t]

/-- What the body leaves in the output block at a grid point is the reference's result at the block's rows. -/
theorem point (c : Dev nD) (t : Fin cfg0.N) (y) :
    out0_5 (iblk m c 0 t) (iblk m c 1 t) (iblk m c 2 t) (iblk m c 3 t) (iblk m c 4 t) y
    = val_main_v32 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) (((cfg0.win 5).blk t).view.emb y) := by
  rw [out_eq]
  frame_out
  idx_vars y
  pointwise [scalePay, acc_ref m c t, r0_1, val_main_v32, val_main_v31, val_main_v30, val_main_v29, val_main_v28,
    val_main_v27, val_main_v26, val_main_v25, val_main_v24, val_main_v23, val_main_v22, val_main_v21, val_main_v20,
    val_main_cst_2, val_main_cst_3, val_main_cst_4]
  blk_point [iblk, V, idx t]

/-- The result array after the run is the reference's result. -/
theorem final (c : Dev nD) : (dats m 0 c).arrAt 5 (cfgs 0).N = val_main_v32 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t _ y => ?_
  blk_simp
  rw [after0_5]
  exact point m c t y

/-- The claim's two runs end with the same result. -/
theorem algebraic : Cert.algebraic_SampleFfnIdeal_SampleFfnRefIdeal := by
  pair_intro
  · run_from Cert.SampleFfnIdeal.Gen.run_main m g
  · run_from Cert.SampleFfnRefIdeal.Value.run m' g'
    rw [Cert.SampleFfnRefIdeal.Read.val_main_v32_eq]
    simp only [hagree c]
    exact (final m c).symm

end Cert.SampleFfnIdeal.Result

end
-- ==== Proof.SampleProjValue.lean ====
/- The value of the projection call of the sample group: its one block of 256 rows of each of the eight results is the
   reference's result; the stacked results keep layers 0 to 2 of the arrays they update in place. -/
module

public import proofs.«01_k».proof.Proof.Gen.SampleProjIdeal.Value
public import proofs.«01_k».proof.Proof.Gen.SampleProjRefIdeal.Read
public import Idealize.ShloMosaic.Lib.Pipeline.ValueKit
public import Idealize.ShloMosaic.Lib.Pointwise
public import proofs.«01_k».proof.Defs
public import proofs.«01_k».proof.Proof.ProjValue
public import Idealize.ShloMosaic.Lib.Claim

@[expose] public section

set_option maxRecDepth 16384

noncomputable section

namespace Cert.SampleProjIdeal.Result

open Cert.SampleProjIdeal Cert.SampleProjIdeal.Gen Idealize.ShloMosaic Idealize.ShloMosaic.TcCoe Idealize.SL.Sem
open Idealize.ShloMosaic.Pipeline (Dat)
open Cert.SampleProjRefIdeal.Read

variable (m : (ℓ : Loc nD τ sig) → Buf (Elt Ideal) ℓ)

/-- The block each window stages at a grid point: the row blocks move with the point (on layer 3 of a stacked array), the
    weights stay. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![3, t.val, 0]
    ∧ win0_7.index t = ![3, t.val, 0] ∧ win0_8.index t = ![t.val, 0] ∧ win0_9.index t = ![t.val, 0]
    ∧ win0_10.index t = ![3, t.val, 0] ∧ win0_11.index t = ![3, t.val, 0] ∧ win0_12.index t = ![3, t.val, 0] :=
  (by decide +kernel : ∀ t : Fin grid0.N, _)

/-- An array row at a grid point's block. -/
abbrev rowAt (t : Fin cfg0.N) (r : Fin 256) : Fin 256 :=
  ⟨t.val * 256 + r.val, by have h := t.isLt; have e : cfg0.N = 1 := rfl; omega⟩

/-- The scaled rows a grid point multiplies are the reference's scaled rows. -/
theorem row (c : Dev nD) (t : Fin cfg0.N) (r : Fin 256) (j : Fin 1024) :
    k0_pay2 (F := Ideal) (iblk m c 0 t) (iblk m c 1 t) (ix2 r j)
      = val_main_v12 (F := Ideal) (m ((c : Thread nD τ).loc main_arg0)) (m ((c : Thread nD τ).loc main_arg1))
        (ix2 (rowAt t r) j) := by
  pointwise [k0_pay2, val_main_v12, val_main_v11, val_main_v10, val_main_v9, val_main_v8, val_main_v7,
    val_main_v6, val_main_v5, val_main_v4, val_main_v3, val_main_v2, val_main_v1, val_main_v0, val_main_cst, val_main_cst_0,
    val_main_cst_1]
  blk_point [iblk, V, idx t]

theorem point5 (c : Dev nD) (t : Fin cfg0.N) (y) : (outsAt0 m c t).1 y
    = val_main_v14 (F := Ideal) (m ((c : Thread nD τ).loc main_arg0)) (m ((c : Thread nD τ).loc main_arg1))
      (m ((c : Thread nD τ).loc main_arg2)) (((cfg0.win 5).blk t).view.emb y) := by
  unfold Gen.outsAt0
  frame_out
  idx_vars y
  pointwise [k0_pay3, row m c t, val_main_v13, val_main_v14]
  blk_point [iblk, V, idx t]

theorem point8 (c : Dev nD) (t : Fin cfg0.N) (y) : (outsAt0 m c t).2.2.2.1 y
    = val_main_v17 (F := Ideal) (m ((c : Thread nD τ).loc main_arg0)) (m ((c : Thread nD τ).loc main_arg1))
      (m ((c : Thread nD τ).loc main_arg2)) (((cfg0.win 8).blk t).view.emb y) := by
  unfold Gen.outsAt0
  frame_out
  idx_vars y
  pointwise [k0_pay6, row m c t, val_main_v13, val_main_v17]
  blk_point [iblk, V, idx t]

theorem point9 (c : Dev nD) (t : Fin cfg0.N) (y) : (outsAt0 m c t).2.2.2.2.1 y
    = val_main_v18 (F := Ideal) (m ((c : Thread nD τ).loc main_arg0)) (m ((c : Thread nD τ).loc main_arg1))
      (m ((c : Thread nD τ).loc main_arg2)) (((cfg0.win 9).blk t).view.emb y) := by
  unfold Gen.outsAt0
  frame_out
  idx_vars y
  pointwise [k0_pay7, row m c t, val_main_v13, val_main_v18]
  blk_point [iblk, V, idx t]

theorem point6 (c : Dev nD) (t : Fin cfg0.N) (y) : (outsAt0 m c t).2.1 y
    = val_main_v29 (F := Ideal) (m ((c : Thread nD τ).loc main_arg0)) (m ((c : Thread nD τ).loc main_arg1))
      (m ((c : Thread nD τ).loc main_arg2)) (m ((c : Thread nD τ).loc main_arg4))
      (((cfg0.win 6).blk t).view.emb y) := by
  unfold Gen.outsAt0
  frame_out
  idx_vars y
  rw [show ((cfg0.win 6).blk t).view.emb (ix3 y0 y1 y2) = ix3 (3 : Fin 4) (rowAt t y1) y2 by blk_ext [idx t]]
  pointwise [k0_pay4, row m c t, val_main_v13, val_main_v15, val_main_v27, val_main_v28, val_main_v29]
  blk_point [iblk, V, idx t]

theorem point7 (c : Dev nD) (t : Fin cfg0.N) (y) : (outsAt0 m c t).2.2.1 y
    = val_main_v32 (F := Ideal) (m ((c : Thread nD τ).loc main_arg0)) (m ((c : Thread nD τ).loc main_arg1))
      (m ((c : Thread nD τ).loc main_arg2)) (m ((c : Thread nD τ).loc main_arg5))
      (((cfg0.win 7).blk t).view.emb y) := by
  unfold Gen.outsAt0
  frame_out
  idx_vars y
  rw [show ((cfg0.win 7).blk t).view.emb (ix3 y0 y1 y2) = ix3 (3 : Fin 4) (rowAt t y1) y2 by blk_ext [idx t]]
  pointwise [k0_pay5, row m c t, val_main_v13, val_main_v16, val_main_v30, val_main_v31, val_main_v32]
  blk_point [iblk, V, idx t]

theorem point10 (c : Dev nD) (t : Fin cfg0.N) (y) : (outsAt0 m c t).2.2.2.2.2.1 y
    = val_main_v35 (F := Ideal) (m ((c : Thread nD τ).loc main_arg0)) (m ((c : Thread nD τ).loc main_arg1))
      (m ((c : Thread nD τ).loc main_arg2)) (m ((c : Thread nD τ).loc main_arg6))
      (((cfg0.win 10).blk t).view.emb y) := by
  unfold Gen.outsAt0
  frame_out
  idx_vars y
  rw [show ((cfg0.win 10).blk t).view.emb (ix3 y0 y1 y2) = ix3 (3 : Fin 4) (rowAt t y1) y2 by blk_ext [idx t]]
  pointwise [k0_pay8, row m c t, val_main_v13, val_main_v19, val_main_v33, val_main_v34, val_main_v35]
  blk_point [iblk, V, idx t]

theorem point11 (c : Dev nD) (t : Fin cfg0.N) (y) : (outsAt0 m c t).2.2.2.2.2.2.1 y
    = val_main_v38 (F := Ideal) (m ((c : Thread nD τ).loc main_arg0)) (m ((c : Thread nD τ).loc main_arg1))
      (m ((c : Thread nD τ).loc main_arg2)) (m ((c : Thread nD τ).loc main_arg7))
      (((cfg0.win 11).blk t).view.emb y) := by
  unfold Gen.outsAt0
  frame_out
  idx_vars y
  rw [show ((cfg0.win 11).blk t).view.emb (ix3 y0 y1 y2) = ix3 (3 : Fin 4) (rowAt t y1) y2 by blk_ext [idx t]]
  pointwise [k0_pay9, row m c t, val_main_v13, val_main_v20, val_main_v36, val_main_v37, val_main_v38]
  blk_point [iblk, V, idx t]

theorem point12 (c : Dev nD) (t : Fin cfg0.N) (y) : (outsAt0 m c t).2.2.2.2.2.2.2 y
    = val_main_v41 (F := Ideal) (m ((c : Thread nD τ).loc main_arg0)) (m ((c : Thread nD τ).loc main_arg1))
      (m ((c : Thread nD τ).loc main_arg2)) (m ((c : Thread nD τ).loc main_arg3)) (m ((c : Thread nD τ).loc main_arg8))
      (((cfg0.win 12).blk t).view.emb y) := by
  unfold Gen.outsAt0
  frame_out
  idx_vars y
  rw [show ((cfg0.win 12).blk t).view.emb (ix3 y0 y1 y2) = ix3 (3 : Fin 4) (rowAt t y1) y2 by blk_ext [idx t]]
  pointwise [k0_pay1, k0_pay10, k0_pay11, row m c t, val_main_v13, val_main_v21, val_main_v23, val_main_v24, val_main_v25,
    val_main_call0_v0, val_main_call0_call0_cst, val_main_call0_call0_v0, val_main_call0_call0_v1, val_main_call0_call0_v2,
    val_main_call0_call0_v3, val_main_call0_call0_v4, val_main_call0_call0_v5, val_main_call0_call0_v6, val_main_call0_call0_v7,
    val_main_call0_call0_v8, val_main_call0_call0_v9, val_main_call0_call0_v10, val_main_call0_call0_v11, val_main_call0_v1,
    val_main_v26, val_main_v39, val_main_v40, val_main_v41]
  refine (Cert.ProjIdeal.Result.log_sigmoid_eq _).trans ?_
  blk_point [iblk, V, idx t]

theorem final5 (c : Dev nD) : (dats m 0 c).arrAt 5 (cfgs 0).N
    = val_main_v14 (F := Ideal) (m ((c : Thread nD τ).loc main_arg0)) (m ((c : Thread nD τ).loc main_arg1))
      (m ((c : Thread nD τ).loc main_arg2)) := by
  refine (dats m 0 c).arrAt_eq_of_covers 5 _ (by decide +kernel) fun t _ y => ?_
  blk_simp
  rw [after0_5]
  exact point5 m c t y

theorem final8 (c : Dev nD) : (dats m 0 c).arrAt 8 (cfgs 0).N
    = val_main_v17 (F := Ideal) (m ((c : Thread nD τ).loc main_arg0)) (m ((c : Thread nD τ).loc main_arg1))
      (m ((c : Thread nD τ).loc main_arg2)) := by
  refine (dats m 0 c).arrAt_eq_of_covers 8 _ (by decide +kernel) fun t _ y => ?_
  blk_simp
  rw [after0_8]
  exact point8 m c t y

theorem final9 (c : Dev nD) : (dats m 0 c).arrAt 9 (cfgs 0).N
    = val_main_v18 (F := Ideal) (m ((c : Thread nD τ).loc main_arg0)) (m ((c : Thread nD τ).loc main_arg1))
      (m ((c : Thread nD τ).loc main_arg2)) := by
  refine (dats m 0 c).arrAt_eq_of_covers 9 _ (by decide +kernel) fun t _ y => ?_
  blk_simp
  rw [after0_9]
  exact point9 m c t y

theorem final6 (c : Dev nD) : (dats m 0 c).arrAt 6 (cfgs 0).N
    = val_main_v29 (F := Ideal) (m ((c : Thread nD τ).loc main_arg0)) (m ((c : Thread nD τ).loc main_arg1))
      (m ((c : Thread nD τ).loc main_arg2)) (m ((c : Thread nD τ).loc main_arg4)) := by
  refine (dats m 0 c).arrAt_eq_of_coversWhere_of_agree 6 _ (fun β => 3 ≤ β 0) (by decide +kernel) (fun t _ y => ?_) fun j hj => ?_
  · blk_simp
    rw [after0_6]
    exact point6 m c t y
  · blk_simp [Pipeline.Window.cell_apply] at hj
    idx_vars j
    show V m c main_v6_1 (ix3 j0 j1 j2) = val_main_v29 (F := Ideal) _ _ _ _ (ix3 j0 j1 j2)
    entry_read
    pointwise [val_main_v29, val_main_v27]
    rw [dif_pos (show j0.val < 3 by omega)]

theorem final7 (c : Dev nD) : (dats m 0 c).arrAt 7 (cfgs 0).N
    = val_main_v32 (F := Ideal) (m ((c : Thread nD τ).loc main_arg0)) (m ((c : Thread nD τ).loc main_arg1))
      (m ((c : Thread nD τ).loc main_arg2)) (m ((c : Thread nD τ).loc main_arg5)) := by
  refine (dats m 0 c).arrAt_eq_of_coversWhere_of_agree 7 _ (fun β => 3 ≤ β 0) (by decide +kernel) (fun t _ y => ?_) fun j hj => ?_
  · blk_simp
    rw [after0_7]
    exact point7 m c t y
  · blk_simp [Pipeline.Window.cell_apply] at hj
    idx_vars j
    show V m c main_v6_2 (ix3 j0 j1 j2) = val_main_v32 (F := Ideal) _ _ _ _ (ix3 j0 j1 j2)
    entry_read
    pointwise [val_main_v32, val_main_v30]
    rw [dif_pos (show j0.val < 3 by omega)]

theorem final10 (c : Dev nD) : (dats m 0 c).arrAt 10 (cfgs 0).N
    = val_main_v35 (F := Ideal) (m ((c : Thread nD τ).loc main_arg0)) (m ((c : Thread nD τ).loc main_arg1))
      (m ((c : Thread nD τ).loc main_arg2)) (m ((c : Thread nD τ).loc main_arg6)) := by
  refine (dats m 0 c).arrAt_eq_of_coversWhere_of_agree 10 _ (fun β => 3 ≤ β 0) (by decide +kernel) (fun t _ y => ?_) fun j hj => ?_
  · blk_simp
    rw [after0_10]
    exact point10 m c t y
  · blk_simp [Pipeline.Window.cell_apply] at hj
    idx_vars j
    show V m c main_v6_5 (ix3 j0 j1 j2) = val_main_v35 (F := Ideal) _ _ _ _ (ix3 j0 j1 j2)
    entry_read
    pointwise [val_main_v35, val_main_v33]
    rw [dif_pos (show j0.val < 3 by omega)]

theorem final11 (c : Dev nD) : (dats m 0 c).arrAt 11 (cfgs 0).N
    = val_main_v38 (F := Ideal) (m ((c : Thread nD τ).loc main_arg0)) (m ((c : Thread nD τ).loc main_arg1))
      (m ((c : Thread nD τ).loc main_arg2)) (m ((c : Thread nD τ).loc main_arg7)) := by
  refine (dats m 0 c).arrAt_eq_of_coversWhere_of_agree 11 _ (fun β => 3 ≤ β 0) (by decide +kernel) (fun t _ y => ?_) fun j hj => ?_
  · blk_simp
    rw [after0_11]
    exact point11 m c t y
  · blk_simp [Pipeline.Window.cell_apply] at hj
    idx_vars j
    show V m c main_v6_6 (ix3 j0 j1 j2) = val_main_v38 (F := Ideal) _ _ _ _ (ix3 j0 j1 j2)
    entry_read
    pointwise [val_main_v38, val_main_v36]
    rw [dif_pos (show j0.val < 3 by omega)]

theorem final12 (c : Dev nD) : (dats m 0 c).arrAt 12 (cfgs 0).N
    = val_main_v41 (F := Ideal) (m ((c : Thread nD τ).loc main_arg0)) (m ((c : Thread nD τ).loc main_arg1))
      (m ((c : Thread nD τ).loc main_arg2)) (m ((c : Thread nD τ).loc main_arg3)) (m ((c : Thread nD τ).loc main_arg8)) := by
  refine (dats m 0 c).arrAt_eq_of_coversWhere_of_agree 12 _ (fun β => 3 ≤ β 0) (by decide +kernel) (fun t _ y => ?_) fun j hj => ?_
  · blk_simp
    rw [after0_12]
    exact point12 m c t y
  · blk_simp [Pipeline.Window.cell_apply] at hj
    idx_vars j
    show V m c main_v6_7 (ix3 j0 j1 j2) = val_main_v41 (F := Ideal) _ _ _ _ _ (ix3 j0 j1 j2)
    entry_read
    pointwise [val_main_v41, val_main_v39]
    rw [dif_pos (show j0.val < 3 by omega)]

set_option maxHeartbeats 3200000 in
/-- The claim's two runs end with the same results. -/
theorem algebraic : Cert.algebraic_SampleProjIdeal_SampleProjRefIdeal := by
  pair_intro
  · run_from Cert.SampleProjIdeal.Gen.run_main m g
  · run_from Cert.SampleProjRefIdeal.Value.run m' g'
    · exact (final5 m c).symm
    · exact (final8 m c).symm
    · exact (final9 m c).symm
    · rw [(hagree c).2.2.2.2.1]
      exact (final6 m c).symm
    · rw [(hagree c).2.2.2.2.2.1]
      exact (final7 m c).symm
    · rw [(hagree c).2.2.2.2.2.2.1]
      exact (final10 m c).symm
    · rw [(hagree c).2.2.2.2.2.2.2.1]
      exact (final11 m c).symm
    · rw [Cert.SampleProjRefIdeal.Read.val_main_v41_eq]
      simp only [hagree c]
      exact (final12 m c).symm

end Cert.SampleProjIdeal.Result

end
-- ==== Proof.lean ====
/- The claims, put together: the frames the generated modules prove, the mask constant's reading, and the value
   proofs of the Proof modules. -/
module

public import proofs.«01_k».proof.Defs
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.FfnIdeal.Value
public import proofs.«01_k».proof.Proof.Gen.MergeIdeal.Value
public import proofs.«01_k».proof.Proof.Gen.ProjIdeal.Value
public import proofs.«01_k».proof.Proof.Gen.FfnRefIdeal.Run
public import proofs.«01_k».proof.Proof.Gen.FfnRefIdeal.Read
public import proofs.«01_k».proof.Proof.Gen.MergeRefIdeal.Run
public import proofs.«01_k».proof.Proof.Gen.MergeRefIdeal.Read
public import proofs.«01_k».proof.Proof.Gen.ProjRefIdeal.Run
public import proofs.«01_k».proof.Proof.Gen.ProjRefIdeal.Read
public import proofs.«01_k».proof.Proof.Gen.FoxRefIdeal.Run
public import proofs.«01_k».proof.Proof.Gen.FoxRefIdeal.Read
public import proofs.«01_k».proof.Proof.Gen.SampleFfn
public import proofs.«01_k».proof.Proof.Gen.SampleFfn.Frame
public import proofs.«01_k».proof.Proof.Gen.SampleFfnIdeal
public import proofs.«01_k».proof.Proof.Gen.SampleFfnIdeal.Frame
public import proofs.«01_k».proof.Proof.Gen.SampleFfnRefIdeal
public import proofs.«01_k».proof.Proof.Gen.SampleFfnIdeal.Value
public import proofs.«01_k».proof.Proof.Gen.SampleFfnRefIdeal.Run
public import proofs.«01_k».proof.Proof.Gen.SampleFfnRefIdeal.Read
public import proofs.«01_k».proof.Proof.Gen.SampleProj
public import proofs.«01_k».proof.Proof.Gen.SampleProj.Frame
public import proofs.«01_k».proof.Proof.Gen.SampleProjIdeal
public import proofs.«01_k».proof.Proof.Gen.SampleProjIdeal.Frame
public import proofs.«01_k».proof.Proof.Gen.SampleProjRefIdeal
public import proofs.«01_k».proof.Proof.Gen.SampleProjIdeal.Value
public import proofs.«01_k».proof.Proof.Gen.SampleProjRefIdeal.Run
public import proofs.«01_k».proof.Proof.Gen.SampleProjRefIdeal.Read
public import proofs.«01_k».proof.Proof.Gen.Moba
public import proofs.«01_k».proof.Proof.Gen.Moba.Frame
public import proofs.«01_k».proof.Proof.Gen.MobaIdeal
public import proofs.«01_k».proof.Proof.Gen.MobaIdeal.Frame
public import proofs.«01_k».proof.Proof.Gen.MobaRefIdeal
public import proofs.«01_k».proof.Proof.Gen.MobaRefIdeal.Run
public import proofs.«01_k».proof.Proof.Gen.MobaRefIdeal.Read
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.FfnValue
public import proofs.«01_k».proof.Proof.FoxFinite
public import proofs.«01_k».proof.Proof.FoxValue
public import proofs.«01_k».proof.Proof.MergeValue
public import proofs.«01_k».proof.Proof.MobaFinite
public import proofs.«01_k».proof.Proof.MobaValue
public import proofs.«01_k».proof.Proof.PoolFinite
public import proofs.«01_k».proof.Proof.PoolValue
public import proofs.«01_k».proof.Proof.ProjValue
public import proofs.«01_k».proof.Proof.SampleFfnValue
public import proofs.«01_k».proof.Proof.SampleProjValue
public import Idealize.ShloMosaic.Adequacy
public import Idealize.ShloMosaic.Init

@[expose] public section

noncomputable section

namespace Cert.Proof

open Idealize.ShloMosaic Idealize.SL.Sem Cert.Fox

/-- The mask constant may be read as minus infinity. -/
theorem preserves_fox : Cert.preserves_Fox_FoxIdeal :=
  IdealRules.named_const.statement Cert.FoxIdeal.κ "mask" .f32 0xF149F2CA#32 ⊥ rfl

theorem preserves_moba : Cert.preserves_Moba_MobaIdeal :=
  IdealRules.named_const.statement Cert.MobaIdeal.κ "mask" .f32 0xF149F2CA#32 ⊥ rfl

/-- The reference's run leaves its arguments unchanged and no semaphore raised. -/
theorem frame_foxRef : Cert.quiescent_FoxRefIdeal :=
  fun m ρ _ => (θ_run Cert.FoxRefIdeal.defs _ _).mono (fun r h => ⟨fun c => (h c).2,
    Idealize.ShloMosaic.sem_eq_zero_of_no_sems (by decide) r.2⟩) (Cert.FoxRefIdeal.Value.run m ρ)

theorem frame_mobaRef : Cert.quiescent_MobaRefIdeal :=
  fun m ρ _ => (θ_run Cert.MobaRefIdeal.defs _ _).mono (fun r h => ⟨fun c => (h c).2,
    Idealize.ShloMosaic.sem_eq_zero_of_no_sems (by decide) r.2⟩) (Cert.MobaRefIdeal.Value.run m ρ)

theorem frame_poolRef : Cert.quiescent_PoolRefIdeal :=
  fun m ρ _ => (θ_run Cert.PoolRefIdeal.defs _ _).mono (fun r h => ⟨fun c => (h c).2,
    Idealize.ShloMosaic.sem_eq_zero_of_no_sems (by decide) r.2⟩) (Cert.PoolRefIdeal.Value.run m ρ)

theorem claim : Cert.Claim := ⟨Cert.Fox.Gen.facts,
  Cert.FoxIdeal.Gen.facts,
  Cert.FoxRefIdeal.Gen.facts,
  Cert.Ffn.Gen.facts,
  Cert.FfnIdeal.Gen.facts,
  Cert.FfnRefIdeal.Gen.facts,
  Cert.Merge.Gen.facts,
  Cert.MergeIdeal.Gen.facts,
  Cert.MergeRefIdeal.Gen.facts,
  Cert.Proj.Gen.facts,
  Cert.ProjIdeal.Gen.facts,
  Cert.ProjRefIdeal.Gen.facts,
  Cert.SampleFfn.Gen.facts,
  Cert.SampleFfnIdeal.Gen.facts,
  Cert.SampleFfnRefIdeal.Gen.facts,
  Cert.SampleProj.Gen.facts,
  Cert.SampleProjIdeal.Gen.facts,
  Cert.SampleProjRefIdeal.Gen.facts,
  Cert.Moba.Gen.facts,
  Cert.MobaIdeal.Gen.facts,
  Cert.MobaRefIdeal.Gen.facts,
  Cert.Pool.Gen.facts,
  Cert.PoolIdeal.Gen.facts,
  Cert.PoolRefIdeal.Gen.facts,
  Cert.Pre_finite.Decode.facts,
  Cert.Pre_finite_moba.Decode.facts,
  Cert.Pre_finite_pool.Decode.facts,
  fun m ρ _ => Cert.Fox.Gen.frame m ρ,
  fun m ρ _ => Cert.FoxIdeal.Gen.frame m ρ,
  fun m ρ _ => Cert.FoxIdeal.Gen.frame m ρ,
  frame_foxRef,
  fun m ρ _ => frame_foxRef m ρ trivial,
  fun m ρ _ => Cert.Ffn.Gen.frame m ρ,
  fun m ρ _ => Cert.FfnIdeal.Gen.frame m ρ,
  fun m ρ _ => (θ_run Cert.FfnRefIdeal.defs _ _).mono (fun r h => ⟨fun c => (h c).2,
    Idealize.ShloMosaic.sem_eq_zero_of_no_sems (by decide) r.2⟩) (Cert.FfnRefIdeal.Value.run m ρ),
  fun m ρ _ => Cert.Merge.Gen.frame m ρ,
  fun m ρ _ => Cert.MergeIdeal.Gen.frame m ρ,
  fun m ρ _ => (θ_run Cert.MergeRefIdeal.defs _ _).mono (fun r h => ⟨fun c => (h c).2,
    Idealize.ShloMosaic.sem_eq_zero_of_no_sems (by decide) r.2⟩) (Cert.MergeRefIdeal.Value.run m ρ),
  fun m ρ _ => Cert.Proj.Gen.frame m ρ,
  fun m ρ _ => Cert.ProjIdeal.Gen.frame m ρ,
  fun m ρ _ => (θ_run Cert.ProjRefIdeal.defs _ _).mono (fun r h => ⟨fun c => (h c).2.2.2.2.2.2.2.2,
    Idealize.ShloMosaic.sem_eq_zero_of_no_sems (by decide) r.2⟩) (Cert.ProjRefIdeal.Value.run m ρ),
  fun m ρ _ => Cert.SampleFfn.Gen.frame m ρ,
  fun m ρ _ => Cert.SampleFfnIdeal.Gen.frame m ρ,
  fun m ρ _ => (θ_run Cert.SampleFfnRefIdeal.defs _ _).mono (fun r h => ⟨fun c => (h c).2,
    Idealize.ShloMosaic.sem_eq_zero_of_no_sems (by decide) r.2⟩) (Cert.SampleFfnRefIdeal.Value.run m ρ),
  fun m ρ _ => Cert.SampleProj.Gen.frame m ρ,
  fun m ρ _ => Cert.SampleProjIdeal.Gen.frame m ρ,
  fun m ρ _ => (θ_run Cert.SampleProjRefIdeal.defs _ _).mono (fun r h => ⟨fun c => (h c).2.2.2.2.2.2.2.2,
    Idealize.ShloMosaic.sem_eq_zero_of_no_sems (by decide) r.2⟩) (Cert.SampleProjRefIdeal.Value.run m ρ),
  fun m ρ _ => Cert.Moba.Gen.frame m ρ,
  fun m ρ _ => Cert.MobaIdeal.Gen.frame m ρ,
  fun m ρ _ => Cert.MobaIdeal.Gen.frame m ρ,
  frame_mobaRef,
  fun m ρ _ => frame_mobaRef m ρ trivial,
  fun m ρ _ => Cert.Pool.Gen.frame m ρ,
  fun m ρ _ => Cert.PoolIdeal.Gen.frame m ρ,
  fun m ρ _ => Cert.PoolIdeal.Gen.frame m ρ,
  frame_poolRef,
  fun m ρ _ => frame_poolRef m ρ trivial,
  preserves_fox,
  Cert.FoxIdeal.Result.algebraic,
  trivial,
  Cert.FfnIdeal.Result.algebraic,
  trivial,
  Cert.MergeIdeal.Result.algebraic,
  trivial,
  Cert.ProjIdeal.Result.algebraic,
  trivial,
  Cert.SampleFfnIdeal.Result.algebraic,
  trivial,
  Cert.SampleProjIdeal.Result.algebraic,
  preserves_moba,
  Cert.MobaIdeal.Result.algebraic,
  trivial,
  Cert.PoolIdeal.Result.algebraic⟩

end Cert.Proof

end
